-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_used_rows [hKernel2Ideal : Cert.Kernel2Ideal.Facts] [hReference2Ideal : Cert.Reference2Ideal.Facts] [hPre_experts_in_range : Cert.Pre_experts_in_range.Facts] [hOn_used_rows : Cert.On_used_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![135168, 512]⟩ : Shape).Idx, (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 i = 1#1 → r.2.mem ((c.tc : Thread Cert.Kernel2Ideal.nD Cert.Kernel2Ideal.τ).loc Cert.Kernel2Ideal.main_v7_0) i = v0 c i)
          ∧ (∀ i : (⟨2, ![135168, 512]⟩ : Shape).Idx, (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 i = 1#1 → r.2.mem ((c.tc : Thread Cert.Kernel2Ideal.nD Cert.Kernel2Ideal.τ).loc Cert.Kernel2Ideal.main_v7_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![135168, 512]⟩ : Shape).Idx, (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 i = 1#1 → r.2.mem ((c.tc : Thread Cert.Reference2Ideal.nD Cert.Reference2Ideal.τ).loc Cert.Reference2Ideal.main_v153) i = v0 c i)
          ∧ (∀ i : (⟨2, ![135168, 512]⟩ : Shape).Idx, (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 i = 1#1 → r.2.mem ((c.tc : Thread Cert.Reference2Ideal.nD Cert.Reference2Ideal.τ).loc Cert.Reference2Ideal.main_v154) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v51) = v1 c
          ∧ r.2.mem ((c.tc : Thread Cert.Reference5Ideal.nD Cert.Reference5Ideal.τ).loc Cert.Reference5Ideal.main_v54) = v2 c
          ∧ r.2.mem ((c.tc : Thread Cert.Reference5Ideal.nD Cert.Reference5Ideal.τ).loc Cert.Reference5Ideal.main_v57) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)) (v3 : (c : Dev Cert.Kernel6Ideal.nD) → Buf (Elt Ideal) ((c.tc : Thread Cert.Kernel6Ideal.nD Cert.Kernel6Ideal.τ).loc Cert.Kernel6Ideal.main_v13_3)) (v4 : (c : Dev Cert.Kernel6Ideal.nD) → Buf (Elt Ideal) ((c.tc : Thread Cert.Kernel6Ideal.nD Cert.Kernel6Ideal.τ).loc Cert.Kernel6Ideal.main_v13_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_v13_3) = v3 c
          ∧ r.2.mem ((c.tc : Thread Cert.Kernel6Ideal.nD Cert.Kernel6Ideal.τ).loc Cert.Kernel6Ideal.main_v13_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_v34) = v2 c
          ∧ r.2.mem ((c.tc : Thread Cert.Reference6Ideal.nD Cert.Reference6Ideal.τ).loc Cert.Reference6Ideal.main_v32) = v3 c
          ∧ r.2.mem ((c.tc : Thread Cert.Reference6Ideal.nD Cert.Reference6Ideal.τ).loc Cert.Reference6Ideal.main_v31) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_experts_in_range : Cert.Pre_experts_in_range.Facts) (hOn_used_rows : Cert.On_used_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_used_rows (hKernel2Ideal := hKernel2Ideal) (hReference2Ideal := hReference2Ideal) (hPre_experts_in_range := hPre_experts_in_range) (hOn_used_rows := hOn_used_rows)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_used_rows.lean ====
abbrev S135168x1024 : Shape := ⟨2, ![135168, 1024]⟩
abbrev S264 : Shape := ⟨1, ![264]⟩
abbrev S1 : Shape := ⟨1, ![1]⟩
abbrev S8x1024x3584 : Shape := ⟨3, ![8, 1024, 3584]⟩
abbrev S8x3584x1024 : Shape := ⟨3, ![8, 3584, 1024]⟩
abbrev S264x512x512 : Shape := ⟨3, ![264, 512, 512]⟩
abbrev S_ : Shape := ⟨0, ![]⟩
abbrev S135168x512 : Shape := ⟨2, ![135168, 512]⟩

class Facts : Prop where
  shapeCasts_S1_S_ : S1.ShapeCasts S_
  bcast_S_S264x512x512 : S_.BroadcastsInDim S264x512x512 (![] : Fin 0 → Fin S264x512x512.rank)
  shapeCasts_S264x512x512_S135168x512 : S264x512x512.ShapeCasts S135168x512

variable [Facts]

def fn {F : FTy → Type} [FloatOps F] (main_arg0 : FVec F S135168x1024 .f32) (main_arg1 : IVec S264 32) (main_arg2 : IVec S1 32) (main_arg3 : FVec F S8x1024x3584 .f32) (main_arg4 : FVec F S8x1024x3584 .f32) (main_arg5 : FVec F S8x3584x1024 .f32) : IVec S135168x512 1 × IVec S135168x512 1 :=
  let main_v0 : IVec S264x512x512 32 := iotaInDim S264x512x512 32 0
  let main_v1 : IVec S_ 32 := shapeCast S_ main_arg2 shapeCasts_S1_S_
  let main_v2 : IVec S264x512x512 32 := broadcastInDim S264x512x512 ![] bcast_S_S264x512x512 main_v1
  let main_v3 : IVec S264x512x512 1 := cmpi .slt main_v0 main_v2
  let main_v4 : IVec S135168x512 1 := shapeCast S135168x512 main_v3 shapeCasts_S264x512x512_S135168x512
  (main_v4, main_v4)
-- ==== Pre_experts_in_range.lean ====
abbrev S135168x1024 : Shape := ⟨2, ![135168, 1024]⟩
abbrev S264 : Shape := ⟨1, ![264]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S264 : S_.BroadcastsInDim S264 (![] : Fin 0 → Fin S264.rank)
  reducesTo_S264_S_d0 : S264.ReducesTo [0] S_
  h_S_ : 0 < S_.numel

variable [Facts]

def fn {F : FTy → Type} [FloatOps F] (main_arg0 : FVec F S135168x1024 .f32) (main_arg1 : IVec S264 32) (main_arg2 : IVec S1 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S264 32 := broadcastInDim S264 ![] bcast_S_S264 main_c
  let main_v1 : IVec S264 1 := cmpi .sge main_arg1 main_v0
  let main_c_0 : IVec S_ 32 := constantI S_ 32 8#32
  let main_v2 : IVec S264 32 := broadcastInDim S264 ![] bcast_S_S264 main_c_0
  let main_v3 : IVec S264 1 := cmpi .slt main_arg1 main_v2
  let main_v4 : IVec S264 1 := andi main_v1 main_v3
  let main_c_1 : IVec S_ 1 := constantI S_ 1 1#1
  let main_v5 : IVec S_ 1 := (fun x v => Host.reduce IntOp.andi x v reducesTo_S264_S_d0 h_S_) main_v4 main_c_1
  main_v5
-- ==== Pre_finite.lean ====
abbrev S8x8192x1024 : Shape := ⟨3, ![8, 8192, 1024]⟩
abbrev S1x16x15x31 : Shape := ⟨4, ![1, 16, 15, 31]⟩
abbrev S_ : Shape := ⟨0, ![]⟩

class Facts : Prop where
  bcast_S_S8x8192x1024 : S_.BroadcastsInDim S8x8192x1024 (![] : Fin 0 → Fin S8x8192x1024.rank)
  bcast_S_S1x16x15x31 : S_.BroadcastsInDim S1x16x15x31 (![] : Fin 0 → Fin S1x16x15x31.rank)

variable [Facts]

def fn {F : FTy → Type} [FloatOps F] (main_arg0 : FVec F S8x8192x1024 .bf16) (main_arg1 : FVec F S8x8192x1024 .bf16) (main_arg2 : FVec F S8x8192x1024 .bf16) (main_arg3 : FVec F S1x16x15x31 .f32) : IVec S8x8192x1024 1 × IVec S8x8192x1024 1 × IVec S1x16x15x31 1 :=
  let main_v0 : FVec F S8x8192x1024 .bf16 := Host.absf main_arg0
  let main_cst : FVec F S_ .bf16 := constant S_ .bf16 0x7F80#16
  let main_v1 : FVec F S8x8192x1024 .bf16 := broadcastInDim S8x8192x1024 ![] bcast_S_S8x8192x1024 main_cst
  let main_v2 : IVec S8x8192x1024 1 := cmpf .olt main_v0 main_v1
  let main_v3 : FVec F S8x8192x1024 .bf16 := Host.absf main_arg1
  let main_cst_0 : FVec F S_ .bf16 := constant S_ .bf16 0x7F80#16
  let main_v4 : FVec F S8x8192x1024 .bf16 := broadcastInDim S8x8192x1024 ![] bcast_S_S8x8192x1024 main_cst_0
  let main_v5 : IVec S8x8192x1024 1 := cmpf .olt main_v3 main_v4
  let main_v6 : FVec F S1x16x15x31 .f32 := Host.absf main_arg3
  let main_cst_1 : FVec F S_ .f32 := constant S_ .f32 0x7F800000#32
  let main_v7 : FVec F S1x16x15x31 .f32 := broadcastInDim S1x16x15x31 ![] bcast_S_S1x16x15x31 main_cst_1
  let main_v8 : IVec S1x16x15x31 1 := cmpf .olt main_v6 main_v7
  (main_v2, main_v5, main_v8)
-- ==== Kernel.lean ====
abbrev S8x8192x1024 : Shape := ⟨3, ![8, 8192, 1024]⟩
abbrev S1x16x15x31 : Shape := ⟨4, ![1, 16, 15, 31]⟩
abbrev S8x8 : Shape := ⟨2, ![8, 8]⟩
abbrev S64x64 : Shape := ⟨2, ![64, 64]⟩
abbrev S1x1x64x1x64 : Shape := ⟨5, ![1, 1, 64, 1, 64]⟩
abbrev S16x15x31 : Shape := ⟨3, ![16, 15, 31]⟩
abbrev S_ : Shape := ⟨0, ![]⟩
abbrev S8x8x1 : Shape := ⟨3, ![8, 8, 1]⟩
abbrev S16x8x8x31 : Shape := ⟨4, ![16, 8, 8, 31]⟩
abbrev S64x64x1 : Shape := ⟨3, ![64, 64, 1]⟩
abbrev S16x8x8x64x64 : Shape := ⟨5, ![16, 8, 8, 64, 64]⟩
abbrev S8x16x64x8x64 : Shape := ⟨5, ![8, 16, 64, 8, 64]⟩
abbrev S8x64 : Shape := ⟨2, ![8, 64]⟩
abbrev S8x8x128x512 : Shape := ⟨4, ![8, 8, 128, 512]⟩
abbrev S1x512x512 : Shape := ⟨3, ![1, 512, 512]⟩
abbrev S1x8192x512 : Shape := ⟨3, ![1, 8192, 512]⟩
abbrev S8x4x128x512 : Shape := ⟨4, ![8, 4, 128, 512]⟩
abbrev S64x128 : Shape := ⟨2, ![64, 128]⟩
abbrev S1x64x128 : Shape := ⟨3, ![1, 64, 128]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S1x1x128x512 : Shape := ⟨4, ![1, 1, 128, 512]⟩
abbrev S4096x512 : Shape := ⟨2, ![4096, 512]⟩
abbrev S4096 : Shape := ⟨1, ![4096]⟩
abbrev S4096x1 : Shape := ⟨2, ![4096, 1]⟩
abbrev S128x1 : Shape := ⟨2, ![128, 1]⟩

abbrev nBuf : Space → Nat
  | .hbm => 32
  | .vmem => 9
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S1x16x15x31, .f32⟩
  | .hbm, ⟨4, _⟩ => ⟨S8x8, .i32⟩
  | .hbm, ⟨5, _⟩ => ⟨S8x8, .i1⟩
  | .hbm, ⟨6, _⟩ => ⟨S64x64, .i32⟩
  | .hbm, ⟨7, _⟩ => ⟨S64x64, .i1⟩
  | .hbm, ⟨8, _⟩ => ⟨S64x64, .i1⟩
  | .hbm, ⟨9, _⟩ => ⟨S1x1x64x1x64, .i1⟩
  | .hbm, ⟨10, _⟩ => ⟨S16x15x31, .f32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i32⟩
  | .hbm, ⟨15, _⟩ => ⟨S8x8x1, .i32⟩
  | .hbm, ⟨16, _⟩ => ⟨S16x8x8x31, .f32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .i32⟩
  | .hbm, ⟨21, _⟩ => ⟨S64x64x1, .i32⟩
  | .hbm, ⟨22, _⟩ => ⟨S16x8x8x64x64, .f32⟩
  | .hbm, ⟨23, _⟩ => ⟨S8x16x64x8x64, .f32⟩
  | .hbm, ⟨24, _⟩ => ⟨S_, .f32⟩
  | .hbm, ⟨25, _⟩ => ⟨S8x64, .f32⟩
  | .hbm, ⟨26, _⟩ => ⟨S8x64, .f32⟩
  | .hbm, ⟨27, _⟩ => ⟨S8x16x64x8x64, .i1⟩
  | .hbm, ⟨28, _⟩ => ⟨S8x16x64x8x64, .f32⟩
  | .hbm, ⟨29, _⟩ => ⟨S8x16x64x8x64, .f32⟩
  | .hbm, ⟨30, _⟩ => ⟨S8x8x128x512, .f32⟩
  | .hbm, ⟨31, _⟩ => ⟨S8x8192x1024, .bf16⟩
  | .local _ .vmem, ⟨0, _⟩ => ⟨S8x64, .f32⟩
  | .local _ .vmem, ⟨1, _⟩ => ⟨S8x64, .f32⟩
  | .local _ .vmem, ⟨2, _⟩ => ⟨S1x512x512, .bf16⟩
  | .local _ .vmem, ⟨3, _⟩ => ⟨S1x512x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S8x4x128x512, .f32⟩
  | .local _ .vmem, ⟨7, _⟩ => ⟨S1x512x512, .bf16⟩
  | .local _ .vmem, ⟨8, _⟩ => ⟨S1x512x512, .bf16⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v0 : Ref sig .tc := ⟨.hbm, 9, rfl⟩
abbrev main_v1 : Ref sig .tc := ⟨.hbm, 10, rfl⟩
abbrev main_c_4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8

abbrev nD : Nat := 1
abbrev τ : Topo := Topo.v7x

variable {F : FTy → Type} [FloatOps F]

abbrev grid0 : Pipeline.Grid := .none

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨3, ![2, 8, 16], ![false, false, false]⟩

def k1_mult1 (i : grid1.Coords) : BitVec 32 :=
  let c120_i32 : BitVec 32 := 120#32
  let c0_i32_0 : BitVec 32 := 0#32
  let arg2 : BitVec 32 := BitVec.ofNat 32 (i 2).val
  let c8_i32 : BitVec 32 := 8#32
  let v3 : BitVec 32 := Scalar.muli arg2 c8_i32
  let c0_i32 : BitVec 32 := 0#32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c120_i32 v6
  let c64_i32_1 : BitVec 32 := 64#32
  let v9 : BitVec 32 := Scalar.muli v7 c64_i32_1
  v9
def k1_off1 (i : grid1.Coords) (c0_i32 : BitVec 32) : Fin 3 → Nat :=
  let c0_5 : Index := 0#32
  let c120_i32 : BitVec 32 := 120#32
  let c0_i32_0 : BitVec 32 := 0#32
  let arg2 : BitVec 32 := BitVec.ofNat 32 (i 2).val
  let c8_i32 : BitVec 32 := 8#32
  let v3 : BitVec 32 := Scalar.muli arg2 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c120_i32 v6
  let c64_i32_1 : BitVec 32 := 64#32
  let v9 : BitVec 32 := Scalar.muli v7 c64_i32_1
  let v10 : BitVec 32 := v9
  let v20 : Index := Scalar.indexCast v10
  let c0_6 : Index := 0#32
  ![0, v20.toNat, 0]
def k1_off2 (i : grid1.Coords) (c0_i32 : BitVec 32) : Fin 4 → Nat :=
  let arg2 : BitVec 32 := BitVec.ofNat 32 (i 2).val
  let c8_i32 : BitVec 32 := 8#32
  let v3 : BitVec 32 := Scalar.muli arg2 c8_i32
  let v4 : BitVec 32 := Scalar.addi v3 c0_i32
  let c120_i32 : BitVec 32 := 120#32
  let c0_i32_0 : BitVec 32 := 0#32
  let c4_i32 : BitVec 32 := 4#32
  let v5 : BitVec 32 := Scalar.subi v4 c4_i32
  let v6 : BitVec 32 := Scalar.maxsi c0_i32_0 v5
  let v7 : BitVec 32 := Scalar.minsi c120_i32 v6
  let v8 : BitVec 32 := Scalar.subi v4 v7
  let v24 : Index := Scalar.indexCast v8
  let c0_8 : Index := 0#32
  let c0_9 : Index := 0#32
  let c0_10 : Index := 0#32
  ![v24.toNat, 0, 0, 0]
def k1_off3 (i : grid1.Coords) (c0_i32 : BitVec 32) : Fin 3 → Nat :=
  let c0_15 : Index := 0#32
  let c120_i32 : BitVec 32 := 120#32
  let c0_i32_0 : BitVec 32 := 0#32
  let arg2 : BitVec 32 := BitVec.ofNat 32 (i 2).val
  let c8_i32 : BitVec 32 := 8#32
  let v3 : BitVec 32 := Scalar.muli arg2 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c120_i32 v6
  let c64_i32_1 : BitVec 32 := 64#32
  let v9 : BitVec 32 := Scalar.muli v7 c64_i32_1
  let v10 : BitVec 32 := v9
  let v37 : Index := Scalar.indexCast v10
  let c128_16 : Index := 128#32
  ![0, v37.toNat, 128]
def k1_off4 (i : grid1.Coords) (c0_i32 : BitVec 32) : Fin 4 → Nat :=
  let arg2 : BitVec 32 := BitVec.ofNat 32 (i 2).val
  let c8_i32 : BitVec 32 := 8#32
  let v3 : BitVec 32 := Scalar.muli arg2 c8_i32
  let v4 : BitVec 32 := Scalar.addi v3 c0_i32
  let c120_i32 : BitVec 32 := 120#32
  let c0_i32_0 : BitVec 32 := 0#32
  let c4_i32 : BitVec 32 := 4#32
  let v5 : BitVec 32 := Scalar.subi v4 c4_i32
  let v6 : BitVec 32 := Scalar.maxsi c0_i32_0 v5
  let v7 : BitVec 32 := Scalar.minsi c120_i32 v6
  let v8 : BitVec 32 := Scalar.subi v4 v7
  let v41 : Index := Scalar.indexCast v8
  let c1 : Index := 1#32
  let c0_18 : Index := 0#32
  let c0_19 : Index := 0#32
  ![v41.toNat, 1, 0, 0]
def k1_off5 (i : grid1.Coords) (c0_i32 : BitVec 32) : Fin 3 → Nat :=
  let c0_24 : Index := 0#32
  let c120_i32 : BitVec 32 := 120#32
  let c0_i32_0 : BitVec 32 := 0#32
  let arg2 : BitVec 32 := BitVec.ofNat 32 (i 2).val
  let c8_i32 : BitVec 32 := 8#32
  let v3 : BitVec 32 := Scalar.muli arg2 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c120_i32 v6
  let c64_i32_1 : BitVec 32 := 64#32
  let v9 : BitVec 32 := Scalar.muli v7 c64_i32_1
  let v10 : BitVec 32 := v9
  let v54 : Index := Scalar.indexCast v10
  let c256_25 : Index := 256#32
  ![0, v54.toNat, 256]
def k1_off6 (i : grid1.Coords) (c0_i32 : BitVec 32) : Fin 4 → Nat :=
  let arg2 : BitVec 32 := BitVec.ofNat 32 (i 2).val
  let c8_i32 : BitVec 32 := 8#32
  let v3 : BitVec 32 := Scalar.muli arg2 c8_i32
  let v4 : BitVec 32 := Scalar.addi v3 c0_i32
  let c120_i32 : BitVec 32 := 120#32
  let c0_i32_0 : BitVec 32 := 0#32
  let c4_i32 : BitVec 32 := 4#32
  let v5 : BitVec 32 := Scalar.subi v4 c4_i32
  let v6 : BitVec 32 := Scalar.maxsi c0_i32_0 v5
  let v7 : BitVec 32 := Scalar.minsi c120_i32 v6
  let v8 : BitVec 32 := Scalar.subi v4 v7
  let v58 : Index := Scalar.indexCast v8
  let c2 : Index := 2#32
  let c0_27 : Index := 0#32
  let c0_28 : Index := 0#32
  ![v58.toNat, 2, 0, 0]
def k1_off7 (i : grid1.Coords) (c0_i32 : BitVec 32) : Fin 3 → Nat :=
  let c0_33 : Index := 0#32
  let c120_i32 : BitVec 32 := 120#32
  let c0_i32_0 : BitVec 32 := 0#32
  let arg2 : BitVec 32 := BitVec.ofNat 32 (i 2).val
  let c8_i32 : BitVec 32 := 8#32
  let v3 : BitVec 32 := Scalar.muli arg2 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c120_i32 v6
  let c64_i32_1 : BitVec 32 := 64#32
  let v9 : BitVec 32 := Scalar.muli v7 c64_i32_1
  let v10 : BitVec 32 := v9
  let v71 : Index := Scalar.indexCast v10
  let c384_34 : Index := 384#32
  ![0, v71.toNat, 384]
def k1_off8 (i : grid1.Coords) (c0_i32 : BitVec 32) : Fin 4 → Nat :=
  let arg2 : BitVec 32 := BitVec.ofNat 32 (i 2).val
  let c8_i32 : BitVec 32 := 8#32
  let v3 : BitVec 32 := Scalar.muli arg2 c8_i32
  let v4 : BitVec 32 := Scalar.addi v3 c0_i32
  let c120_i32 : BitVec 32 := 120#32
  let c0_i32_0 : BitVec 32 := 0#32
  let c4_i32 : BitVec 32 := 4#32
  let v5 : BitVec 32 := Scalar.subi v4 c4_i32
  let v6 : BitVec 32 := Scalar.maxsi c0_i32_0 v5
  let v7 : BitVec 32 := Scalar.minsi c120_i32 v6
  let v8 : BitVec 32 := Scalar.subi v4 v7
  let v75 : Index := Scalar.indexCast v8
  let c3 : Index := 3#32
  let c0_36 : Index := 0#32
  let c0_37 : Index := 0#32
  ![v75.toNat, 3, 0, 0]
def k1_mult2 (i : grid1.Coords) : BitVec 32 :=
  let c120_i32_41 : BitVec 32 := 120#32
  let c0_i32_40 : BitVec 32 := 0#32
  let arg2 : BitVec 32 := BitVec.ofNat 32 (i 2).val
  let c8_i32_38 : BitVec 32 := 8#32
  let v79 : BitVec 32 := Scalar.muli arg2 c8_i32_38
  let c1_i32 : BitVec 32 := 1#32
  let v80 : BitVec 32 := Scalar.addi v79 c1_i32
  let c4_i32_39 : BitVec 32 := 4#32
  let v81 : BitVec 32 := Scalar.subi v80 c4_i32_39
  let v82 : BitVec 32 := Scalar.maxsi c0_i32_40 v81
  let v83 : BitVec 32 := Scalar.minsi c120_i32_41 v82
  let c64_i32_42 : BitVec 32 := 64#32
  let v85 : BitVec 32 := Scalar.muli v83 c64_i32_42
  v85
def k1_mult3 (i : grid1.Coords) : BitVec 32 :=
  let c120_i32_89 : BitVec 32 := 120#32
  let c0_i32_88 : BitVec 32 := 0#32
  let arg2 : BitVec 32 := BitVec.ofNat 32 (i 2).val
  let c8_i32_86 : BitVec 32 := 8#32
  let v155 : BitVec 32 := Scalar.muli arg2 c8_i32_86
  let c2_i32 : BitVec 32 := 2#32
  let v156 : BitVec 32 := Scalar.addi v155 c2_i32
  let c4_i32_87 : BitVec 32 := 4#32
  let v157 : BitVec 32 := Scalar.subi v156 c4_i32_87
  let v158 : BitVec 32 := Scalar.maxsi c0_i32_88 v157
  let v159 : BitVec 32 := Scalar.minsi c120_i32_89 v158
  let c64_i32_90 : BitVec 32 := 64#32
  let v161 : BitVec 32 := Scalar.muli v159 c64_i32_90
  v161
def k1_mult4 (i : grid1.Coords) : BitVec 32 :=
  let c120_i32_138 : BitVec 32 := 120#32
  let c0_i32_137 : BitVec 32 := 0#32
  let arg2 : BitVec 32 := BitVec.ofNat 32 (i 2).val
  let c8_i32_135 : BitVec 32 := 8#32
  let v231 : BitVec 32 := Scalar.muli arg2 c8_i32_135
  let c3_i32 : BitVec 32 := 3#32
  let v232 : BitVec 32 := Scalar.addi v231 c3_i32
  let c4_i32_136 : BitVec 32 := 4#32
  let v233 : BitVec 32 := Scalar.subi v232 c4_i32_136
  let v234 : BitVec 32 := Scalar.maxsi c0_i32_137 v233
  let v235 : BitVec 32 := Scalar.minsi c120_i32_138 v234
  let c64_i32_139 : BitVec 32 := 64#32
  let v237 : BitVec 32 := Scalar.muli v235 c64_i32_139
  v237
def k1_mult5 (i : grid1.Coords) : BitVec 32 :=
  let c120_i32_187 : BitVec 32 := 120#32
  let c0_i32_186 : BitVec 32 := 0#32
  let arg2 : BitVec 32 := BitVec.ofNat 32 (i 2).val
  let c8_i32_183 : BitVec 32 := 8#32
  let v307 : BitVec 32 := Scalar.muli arg2 c8_i32_183
  let c4_i32_184 : BitVec 32 := 4#32
  let v308 : BitVec 32 := Scalar.addi v307 c4_i32_184
  let c4_i32_185 : BitVec 32 := 4#32
  let v309 : BitVec 32 := Scalar.subi v308 c4_i32_185
  let v310 : BitVec 32 := Scalar.maxsi c0_i32_186 v309
  let v311 : BitVec 32 := Scalar.minsi c120_i32_187 v310
  let c64_i32_188 : BitVec 32 := 64#32
  let v313 : BitVec 32 := Scalar.muli v311 c64_i32_188
  v313
def k1_mult6 (i : grid1.Coords) : BitVec 32 :=
  let c120_i32_236 : BitVec 32 := 120#32
  let c0_i32_235 : BitVec 32 := 0#32
  let arg2 : BitVec 32 := BitVec.ofNat 32 (i 2).val
  let c8_i32_233 : BitVec 32 := 8#32
  let v383 : BitVec 32 := Scalar.muli arg2 c8_i32_233
  let c5_i32 : BitVec 32 := 5#32
  let v384 : BitVec 32 := Scalar.addi v383 c5_i32
  let c4_i32_234 : BitVec 32 := 4#32
  let v385 : BitVec 32 := Scalar.subi v384 c4_i32_234
  let v386 : BitVec 32 := Scalar.maxsi c0_i32_235 v385
  let v387 : BitVec 32 := Scalar.minsi c120_i32_236 v386
  let c64_i32_237 : BitVec 32 := 64#32
  let v389 : BitVec 32 := Scalar.muli v387 c64_i32_237
  v389
def k1_mult7 (i : grid1.Coords) : BitVec 32 :=
  let c120_i32_284 : BitVec 32 := 120#32
  let c0_i32_283 : BitVec 32 := 0#32
  let arg2 : BitVec 32 := BitVec.ofNat 32 (i 2).val
  let c8_i32_281 : BitVec 32 := 8#32
  let v459 : BitVec 32 := Scalar.muli arg2 c8_i32_281
  let c6_i32 : BitVec 32 := 6#32
  let v460 : BitVec 32 := Scalar.addi v459 c6_i32
  let c4_i32_282 : BitVec 32 := 4#32
  let v461 : BitVec 32 := Scalar.subi v460 c4_i32_282
  let v462 : BitVec 32 := Scalar.maxsi c0_i32_283 v461
  let v463 : BitVec 32 := Scalar.minsi c120_i32_284 v462
  let c64_i32_285 : BitVec 32 := 64#32
  let v465 : BitVec 32 := Scalar.muli v463 c64_i32_285
  v465
def k1_mult8 (i : grid1.Coords) : BitVec 32 :=
  let c120_i32_333 : BitVec 32 := 120#32
  let c0_i32_332 : BitVec 32 := 0#32
  let arg2 : BitVec 32 := BitVec.ofNat 32 (i 2).val
  let c8_i32_330 : BitVec 32 := 8#32
  let v535 : BitVec 32 := Scalar.muli arg2 c8_i32_330
  let c7_i32 : BitVec 32 := 7#32
  let v536 : BitVec 32 := Scalar.addi v535 c7_i32
  let c4_i32_331 : BitVec 32 := 4#32
  let v537 : BitVec 32 := Scalar.subi v536 c4_i32_331
  let v538 : BitVec 32 := Scalar.maxsi c0_i32_332 v537
  let v539 : BitVec 32 := Scalar.minsi c120_i32_333 v538
  let c64_i32_334 : BitVec 32 := 64#32
  let v541 : BitVec 32 := Scalar.muli v539 c64_i32_334
  v541
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 1 → Memref sig .tc .vmem S1x8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true, false]

abbrev stage1_2 : Fin 1 → Memref sig .tc .vmem S1x8192x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev stage1_3 : Fin 1 → Memref sig .tc .vmem S8x4x128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false, false]

abbrev stage1_4 : Fin 2 → Memref sig .tc .vmem S1x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== KernelIdeal.lean ====
variable {F : FTy → Type} [FloatOps F] [Named F]
def κ : String → Option EReal := fun
  | "mask" => some ⊥
  | _ => none
-- ==== ReferenceIdeal.lean ====
abbrev S8x8192x1024 : Shape := ⟨3, ![8, 8192, 1024]⟩
abbrev S1x16x15x31 : Shape := ⟨4, ![1, 16, 15, 31]⟩
abbrev S8x8192x16x64 : Shape := ⟨4, ![8, 8192, 16, 64]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x1x8x1 : Shape := ⟨4, ![128, 1, 8, 1]⟩
abbrev S128x64x8x16 : Shape := ⟨4, ![128, 64, 8, 16]⟩
abbrev S8192x128 : Shape := ⟨2, ![8192, 128]⟩
abbrev S1x64x1x16 : Shape := ⟨4, ![1, 64, 1, 16]⟩
abbrev S8192x128x1 : Shape := ⟨3, ![8192, 128, 1]⟩
abbrev S8x8192x128x16x64 : Shape := ⟨5, ![8, 8192, 128, 16, 64]⟩
abbrev S8x8192x16x128 : Shape := ⟨4, ![8, 8192, 16, 128]⟩
abbrev S16x15x31 : Shape := ⟨3, ![16, 15, 31]⟩
abbrev S8192x128x2 : Shape := ⟨3, ![8192, 128, 2]⟩
abbrev S16x8192x128 : Shape := ⟨3, ![16, 8192, 128]⟩
abbrev S8192x16x128 : Shape := ⟨3, ![8192, 16, 128]⟩
abbrev S1x8192x16x128 : Shape := ⟨4, ![1, 8192, 16, 128]⟩
abbrev S8x8192x16 : Shape := ⟨3, ![8, 8192, 16]⟩
abbrev S8x8192x16x1 : Shape := ⟨4, ![8, 8192, 16, 1]⟩

abbrev nBuf : Space → Nat
  | .hbm => 133
  | .vmem => 0
  | .smem => 0
  | _ => 0

abbrev hbmTy0_0 (i : Nat) : BufTy := match i % 128 with
  | 0 => ⟨S8x8192x1024, .bf16⟩
  | 1 => ⟨S8x8192x1024, .bf16⟩
  | 2 => ⟨S8x8192x1024, .bf16⟩
  | 3 => ⟨S1x16x15x31, .f32⟩
  | 4 => ⟨S8x8192x1024, .f32⟩
  | 5 => ⟨S8x8192x16x64, .f32⟩
  | 6 => ⟨S8x8192x1024, .f32⟩
  | 7 => ⟨S8x8192x16x64, .f32⟩
  | 8 => ⟨S8x8192x1024, .f32⟩
  | 9 => ⟨S8x8192x16x64, .f32⟩
  | 10 => ⟨S64, .i32⟩
  | 11 => ⟨S_, .i32⟩
  | 12 => ⟨S64, .i32⟩
  | 13 => ⟨S64, .i32⟩
  | 14 => ⟨S_, .i32⟩
  | 15 => ⟨S_, .i32⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S64x1, .i32⟩
  | 23 => ⟨S16, .i32⟩
  | 24 => ⟨S1x16, .i32⟩
  | 25 => ⟨S64x16, .i32⟩
  | 26 => ⟨S64x16, .i32⟩
  | 27 => ⟨S64x16, .i32⟩
  | 28 => ⟨S64x1, .i32⟩
  | 29 => ⟨S64x16, .i32⟩
  | 30 => ⟨S64x16, .i32⟩
  | 31 => ⟨S_, .i32⟩
  | 32 => ⟨S64x16, .i32⟩
  | 33 => ⟨S64x16, .i32⟩
  | 34 => ⟨S128, .i32⟩
  | 35 => ⟨S_, .i32⟩
  | 36 => ⟨S128, .i32⟩
  | 37 => ⟨S128, .i32⟩
  | 38 => ⟨S_, .i32⟩
  | 39 => ⟨S_, .i32⟩
  | 40 => ⟨S_, .i32⟩
  | 41 => ⟨S128, .i32⟩
  | 42 => ⟨S128, .i32⟩
  | 43 => ⟨S_, .i32⟩
  | 44 => ⟨S128, .i32⟩
  | 45 => ⟨S128, .i32⟩
  | 46 => ⟨S128x1, .i32⟩
  | 47 => ⟨S8, .i32⟩
  | 48 => ⟨S1x8, .i32⟩
  | 49 => ⟨S128x8, .i32⟩
  | 50 => ⟨S128x8, .i32⟩
  | 51 => ⟨S128x8, .i32⟩
  | 52 => ⟨S128x1, .i32⟩
  | 53 => ⟨S128x8, .i32⟩
  | 54 => ⟨S128x8, .i32⟩
  | 55 => ⟨S_, .i32⟩
  | 56 => ⟨S128x8, .i32⟩
  | 57 => ⟨S128x8, .i32⟩
  | 58 => ⟨S128x1x8x1, .i32⟩
  | 59 => ⟨S128x64x8x16, .i32⟩
  | 60 => ⟨S8192x128, .i32⟩
  | 61 => ⟨S1x64x1x16, .i32⟩
  | 62 => ⟨S128x64x8x16, .i32⟩
  | 63 => ⟨S8192x128, .i32⟩
  | 64 => ⟨S128x1x8x1, .i32⟩
  | 65 => ⟨S128x64x8x16, .i32⟩
  | 66 => ⟨S8192x128, .i32⟩
  | 67 => ⟨S1x64x1x16, .i32⟩
  | 68 => ⟨S128x64x8x16, .i32⟩
  | 69 => ⟨S8192x128, .i32⟩
  | 70 => ⟨S_, .i32⟩
  | 71 => ⟨S8192x128, .i32⟩
  | 72 => ⟨S8192x128, .i32⟩
  | 73 => ⟨S8192x128, .i32⟩
  | 74 => ⟨S_, .i32⟩
  | 75 => ⟨S8192x128, .i32⟩
  | 76 => ⟨S8192x128, .i1⟩
  | 77 => ⟨S_, .i32⟩
  | 78 => ⟨S8192x128, .i32⟩
  | 79 => ⟨S8192x128, .i32⟩
  | 80 => ⟨S8192x128, .i32⟩
  | 81 => ⟨S8192x128x1, .i32⟩
  | 82 => ⟨S8x8192x128x16x64, .f32⟩
  | 83 => ⟨S_, .i32⟩
  | 84 => ⟨S8192x128, .i32⟩
  | 85 => ⟨S8192x128, .i1⟩
  | 86 => ⟨S_, .i32⟩
  | 87 => ⟨S8192x128, .i32⟩
  | 88 => ⟨S8192x128, .i32⟩
  | 89 => ⟨S8192x128, .i32⟩
  | 90 => ⟨S8192x128x1, .i32⟩
  | 91 => ⟨S8x8192x128x16x64, .f32⟩
  | 92 => ⟨S8x8192x16x128, .f32⟩
  | 93 => ⟨S16x15x31, .f32⟩
  | 94 => ⟨S_, .i32⟩
  | 95 => ⟨S8192x128, .i32⟩
  | 96 => ⟨S8192x128, .i1⟩
  | 97 => ⟨S_, .i32⟩
  | 98 => ⟨S8192x128, .i32⟩
  | 99 => ⟨S8192x128, .i32⟩
  | 100 => ⟨S8192x128, .i32⟩
  | 101 => ⟨S_, .i32⟩
  | 102 => ⟨S8192x128, .i32⟩
  | 103 => ⟨S8192x128, .i1⟩
  | 104 => ⟨S_, .i32⟩
  | 105 => ⟨S8192x128, .i32⟩
  | 106 => ⟨S8192x128, .i32⟩
  | 107 => ⟨S8192x128, .i32⟩
  | 108 => ⟨S8192x128x1, .i32⟩
  | 109 => ⟨S8192x128x1, .i32⟩
  | 110 => ⟨S8192x128x2, .i32⟩
  | 111 => ⟨S16x8192x128, .f32⟩
  | 112 => ⟨S8192x16x128, .f32⟩
  | 113 => ⟨S1x8192x16x128, .f32⟩
  | 114 => ⟨S8x8192x16x128, .f32⟩
  | 115 => ⟨S8x8192x16x128, .f32⟩
  | 116 => ⟨S_, .f32⟩
  | 117 => ⟨S8x8192x16, .f32⟩
  | 118 => ⟨S_, .f32⟩
  | 119 => ⟨S8x8192x16, .f32⟩
  | 120 => ⟨S8x8192x16, .f32⟩
  | 121 => ⟨S8x8192x16x1, .f32⟩
  | 122 => ⟨S8x8192x16x128, .f32⟩
  | 123 => ⟨S8x8192x16x128, .f32⟩
  | 124 => ⟨S8x8192x16x128, .f32⟩
  | 125 => ⟨S_, .f32⟩
  | 126 => ⟨S8x8192x16, .f32⟩
  | 127 => ⟨S8x8192x16x1, .f32⟩
  | _ => ⟨S8x8192x1024, .bf16⟩

abbrev hbmTy0_1 (i : Nat) : BufTy := match i % 128 with
  | 0 => ⟨S8x8192x16x128, .f32⟩
  | 1 => ⟨S8x8192x16x128, .f32⟩
  | 2 => ⟨S8x8192x16x64, .f32⟩
  | 3 => ⟨S8x8192x1024, .f32⟩
  | 4 => ⟨S8x8192x1024, .bf16⟩
  | _ => ⟨S8x8192x1024, .bf16⟩

abbrev hbmTy (i : Nat) : BufTy := match i / 128 with
  | 0 => hbmTy0_0 i
  | 1 => hbmTy0_1 i
  | _ => ⟨S8x8192x1024, .bf16⟩

abbrev bufTy : (tb : Table) → Fin (tcTables nBuf tb) → BufTy
  | .hbm, ⟨i, _⟩ => hbmTy i
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_c_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_14 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_17 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]
-- ==== Kernel2.lean ====
abbrev S135168x1024 : Shape := ⟨2, ![135168, 1024]⟩
abbrev S264 : Shape := ⟨1, ![264]⟩
abbrev S1 : Shape := ⟨1, ![1]⟩
abbrev S8x1024x3584 : Shape := ⟨3, ![8, 1024, 3584]⟩
abbrev S8x3584x1024 : Shape := ⟨3, ![8, 3584, 1024]⟩
abbrev S135168x512 : Shape := ⟨2, ![135168, 512]⟩
abbrev S512x512 : Shape := ⟨2, ![512, 512]⟩
abbrev S1x1024x3584 : Shape := ⟨3, ![1, 1024, 3584]⟩
abbrev S1x3584x1024 : Shape := ⟨3, ![1, 3584, 1024]⟩
abbrev S512x3584 : Shape := ⟨2, ![512, 3584]⟩
abbrev S512x1024 : Shape := ⟨2, ![512, 1024]⟩
abbrev S1x1024x512 : Shape := ⟨3, ![1, 1024, 512]⟩
abbrev S1024x512 : Shape := ⟨2, ![1024, 512]⟩
abbrev S3584x1024 : Shape := ⟨2, ![3584, 1024]⟩

abbrev nBuf : Space → Nat
  | .hbm => 13
  | .vmem => 15
  | .smem => 2
  | _ => 0

abbrev bufTy : (tb : Table) → Fin (tcTables nBuf tb) → BufTy
  | .hbm, ⟨0, _⟩ => ⟨S135168x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S135168x512, .f32⟩
  | .hbm, ⟨5, _⟩ => ⟨S135168x512, .bf16⟩
  | .hbm, ⟨6, _⟩ => ⟨S135168x512, .f32⟩
  | .hbm, ⟨7, _⟩ => ⟨S135168x512, .bf16⟩
  | .hbm, ⟨8, _⟩ => ⟨S8x1024x3584, .bf16⟩
  | .hbm, ⟨9, _⟩ => ⟨S8x1024x3584, .bf16⟩
  | .hbm, ⟨10, _⟩ => ⟨S8x3584x1024, .bf16⟩
  | .hbm, ⟨11, _⟩ => ⟨S135168x512, .bf16⟩
  | .hbm, ⟨12, _⟩ => ⟨S135168x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x1024x3584, .bf16⟩
  | .local _ .vmem, ⟨7, _⟩ => ⟨S1x1024x3584, .bf16⟩
  | .local _ .vmem, ⟨8, _⟩ => ⟨S1x3584x1024, .bf16⟩
  | .local _ .vmem, ⟨9, _⟩ => ⟨S1x3584x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x3584, .bf16⟩
  | .local _ .smem, ⟨0, _⟩ => ⟨S264, .i32⟩
  | .local _ .smem, ⟨1, _⟩ => ⟨S1, .i32⟩
  | _, _ => ⟨S135168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![264], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3584x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S135168x1024 : Shape := ⟨2, ![135168, 1024]⟩
abbrev S264 : Shape := ⟨1, ![264]⟩
abbrev S1 : Shape := ⟨1, ![1]⟩
abbrev S8x1024x3584 : Shape := ⟨3, ![8, 1024, 3584]⟩
abbrev S8x3584x1024 : Shape := ⟨3, ![8, 3584, 1024]⟩
abbrev S264x1 : Shape := ⟨2, ![264, 1]⟩
abbrev S264x512 : Shape := ⟨2, ![264, 512]⟩
abbrev S135168x1 : Shape := ⟨2, ![135168, 1]⟩
abbrev S_ : Shape := ⟨0, ![]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S135168x3584 : Shape := ⟨2, ![135168, 3584]⟩
abbrev S135168x512 : Shape := ⟨2, ![135168, 512]⟩

abbrev nBuf : Space → Nat
  | .hbm => 234
  | .vmem => 0
  | .smem => 0
  | _ => 0

abbrev hbmTy0_0 (i : Nat) : BufTy := match i % 128 with
  | 0 => ⟨S135168x1024, .f32⟩
  | 1 => ⟨S264, .i32⟩
  | 2 => ⟨S1, .i32⟩
  | 3 => ⟨S8x1024x3584, .f32⟩
  | 4 => ⟨S8x1024x3584, .f32⟩
  | 5 => ⟨S8x3584x1024, .f32⟩
  | 6 => ⟨S135168x1024, .bf16⟩
  | 7 => ⟨S8x1024x3584, .bf16⟩
  | 8 => ⟨S8x1024x3584, .bf16⟩
  | 9 => ⟨S8x3584x1024, .bf16⟩
  | 10 => ⟨S264x1, .i32⟩
  | 11 => ⟨S264x512, .i32⟩
  | 12 => ⟨S135168x1, .i32⟩
  | 13 => ⟨S_, .f32⟩
  | 14 => ⟨S135168x1024, .f32⟩
  | 15 => ⟨S_, .i32⟩
  | 16 => ⟨S135168x1, .i32⟩
  | 17 => ⟨S135168x1, .i1⟩
  | 18 => ⟨S135168x1, .f32⟩
  | 19 => ⟨S1x1024x3584, .bf16⟩
  | 20 => ⟨S1024x3584, .bf16⟩
  | 21 => ⟨S1x1024x3584, .bf16⟩
  | 22 => ⟨S1024x3584, .bf16⟩
  | 23 => ⟨S1x3584x1024, .bf16⟩
  | 24 => ⟨S3584x1024, .bf16⟩
  | 25 => ⟨S135168x3584, .f32⟩
  | 26 => ⟨S135168x3584, .f32⟩
  | 27 => ⟨S135168x3584, .f32⟩
  | 28 => ⟨S_, .f32⟩
  | 29 => ⟨S135168x3584, .f32⟩
  | 30 => ⟨S135168x3584, .f32⟩
  | 31 => ⟨S_, .f32⟩
  | 32 => ⟨S135168x3584, .f32⟩
  | 33 => ⟨S135168x3584, .f32⟩
  | 34 => ⟨S135168x3584, .f32⟩
  | 35 => ⟨S135168x3584, .f32⟩
  | 36 => ⟨S135168x3584, .f32⟩
  | 37 => ⟨S135168x3584, .bf16⟩
  | 38 => ⟨S135168x1024, .f32⟩
  | 39 => ⟨S135168x1024, .f32⟩
  | 40 => ⟨S135168x1024, .f32⟩
  | 41 => ⟨S135168x1024, .f32⟩
  | 42 => ⟨S_, .i32⟩
  | 43 => ⟨S135168x1, .i32⟩
  | 44 => ⟨S135168x1, .i1⟩
  | 45 => ⟨S135168x1, .f32⟩
  | 46 => ⟨S1x1024x3584, .bf16⟩
  | 47 => ⟨S1024x3584, .bf16⟩
  | 48 => ⟨S1x1024x3584, .bf16⟩
  | 49 => ⟨S1024x3584, .bf16⟩
  | 50 => ⟨S1x3584x1024, .bf16⟩
  | 51 => ⟨S3584x1024, .bf16⟩
  | 52 => ⟨S135168x3584, .f32⟩
  | 53 => ⟨S135168x3584, .f32⟩
  | 54 => ⟨S135168x3584, .f32⟩
  | 55 => ⟨S_, .f32⟩
  | 56 => ⟨S135168x3584, .f32⟩
  | 57 => ⟨S135168x3584, .f32⟩
  | 58 => ⟨S_, .f32⟩
  | 59 => ⟨S135168x3584, .f32⟩
  | 60 => ⟨S135168x3584, .f32⟩
  | 61 => ⟨S135168x3584, .f32⟩
  | 62 => ⟨S135168x3584, .f32⟩
  | 63 => ⟨S135168x3584, .f32⟩
  | 64 => ⟨S135168x3584, .bf16⟩
  | 65 => ⟨S135168x1024, .f32⟩
  | 66 => ⟨S135168x1024, .f32⟩
  | 67 => ⟨S135168x1024, .f32⟩
  | 68 => ⟨S135168x1024, .f32⟩
  | 69 => ⟨S_, .i32⟩
  | 70 => ⟨S135168x1, .i32⟩
  | 71 => ⟨S135168x1, .i1⟩
  | 72 => ⟨S135168x1, .f32⟩
  | 73 => ⟨S1x1024x3584, .bf16⟩
  | 74 => ⟨S1024x3584, .bf16⟩
  | 75 => ⟨S1x1024x3584, .bf16⟩
  | 76 => ⟨S1024x3584, .bf16⟩
  | 77 => ⟨S1x3584x1024, .bf16⟩
  | 78 => ⟨S3584x1024, .bf16⟩
  | 79 => ⟨S135168x3584, .f32⟩
  | 80 => ⟨S135168x3584, .f32⟩
  | 81 => ⟨S135168x3584, .f32⟩
  | 82 => ⟨S_, .f32⟩
  | 83 => ⟨S135168x3584, .f32⟩
  | 84 => ⟨S135168x3584, .f32⟩
  | 85 => ⟨S_, .f32⟩
  | 86 => ⟨S135168x3584, .f32⟩
  | 87 => ⟨S135168x3584, .f32⟩
  | 88 => ⟨S135168x3584, .f32⟩
  | 89 => ⟨S135168x3584, .f32⟩
  | 90 => ⟨S135168x3584, .f32⟩
  | 91 => ⟨S135168x3584, .bf16⟩
  | 92 => ⟨S135168x1024, .f32⟩
  | 93 => ⟨S135168x1024, .f32⟩
  | 94 => ⟨S135168x1024, .f32⟩
  | 95 => ⟨S135168x1024, .f32⟩
  | 96 => ⟨S_, .i32⟩
  | 97 => ⟨S135168x1, .i32⟩
  | 98 => ⟨S135168x1, .i1⟩
  | 99 => ⟨S135168x1, .f32⟩
  | 100 => ⟨S1x1024x3584, .bf16⟩
  | 101 => ⟨S1024x3584, .bf16⟩
  | 102 => ⟨S1x1024x3584, .bf16⟩
  | 103 => ⟨S1024x3584, .bf16⟩
  | 104 => ⟨S1x3584x1024, .bf16⟩
  | 105 => ⟨S3584x1024, .bf16⟩
  | 106 => ⟨S135168x3584, .f32⟩
  | 107 => ⟨S135168x3584, .f32⟩
  | 108 => ⟨S135168x3584, .f32⟩
  | 109 => ⟨S_, .f32⟩
  | 110 => ⟨S135168x3584, .f32⟩
  | 111 => ⟨S135168x3584, .f32⟩
  | 112 => ⟨S_, .f32⟩
  | 113 => ⟨S135168x3584, .f32⟩
  | 114 => ⟨S135168x3584, .f32⟩
  | 115 => ⟨S135168x3584, .f32⟩
  | 116 => ⟨S135168x3584, .f32⟩
  | 117 => ⟨S135168x3584, .f32⟩
  | 118 => ⟨S135168x3584, .bf16⟩
  | 119 => ⟨S135168x1024, .f32⟩
  | 120 => ⟨S135168x1024, .f32⟩
  | 121 => ⟨S135168x1024, .f32⟩
  | 122 => ⟨S135168x1024, .f32⟩
  | 123 => ⟨S_, .i32⟩
  | 124 => ⟨S135168x1, .i32⟩
  | 125 => ⟨S135168x1, .i1⟩
  | 126 => ⟨S135168x1, .f32⟩
  | 127 => ⟨S1x1024x3584, .bf16⟩
  | _ => ⟨S135168x1024, .f32⟩

abbrev hbmTy0_1 (i : Nat) : BufTy := match i % 128 with
  | 0 => ⟨S1024x3584, .bf16⟩
  | 1 => ⟨S1x1024x3584, .bf16⟩
  | 2 => ⟨S1024x3584, .bf16⟩
  | 3 => ⟨S1x3584x1024, .bf16⟩
  | 4 => ⟨S3584x1024, .bf16⟩
  | 5 => ⟨S135168x3584, .f32⟩
  | 6 => ⟨S135168x3584, .f32⟩
  | 7 => ⟨S135168x3584, .f32⟩
  | 8 => ⟨S_, .f32⟩
  | 9 => ⟨S135168x3584, .f32⟩
  | 10 => ⟨S135168x3584, .f32⟩
  | 11 => ⟨S_, .f32⟩
  | 12 => ⟨S135168x3584, .f32⟩
  | 13 => ⟨S135168x3584, .f32⟩
  | 14 => ⟨S135168x3584, .f32⟩
  | 15 => ⟨S135168x3584, .f32⟩
  | 16 => ⟨S135168x3584, .f32⟩
  | 17 => ⟨S135168x3584, .bf16⟩
  | 18 => ⟨S135168x1024, .f32⟩
  | 19 => ⟨S135168x1024, .f32⟩
  | 20 => ⟨S135168x1024, .f32⟩
  | 21 => ⟨S135168x1024, .f32⟩
  | 22 => ⟨S_, .i32⟩
  | 23 => ⟨S135168x1, .i32⟩
  | 24 => ⟨S135168x1, .i1⟩
  | 25 => ⟨S135168x1, .f32⟩
  | 26 => ⟨S1x1024x3584, .bf16⟩
  | 27 => ⟨S1024x3584, .bf16⟩
  | 28 => ⟨S1x1024x3584, .bf16⟩
  | 29 => ⟨S1024x3584, .bf16⟩
  | 30 => ⟨S1x3584x1024, .bf16⟩
  | 31 => ⟨S3584x1024, .bf16⟩
  | 32 => ⟨S135168x3584, .f32⟩
  | 33 => ⟨S135168x3584, .f32⟩
  | 34 => ⟨S135168x3584, .f32⟩
  | 35 => ⟨S_, .f32⟩
  | 36 => ⟨S135168x3584, .f32⟩
  | 37 => ⟨S135168x3584, .f32⟩
  | 38 => ⟨S_, .f32⟩
  | 39 => ⟨S135168x3584, .f32⟩
  | 40 => ⟨S135168x3584, .f32⟩
  | 41 => ⟨S135168x3584, .f32⟩
  | 42 => ⟨S135168x3584, .f32⟩
  | 43 => ⟨S135168x3584, .f32⟩
  | 44 => ⟨S135168x3584, .bf16⟩
  | 45 => ⟨S135168x1024, .f32⟩
  | 46 => ⟨S135168x1024, .f32⟩
  | 47 => ⟨S135168x1024, .f32⟩
  | 48 => ⟨S135168x1024, .f32⟩
  | 49 => ⟨S_, .i32⟩
  | 50 => ⟨S135168x1, .i32⟩
  | 51 => ⟨S135168x1, .i1⟩
  | 52 => ⟨S135168x1, .f32⟩
  | 53 => ⟨S1x1024x3584, .bf16⟩
  | 54 => ⟨S1024x3584, .bf16⟩
  | 55 => ⟨S1x1024x3584, .bf16⟩
  | 56 => ⟨S1024x3584, .bf16⟩
  | 57 => ⟨S1x3584x1024, .bf16⟩
  | 58 => ⟨S3584x1024, .bf16⟩
  | 59 => ⟨S135168x3584, .f32⟩
  | 60 => ⟨S135168x3584, .f32⟩
  | 61 => ⟨S135168x3584, .f32⟩
  | 62 => ⟨S_, .f32⟩
  | 63 => ⟨S135168x3584, .f32⟩
  | 64 => ⟨S135168x3584, .f32⟩
  | 65 => ⟨S_, .f32⟩
  | 66 => ⟨S135168x3584, .f32⟩
  | 67 => ⟨S135168x3584, .f32⟩
  | 68 => ⟨S135168x3584, .f32⟩
  | 69 => ⟨S135168x3584, .f32⟩
  | 70 => ⟨S135168x3584, .f32⟩
  | 71 => ⟨S135168x3584, .bf16⟩
  | 72 => ⟨S135168x1024, .f32⟩
  | 73 => ⟨S135168x1024, .f32⟩
  | 74 => ⟨S135168x1024, .f32⟩
  | 75 => ⟨S135168x1024, .f32⟩
  | 76 => ⟨S_, .i32⟩
  | 77 => ⟨S135168x1, .i32⟩
  | 78 => ⟨S135168x1, .i1⟩
  | 79 => ⟨S135168x1, .f32⟩
  | 80 => ⟨S1x1024x3584, .bf16⟩
  | 81 => ⟨S1024x3584, .bf16⟩
  | 82 => ⟨S1x1024x3584, .bf16⟩
  | 83 => ⟨S1024x3584, .bf16⟩
  | 84 => ⟨S1x3584x1024, .bf16⟩
  | 85 => ⟨S3584x1024, .bf16⟩
  | 86 => ⟨S135168x3584, .f32⟩
  | 87 => ⟨S135168x3584, .f32⟩
  | 88 => ⟨S135168x3584, .f32⟩
  | 89 => ⟨S_, .f32⟩
  | 90 => ⟨S135168x3584, .f32⟩
  | 91 => ⟨S135168x3584, .f32⟩
  | 92 => ⟨S_, .f32⟩
  | 93 => ⟨S135168x3584, .f32⟩
  | 94 => ⟨S135168x3584, .f32⟩
  | 95 => ⟨S135168x3584, .f32⟩
  | 96 => ⟨S135168x3584, .f32⟩
  | 97 => ⟨S135168x3584, .f32⟩
  | 98 => ⟨S135168x3584, .bf16⟩
  | 99 => ⟨S135168x1024, .f32⟩
  | 100 => ⟨S135168x1024, .f32⟩
  | 101 => ⟨S135168x1024, .f32⟩
  | 102 => ⟨S135168x1024, .f32⟩
  | 103 => ⟨S135168x1024, .bf16⟩
  | 104 => ⟨S135168x512, .bf16⟩
  | 105 => ⟨S135168x512, .bf16⟩
  | _ => ⟨S135168x1024, .f32⟩

abbrev hbmTy (i : Nat) : BufTy := match i / 128 with
  | 0 => hbmTy0_0 i
  | 1 => hbmTy0_1 i
  | _ => ⟨S135168x1024, .f32⟩

abbrev bufTy : (tb : Table) → Fin (tcTables nBuf tb) → BufTy
  | .hbm, ⟨i, _⟩ => hbmTy i
  | _, _ => ⟨S135168x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_1 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_2 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call3_v0 : Ref sig .tc := ⟨.hbm, 107, rfl⟩
abbrev main_call3_v1 : Ref sig .tc := ⟨.hbm, 108, rfl⟩
abbrev main_call3_cst : Ref sig .tc := ⟨.hbm, 109, rfl⟩
abbrev main_call3_v2 : Ref sig .tc := ⟨.hbm, 110, rfl⟩
abbrev main_call3_v3 : Ref sig .tc := ⟨.hbm, 111, rfl⟩
abbrev main_call3_cst_0 : Ref sig .tc := ⟨.hbm, 112, rfl⟩
abbrev main_call3_v4 : Ref sig .tc := ⟨.hbm, 113, rfl⟩
abbrev main_call3_v5 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_3 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_call4_v0 : Ref sig .tc := ⟨.hbm, 134, rfl⟩
abbrev main_call4_v1 : Ref sig .tc := ⟨.hbm, 135, rfl⟩
abbrev main_call4_cst : Ref sig .tc := ⟨.hbm, 136, rfl⟩
abbrev main_call4_v2 : Ref sig .tc := ⟨.hbm, 137, rfl⟩
abbrev main_call4_v3 : Ref sig .tc := ⟨.hbm, 138, rfl⟩
abbrev main_call4_cst_0 : Ref sig .tc := ⟨.hbm, 139, rfl⟩
abbrev main_call4_v4 : Ref sig .tc := ⟨.hbm, 140, rfl⟩
abbrev main_call4_v5 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_c_4 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_call5_v0 : Ref sig .tc := ⟨.hbm, 161, rfl⟩
abbrev main_call5_v1 : Ref sig .tc := ⟨.hbm, 162, rfl⟩
abbrev main_call5_cst : Ref sig .tc := ⟨.hbm, 163, rfl⟩
abbrev main_call5_v2 : Ref sig .tc := ⟨.hbm, 164, rfl⟩
abbrev main_call5_v3 : Ref sig .tc := ⟨.hbm, 165, rfl⟩
abbrev main_call5_cst_0 : Ref sig .tc := ⟨.hbm, 166, rfl⟩
abbrev main_call5_v4 : Ref sig .tc := ⟨.hbm, 167, rfl⟩
abbrev main_call5_v5 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_c_5 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_call6_v0 : Ref sig .tc := ⟨.hbm, 188, rfl⟩
abbrev main_call6_v1 : Ref sig .tc := ⟨.hbm, 189, rfl⟩
abbrev main_call6_cst : Ref sig .tc := ⟨.hbm, 190, rfl⟩
abbrev main_call6_v2 : Ref sig .tc := ⟨.hbm, 191, rfl⟩
abbrev main_call6_v3 : Ref sig .tc := ⟨.hbm, 192, rfl⟩
abbrev main_call6_cst_0 : Ref sig .tc := ⟨.hbm, 193, rfl⟩
abbrev main_call6_v4 : Ref sig .tc := ⟨.hbm, 194, rfl⟩
abbrev main_call6_v5 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_c_6 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_call7_v0 : Ref sig .tc := ⟨.hbm, 215, rfl⟩
abbrev main_call7_v1 : Ref sig .tc := ⟨.hbm, 216, rfl⟩
abbrev main_call7_cst : Ref sig .tc := ⟨.hbm, 217, rfl⟩
abbrev main_call7_v2 : Ref sig .tc := ⟨.hbm, 218, rfl⟩
abbrev main_call7_v3 : Ref sig .tc := ⟨.hbm, 219, rfl⟩
abbrev main_call7_cst_0 : Ref sig .tc := ⟨.hbm, 220, rfl⟩
abbrev main_call7_v4 : Ref sig .tc := ⟨.hbm, 221, rfl⟩
abbrev main_call7_v5 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩

abbrev nD : Nat := 1
abbrev τ : Topo := Topo.v7x

variable {F : FTy → Type} [FloatOps F]
-- ==== Kernel3.lean ====
abbrev S65536x1024 : Shape := ⟨2, ![65536, 1024]⟩
abbrev S65536x128 : Shape := ⟨2, ![65536, 128]⟩
abbrev S131072x512 : Shape := ⟨2, ![131072, 512]⟩
abbrev S1x1024 : Shape := ⟨2, ![1, 1024]⟩
abbrev S1024 : Shape := ⟨1, ![1024]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S65536x128, .f32⟩
  | .hbm, ⟨2, _⟩ => ⟨S131072x512, .bf16⟩
  | .hbm, ⟨3, _⟩ => ⟨S131072x512, .bf16⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S65536x1024 : Shape := ⟨2, ![65536, 1024]⟩
abbrev S65536x128 : Shape := ⟨2, ![65536, 128]⟩
abbrev S131072x512 : Shape := ⟨2, ![131072, 512]⟩
abbrev S1x1024 : Shape := ⟨2, ![1, 1024]⟩
abbrev S131072x1024 : Shape := ⟨2, ![131072, 1024]⟩
abbrev S2x65536x1024 : Shape := ⟨3, ![2, 65536, 1024]⟩
abbrev S_ : Shape := ⟨0, ![]⟩
abbrev S65536x1 : Shape := ⟨2, ![65536, 1]⟩
abbrev S1x65536x1024 : Shape := ⟨3, ![1, 65536, 1024]⟩
abbrev S1024 : Shape := ⟨1, ![1024]⟩
abbrev S65536 : Shape := ⟨1, ![65536]⟩

abbrev nBuf : Space → Nat
  | .hbm => 58
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x128, .f32⟩
  | .hbm, ⟨2, _⟩ => ⟨S131072x512, .bf16⟩
  | .hbm, ⟨3, _⟩ => ⟨S131072x512, .bf16⟩
  | .hbm, ⟨4, _⟩ => ⟨S1x1024, .f32⟩
  | .hbm, ⟨5, _⟩ => ⟨S1x1024, .f32⟩
  | .hbm, ⟨6, _⟩ => ⟨S131072x1024, .bf16⟩
  | .hbm, ⟨7, _⟩ => ⟨S131072x1024, .f32⟩
  | .hbm, ⟨8, _⟩ => ⟨S2x65536x1024, .f32⟩
  | .hbm, ⟨9, _⟩ => ⟨S_, .f32⟩
  | .hbm, ⟨10, _⟩ => ⟨S65536x1024, .f32⟩
  | .hbm, ⟨11, _⟩ => ⟨S65536x1, .f32⟩
  | .hbm, ⟨12, _⟩ => ⟨S1x65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1, .f32⟩
  | .hbm, ⟨18, _⟩ => ⟨S1x65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536, .f32⟩
  | .hbm, ⟨40, _⟩ => ⟨S65536x1, .f32⟩
  | .hbm, ⟨41, _⟩ => ⟨S_, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | .hbm, ⟨55, _⟩ => ⟨S1x1024, .f32⟩
  | .hbm, ⟨56, _⟩ => ⟨S65536x1024, .f32⟩
  | .hbm, ⟨57, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel4.lean ====
abbrev S65536x2048 : Shape := ⟨2, ![65536, 2048]⟩
abbrev S65536x1024 : Shape := ⟨2, ![65536, 1024]⟩
abbrev S1x3072x1024 : Shape := ⟨3, ![1, 3072, 1024]⟩
abbrev S1x1024 : Shape := ⟨2, ![1, 1024]⟩
abbrev S3072x1024 : Shape := ⟨2, ![3072, 1024]⟩
abbrev S2048x1024 : Shape := ⟨2, ![2048, 1024]⟩
abbrev S1024x1024 : Shape := ⟨2, ![1024, 1024]⟩
abbrev S1024 : Shape := ⟨1, ![1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S65536x2048, .bf16⟩
  | .hbm, ⟨1, _⟩ => ⟨S65536x1024, .bf16⟩
  | .hbm, ⟨2, _⟩ => ⟨S1x3072x1024, .f32⟩
  | .hbm, ⟨3, _⟩ => ⟨S65536x1024, .f32⟩
  | .hbm, ⟨4, _⟩ => ⟨S1x1024, .f32⟩
  | .hbm, ⟨5, _⟩ => ⟨S1x1024, .f32⟩
  | .hbm, ⟨6, _⟩ => ⟨S3072x1024, .f32⟩
  | .hbm, ⟨7, _⟩ => ⟨S2048x1024, .f32⟩
  | .hbm, ⟨8, _⟩ => ⟨S2048x1024, .bf16⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S65536x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S65536x2048 : Shape := ⟨2, ![65536, 2048]⟩
abbrev S65536x1024 : Shape := ⟨2, ![65536, 1024]⟩
abbrev S1x3072x1024 : Shape := ⟨3, ![1, 3072, 1024]⟩
abbrev S1x1024 : Shape := ⟨2, ![1, 1024]⟩
abbrev S65536x3072 : Shape := ⟨2, ![65536, 3072]⟩
abbrev S3072x1024 : Shape := ⟨2, ![3072, 1024]⟩
abbrev S_ : Shape := ⟨0, ![]⟩
abbrev S1024 : Shape := ⟨1, ![1024]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S65536x1024, .bf16⟩
  | .hbm, ⟨2, _⟩ => ⟨S1x3072x1024, .f32⟩
  | .hbm, ⟨3, _⟩ => ⟨S65536x1024, .f32⟩
  | .hbm, ⟨4, _⟩ => ⟨S1x1024, .f32⟩
  | .hbm, ⟨5, _⟩ => ⟨S1x1024, .f32⟩
  | .hbm, ⟨6, _⟩ => ⟨S65536x3072, .bf16⟩
  | .hbm, ⟨7, _⟩ => ⟨S3072x1024, .f32⟩
  | .hbm, ⟨8, _⟩ => ⟨S3072x1024, .bf16⟩
  | .hbm, ⟨9, _⟩ => ⟨S65536x1024, .f32⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S1x1024, .f32⟩
  | .hbm, ⟨40, _⟩ => ⟨S65536x1024, .f32⟩
  | .hbm, ⟨41, _⟩ => ⟨S65536x1024, .f32⟩
  | .hbm, ⟨42, _⟩ => ⟨S1x1024, .f32⟩
  | .hbm, ⟨43, _⟩ => ⟨S65536x1024, .f32⟩
  | .hbm, ⟨44, _⟩ => ⟨S65536x1024, .f32⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel5.lean ====
abbrev S65536x1024 : Shape := ⟨2, ![65536, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1x1024x3072 : Shape := ⟨3, ![1, 1024, 3072]⟩
abbrev S1024x2816 : Shape := ⟨2, ![1024, 2816]⟩
abbrev S2816x1024 : Shape := ⟨2, ![2816, 1024]⟩
abbrev S1024 : Shape := ⟨1, ![1024]⟩
abbrev S1024x3072 : Shape := ⟨2, ![1024, 3072]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 23
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1x1024x3072, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x3072, .f32⟩
  | .hbm, ⟨18, _⟩ => ⟨S1024x3072, .bf16⟩
  | .hbm, ⟨19, _⟩ => ⟨S65536x1024, .f32⟩
  | .hbm, ⟨20, _⟩ => ⟨S65536x1024, .bf16⟩
  | .hbm, ⟨21, _⟩ => ⟨S65536x1024, .bf16⟩
  | .hbm, ⟨22, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x3072, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S65536x1024 : Shape := ⟨2, ![65536, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1x1024x3072 : Shape := ⟨3, ![1, 1024, 3072]⟩
abbrev S_ : Shape := ⟨0, ![]⟩
abbrev S1024x2816 : Shape := ⟨2, ![1024, 2816]⟩
abbrev S2816x1024 : Shape := ⟨2, ![2816, 1024]⟩
abbrev S65536x2816 : Shape := ⟨2, ![65536, 2816]⟩
abbrev S1024 : Shape := ⟨1, ![1024]⟩
abbrev S65536 : Shape := ⟨1, ![65536]⟩
abbrev S65536x1 : Shape := ⟨2, ![65536, 1]⟩
abbrev S1024x3072 : Shape := ⟨2, ![1024, 3072]⟩
abbrev S65536x3072 : Shape := ⟨2, ![65536, 3072]⟩
abbrev S65536x3x1024 : Shape := ⟨3, ![65536, 3, 1024]⟩
abbrev S65536x1x1024 : Shape := ⟨3, ![65536, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1x1024x3072, .f32⟩
  | .hbm, ⟨7, _⟩ => ⟨S_, .f32⟩
  | .hbm, ⟨8, _⟩ => ⟨S65536x1024, .f32⟩
  | .hbm, ⟨9, _⟩ => ⟨S65536x1024, .f32⟩
  | .hbm, ⟨10, _⟩ => ⟨S65536x1024, .bf16⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S65536x2816, .f32⟩
  | .hbm, ⟨18, _⟩ => ⟨S65536x2816, .f32⟩
  | .hbm, ⟨19, _⟩ => ⟨S65536x2816, .f32⟩
  | .hbm, ⟨20, _⟩ => ⟨S_, .f32⟩
  | .hbm, ⟨21, _⟩ => ⟨S65536x2816, .f32⟩
  | .hbm, ⟨22, _⟩ => ⟨S65536x2816, .f32⟩
  | .hbm, ⟨23, _⟩ => ⟨S_, .f32⟩
  | .hbm, ⟨24, _⟩ => ⟨S65536x2816, .f32⟩
  | .hbm, ⟨25, _⟩ => ⟨S65536x2816, .f32⟩
  | .hbm, ⟨26, _⟩ => ⟨S65536x2816, .f32⟩
  | .hbm, ⟨27, _⟩ => ⟨S65536x2816, .f32⟩
  | .hbm, ⟨28, _⟩ => ⟨S65536x2816, .f32⟩
  | .hbm, ⟨29, _⟩ => ⟨S65536x2816, .bf16⟩
  | .hbm, ⟨30, _⟩ => ⟨S65536x1024, .f32⟩
  | .hbm, ⟨31, _⟩ => ⟨S65536x1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | .hbm, ⟨60, _⟩ => ⟨S1x1024, .f32⟩
  | .hbm, ⟨61, _⟩ => ⟨S65536x1024, .f32⟩
  | .hbm, ⟨62, _⟩ => ⟨S65536x1024, .f32⟩
  | .hbm, ⟨63, _⟩ => ⟨S65536x1024, .bf16⟩
  | .hbm, ⟨64, _⟩ => ⟨S1024x3072, .f32⟩
  | .hbm, ⟨65, _⟩ => ⟨S1024x3072, .bf16⟩
  | .hbm, ⟨66, _⟩ => ⟨S65536x3072, .f32⟩
  | .hbm, ⟨67, _⟩ => ⟨S65536x3x1024, .f32⟩
  | .hbm, ⟨68, _⟩ => ⟨S65536x1x1024, .f32⟩
  | .hbm, ⟨69, _⟩ => ⟨S65536x1024, .f32⟩
  | .hbm, ⟨70, _⟩ => ⟨S_, .f32⟩
  | .hbm, ⟨71, _⟩ => ⟨S65536x1024, .f32⟩
  | .hbm, ⟨72, _⟩ => ⟨S65536x1024, .f32⟩
  | .hbm, ⟨73, _⟩ => ⟨S65536x1024, .bf16⟩
  | .hbm, ⟨74, _⟩ => ⟨S65536x1x1024, .f32⟩
  | .hbm, ⟨75, _⟩ => ⟨S65536x1024, .f32⟩
  | .hbm, ⟨76, _⟩ => ⟨S65536x1024, .bf16⟩
  | .hbm, ⟨77, _⟩ => ⟨S65536x1x1024, .f32⟩
  | .hbm, ⟨78, _⟩ => ⟨S65536x1024, .f32⟩
  | .hbm, ⟨79, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel6.lean ====
abbrev S65536x1024 : Shape := ⟨2, ![65536, 1024]⟩
abbrev S1024 : Shape := ⟨1, ![1024]⟩
abbrev S1x1024x6208 : Shape := ⟨3, ![1, 1024, 6208]⟩
abbrev S1024x6208 : Shape := ⟨2, ![1024, 6208]⟩
abbrev S1x1024 : Shape := ⟨2, ![1, 1024]⟩
abbrev S1024x2048 : Shape := ⟨2, ![1024, 2048]⟩
abbrev S1024x3072 : Shape := ⟨2, ![1024, 3072]⟩
abbrev S1024x64 : Shape := ⟨2, ![1024, 64]⟩
abbrev S_ : Shape := ⟨0, ![]⟩
abbrev S1024x128 : Shape := ⟨2, ![1024, 128]⟩
abbrev S1024x1024 : Shape := ⟨2, ![1024, 1024]⟩
abbrev S65536x2048 : Shape := ⟨2, ![65536, 2048]⟩
abbrev S65536x3072 : Shape := ⟨2, ![65536, 3072]⟩
abbrev S65536x128 : Shape := ⟨2, ![65536, 128]⟩
abbrev S512x1024 : Shape := ⟨2, ![512, 1024]⟩
abbrev S512x2048 : Shape := ⟨2, ![512, 2048]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 23
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024x6208, .f32⟩
  | .hbm, ⟨4, _⟩ => ⟨S1024x6208, .f32⟩
  | .hbm, ⟨5, _⟩ => ⟨S1x1024, .f32⟩
  | .hbm, ⟨6, _⟩ => ⟨S1x1024, .f32⟩
  | .hbm, ⟨7, _⟩ => ⟨S1024x2048, .f32⟩
  | .hbm, ⟨8, _⟩ => ⟨S1024x2048, .bf16⟩
  | .hbm, ⟨9, _⟩ => ⟨S1024x3072, .f32⟩
  | .hbm, ⟨10, _⟩ => ⟨S1024x3072, .bf16⟩
  | .hbm, ⟨11, _⟩ => ⟨S1024x64, .f32⟩
  | .hbm, ⟨12, _⟩ => ⟨S_, .f32⟩
  | .hbm, ⟨13, _⟩ => ⟨S1024x64, .f32⟩
  | .hbm, ⟨14, _⟩ => ⟨S1024x128, .f32⟩
  | .hbm, ⟨15, _⟩ => ⟨S1024x128, .bf16⟩
  | .hbm, ⟨16, _⟩ => ⟨S1024x1024, .f32⟩
  | .hbm, ⟨17, _⟩ => ⟨S1024x1024, .bf16⟩
  | .hbm, ⟨18, _⟩ => ⟨S65536x1024, .f32⟩
  | .hbm, ⟨19, _⟩ => ⟨S65536x2048, .bf16⟩
  | .hbm, ⟨20, _⟩ => ⟨S65536x3072, .bf16⟩
  | .hbm, ⟨21, _⟩ => ⟨S65536x128, .f32⟩
  | .hbm, ⟨22, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1024x3072, .bf16⟩
  | .local _ .vmem, ⟨6, _⟩ => ⟨S1024x128, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S512x3072, .bf16⟩
  | .local _ .vmem, ⟨13, _⟩ => ⟨S512x3072, .bf16⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S65536x1024 : Shape := ⟨2, ![65536, 1024]⟩
abbrev S1024 : Shape := ⟨1, ![1024]⟩
abbrev S1x1024x6208 : Shape := ⟨3, ![1, 1024, 6208]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1024x6208 : Shape := ⟨2, ![1024, 6208]⟩
abbrev S65536x6208 : Shape := ⟨2, ![65536, 6208]⟩
abbrev S65536x2048 : Shape := ⟨2, ![65536, 2048]⟩
abbrev S65536x3072 : Shape := ⟨2, ![65536, 3072]⟩
abbrev S65536x64 : Shape := ⟨2, ![65536, 64]⟩
abbrev S65536x128 : Shape := ⟨2, ![65536, 128]⟩

abbrev nBuf : Space → Nat
  | .hbm => 46
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024x6208, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S1x1024, .f32⟩
  | .hbm, ⟨31, _⟩ => ⟨S65536x1024, .f32⟩
  | .hbm, ⟨32, _⟩ => ⟨S65536x1024, .f32⟩
  | .hbm, ⟨33, _⟩ => ⟨S65536x1024, .bf16⟩
  | .hbm, ⟨34, _⟩ => ⟨S1024x6208, .f32⟩
  | .hbm, ⟨35, _⟩ => ⟨S1024x6208, .bf16⟩
  | .hbm, ⟨36, _⟩ => ⟨S65536x6208, .f32⟩
  | .hbm, ⟨37, _⟩ => ⟨S65536x2048, .f32⟩
  | .hbm, ⟨38, _⟩ => ⟨S65536x3072, .f32⟩
  | .hbm, ⟨39, _⟩ => ⟨S65536x64, .f32⟩
  | .hbm, ⟨40, _⟩ => ⟨S65536x1024, .f32⟩
  | .hbm, ⟨41, _⟩ => ⟨S_, .i32⟩
  | .hbm, ⟨42, _⟩ => ⟨S_, .f32⟩
  | .hbm, ⟨43, _⟩ => ⟨S65536x128, .f32⟩
  | .hbm, ⟨44, _⟩ => ⟨S65536x2048, .bf16⟩
  | .hbm, ⟨45, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c : Ref sig .tc := ⟨.hbm, 41, rfl⟩
abbrev main_call0_v0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Soft.lean ====
/- The arithmetic of a masked softmax over a window, on extended reals: scores of `-∞` outside the window neither
   move the maximum nor weigh anything, and dividing each weight by the sum of the weights before the weighted sum is
   dividing the weighted sum afterwards. -/
module

public import Idealize.ShloMosaic.Lib.Pointwise

@[expose] public section

noncomputable section

namespace Cert.Natten

open Idealize.ShloMosaic

/-- The greatest of finitely many extended reals. -/
abbrev top {n : ℕ} (s : Fin n → EReal) : EReal := Finset.univ.fold max ⊥ s

/-- The weight of a score: its exponential below the greatest. -/
abbrev wt {n : ℕ} (s : Fin n → EReal) (k : Fin n) : EReal := Ideal.exp (s k - top s)

theorem top_eq_sup {n : ℕ} (s : Fin n → EReal) : top s = Finset.univ.sup s := rfl

/-- Scores of `-∞` outside the window do not move the maximum. -/
theorem top_window {K N : ℕ} (φ : Fin N → Fin K) (S : Fin K → EReal)
    (hS : ∀ k, (∀ n, φ n ≠ k) → S k = ⊥) : top S = top fun n => S (φ n) := by
  rw [top_eq_sup, top_eq_sup]
  apply le_antisymm
  · refine Finset.sup_le fun k _ => ?_
    by_cases h : ∃ n, φ n = k
    · obtain ⟨n, rfl⟩ := h
      exact Finset.le_sup (f := fun n => S (φ n)) (Finset.mem_univ n)
    · rw [hS k fun n e => h ⟨n, e⟩]; exact bot_le
  · exact Finset.sup_le fun n _ => Finset.le_sup (f := S) (Finset.mem_univ (φ n))

theorem exp_bot_sub (x : EReal) : Ideal.exp (⊥ - x) = 0 := by
  rw [sub_eq_add_neg, EReal.bot_add, Ideal.exp_bot]

/-- A sum whose terms vanish outside the window is the sum over the window. -/
theorem sum_window {K N : ℕ} (φ : Fin N → Fin K) (hφ : Function.Injective φ) (f : Fin K → EReal)
    (hf : ∀ k, (∀ n, φ n ≠ k) → f k = 0) : ∑ k, f k = ∑ n, f (φ n) := by
  classical
  rw [← Finset.sum_image (s := Finset.univ) (g := φ) (f := f) (fun a _ b _ h => hφ h)]
  refine (Finset.sum_subset (Finset.subset_univ _) fun k _ hk => hf k fun n e => hk ?_).symm
  exact Finset.mem_image.2 ⟨n, Finset.mem_univ _, e⟩

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- The maximum of finite scores is finite. -/
theorem top_coe {n : ℕ} (s : Fin (n + 1) → ℝ) : ∃ M : ℝ, (top fun k => (s k : EReal)) = M := by
  rw [top_eq_sup]
  obtain ⟨k, -, hk⟩ := Finset.exists_mem_eq_sup Finset.univ (Finset.univ_nonempty) (fun k => (s k : EReal))
  exact ⟨s k, hk⟩

/-- A weighted sum times a positive finite factor is the sum of the terms times it. -/
theorem sum_mul_coe {n : ℕ} (f : Fin n → EReal) (c : ℝ) (hc : 0 < c) : (∑ k, f k) * (c : EReal) = ∑ k, f k * (c : EReal) := by
  have h : ∀ s : Finset (Fin n), (∑ k ∈ s, f k) * (c : EReal) = ∑ k ∈ s, f k * (c : EReal) := by
    classical
    intro s
    induction s using Finset.induction_on with
    | empty => simp
    | insert a s ha ih =>
      rw [Finset.sum_insert ha, Finset.sum_insert ha, ← ih]
      exact EReal.right_distrib_of_nonneg_of_ne_top (by exact_mod_cast hc.le) (EReal.coe_ne_top c) _ _
  exact h _

/-- **The masked softmax.** Scores finite on the window `φ` and `-∞` off it: the weighted sum over all keys, times the
    reciprocal of the sum of the weights, is the softmax of the window's scores against the window's values. -/
theorem soft_window {K N : ℕ} (φ : Fin (N + 1) → Fin K) (hφ : Function.Injective φ) (S V : Fin K → EReal)
    (s : Fin (N + 1) → ℝ) (hs : ∀ n, S (φ n) = (s n : EReal)) (hS : ∀ k, (∀ n, φ n ≠ k) → S k = ⊥) :
    (∑ k, wt S k * V k) * Ideal.div 1 (∑ k, wt S k)
      = ∑ n, Ideal.div (wt (fun n => S (φ n)) n) (∑ n, wt (fun n => S (φ n)) n) * V (φ n) := by
  have hw : ∀ n, wt S (φ n) = wt (fun n => S (φ n)) n := fun n => by
    show Ideal.exp _ = Ideal.exp _
    rw [top_window φ S hS]
  have hz : ∀ k, (∀ n, φ n ≠ k) → wt S k = 0 := fun k hk => by
    show Ideal.exp _ = _
    rw [hS k hk, exp_bot_sub]
  rw [sum_window φ hφ (fun k => wt S k * V k) fun k hk => by rw [hz k hk, zero_mul],
    sum_window φ hφ (fun k => wt S k) hz]
  simp only [hw]
  obtain ⟨M, hM⟩ := top_coe s
  have e : ∀ n, wt (fun n => S (φ n)) n = ((Real.exp (s n - M) : ℝ) : EReal) := fun n => by
    show Ideal.exp _ = _
    rw [show (top fun n => S (φ n)) = (M : EReal) from (congrArg top (funext hs)).trans hM]
    show Ideal.exp (S (φ n) - M) = _
    rw [hs n, ← EReal.coe_sub, Ideal.exp_coe]
  simp only [e, ← coe_sum]
  set Z : ℝ := ∑ n, Real.exp (s n - M) with hZ
  have hZ0 : 0 < Z := Finset.sum_pos (fun n _ => Real.exp_pos _) Finset.univ_nonempty
  rw [Ideal.div_coe hZ0.ne', one_mul, sum_mul_coe _ _ (one_div_pos.2 hZ0)]
  refine Finset.sum_congr rfl fun n _ => ?_
  rw [Ideal.div_coe hZ0.ne', mul_assoc, mul_comm (V _), ← mul_assoc]

end Cert.Natten

end
-- ==== Proof.Spec.lean ====
/- The neighbourhood attention at one output element: the window of a token of the grid, the scores of the window's
   tokens, and the softmax of the scores against their values. -/
module

public import Idealize.ShloMosaic.Lib.Pointwise
public import proofs.«01_k».proof.Proof.Soft

@[expose] public section

noncomputable section

namespace Cert.Natten

open Idealize.ShloMosaic

/-- The window's first row for a token in row `i` of the grid, and its first column for one in column `j`. -/
def rs (i : ℕ) : ℕ := min (i - 4) 120
def cs (j : ℕ) : ℕ := min (j - 8) 48

/-- Token `n` of the window of token `t`, as a token of the grid. -/
def nbr (t : Fin 8192) (n : Fin 128) : Fin 8192 :=
  ⟨(rs (t / 64) + n / 16) * 64 + (cs (t % 64) + n % 16), by unfold rs cs; omega⟩

/-- The row and the column of the bias table for token `n` of the window of token `t`. -/
def ro (t : Fin 8192) (n : Fin 128) : Fin 15 := ⟨rs (t / 64) + n / 16 + 7 - t / 64, by unfold rs; omega⟩
def co (t : Fin 8192) (n : Fin 128) : Fin 31 := ⟨cs (t % 64) + n % 16 + 15 - t % 64, by unfold cs; omega⟩

/-- Dimension `d` of head `h`, as a column. -/
def hd (h : Fin 16) (d : Fin 64) : Fin 1024 := ⟨h * 64 + d, by omega⟩

abbrev SX : Shape := ⟨3, ![8, 8192, 1024]⟩
abbrev SB : Shape := ⟨4, ![1, 16, 15, 31]⟩

/-- The score of token `n` of the window. -/
def score (Q K : SX.Idx → EReal) (B : SB.Idx → EReal) (b : Fin 8) (t : Fin 8192) (h : Fin 16) (n : Fin 128) : EReal :=
  (∑ d : Fin 64, Q (ix3 b t (hd h d)) * K (ix3 b (nbr t n) (hd h d))) + B (ix4 (0 : Fin 1) h (ro t n) (co t n))

/-- The attention's output for token `t`, head `h`, dimension `d`. -/
def att (Q K V : SX.Idx → EReal) (B : SB.Idx → EReal) (b : Fin 8) (t : Fin 8192) (h : Fin 16) (d : Fin 64) : EReal :=
  ∑ n : Fin 128, Ideal.div (wt (score Q K B b t h) n) (∑ n, wt (score Q K B b t h) n) * V (ix3 b (nbr t n) (hd h d))

end Cert.Natten
end
-- ==== Proof.KernelTiles.lean ====
/- What one grid point of the kernel leaves in its output block, as 32 tiles of one form: tile `n` is query row `n / 4` of
   the point's eight and pair of heads `n % 4`. -/
module

public import Idealize.ShloMosaic.Lib.Pipeline.ValueKit
public import proofs.«01_k».proof.Proof.Gen.KernelIdeal.Frame
public import proofs.«01_k».proof.Proof.Spec

@[expose] public section

set_option maxRecDepth 16384

noncomputable section

namespace Cert.Natten

open Idealize.ShloMosaic Idealize.ShloMosaic.TcCoe Cert.KernelIdeal Cert.KernelIdeal.Gen

/-- A tile's query row of the point's eight, and its pair of heads. -/
def tr (n : Fin 32) : Fin 8 := ⟨n / 4, by omega⟩
def tp (n : Fin 32) : Fin 4 := ⟨n % 4, by omega⟩

/-- Where a tile lies in the block of queries, and in the output block. -/
def qOff (n : Fin 32) : Fin 3 → ℕ := ![0, (tr n).val * 64, (tp n).val * 128]

theorem qOff_inb : ∀ (n : Fin 32) (a : Fin 3), qOff n a + S1x64x128.size a ≤ S1x512x512.size a := by decide +kernel

/-- Where its keys and values lie. -/
def kOff (i : grid1.Coords) (r : Fin 8) : Fin 4 → Fin 3 → ℕ
  | 0 => k1_off1 i (BitVec.ofNat 32 r.val)
  | 1 => k1_off3 i (BitVec.ofNat 32 r.val)
  | 2 => k1_off5 i (BitVec.ofNat 32 r.val)
  | 3 => k1_off7 i (BitVec.ofNat 32 r.val)

theorem kOff_inb (i : grid1.Coords) (r : Fin 8) : ∀ (p : Fin 4) (a : Fin 3), kOff i r p a + S1x512x128.size a ≤ S1x8192x512.size a
  | 0 => k1_off1_inb i r
  | 1 => k1_off3_inb i r
  | 2 => k1_off5_inb i r
  | 3 => k1_off7_inb i r

/-- Where its biases lie. -/
def bOff (i : grid1.Coords) (r : Fin 8) : Fin 4 → Fin 4 → ℕ
  | 0 => k1_off2 i (BitVec.ofNat 32 r.val)
  | 1 => k1_off4 i (BitVec.ofNat 32 r.val)
  | 2 => k1_off6 i (BitVec.ofNat 32 r.val)
  | 3 => k1_off8 i (BitVec.ofNat 32 r.val)

theorem bOff_inb (i : grid1.Coords) (r : Fin 8) : ∀ (p : Fin 4) (a : Fin 4), bOff i r p a + S1x1x128x512.size a ≤ S8x4x128x512.size a
  | 0 => k1_off2_inb i r
  | 1 => k1_off4_inb i r
  | 2 => k1_off6_inb i r
  | 3 => k1_off8_inb i r

variable (i : grid1.Coords) (X0 : Vec Ideal S1x512x512 .bf16) (X1 X2 : Vec Ideal S1x8192x512 .bf16) (X3 : Vec Ideal S8x4x128x512 .f32)

def qTile (n : Fin 32) : Vec Ideal S1x64x128 .bf16 := View.ld X0 (Rect.unit (s := S1x512x512) (qOff n) S1x64x128.size (qOff_inb n))
def kvTile (n : Fin 32) : Vec Ideal S1x512x128 .bf16 := View.ld X1 (Rect.unit (s := S1x8192x512) (kOff i (tr n) (tp n)) S1x512x128.size (kOff_inb i (tr n) (tp n)))
def bTile (n : Fin 32) : Vec Ideal S1x1x128x512 .f32 := View.ld X3 (Rect.unit (s := S8x4x128x512) (bOff i (tr n) (tp n)) S1x1x128x512.size (bOff_inb i (tr n) (tp n)))

/-- The scores of one tile, and of all, one below the other. -/
def scTile (n : Fin 32) : FVec Ideal S128x512 .f32 := k1_pay3 (qTile X0 n) (kvTile i X1 n) (bTile i X3 n)

def scAll : FVec Ideal S4096x512 .f32 :=
  concatenate S4096x512 0 (List.ofFn fun n : Fin 32 => (⟨S128x512, scTile i X0 X1 X3 n⟩ : (s : Shape) × FVec Ideal s .f32)) concatenates_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S4096x512_d0

def mxAll (S : FVec Ideal S4096x512 .f32) : FVec Ideal S4096x512 .f32 :=
  broadcastTo S4096x512 (shapeCast S4096x1 (multiReduction .maximumf [1] S4096 S 0xFF800000#32 reduces_S4096x512_S4096 (.inl rfl) rfl) shapeCasts_S4096_S4096x1) broadcasts_S4096x1_S4096x512

theorem slices_rows : ∀ n : Fin 32, S4096x512.Slices ![n.val * 128, 0] S128x512 := by decide +kernel
theorem slices_col : ∀ n : Fin 32, S4096x1.Slices ![n.val * 128, 0] S128x1 := by decide +kernel

/-- What a tile stores: its weights times its values, over the sum of the weights; even heads' lanes from the upper
    rows, odd heads' from the lower. -/
def oTile (inv : FVec Ideal S4096x1 .f32) (e : FVec Ideal S4096x512 .bf16) (n : Fin 32) (v : Vec Ideal S1x512x128 .bf16) : FVec Ideal S1x64x128 .bf16 :=
  let o : FVec Ideal S128x128 .f32 := mulf
    (matmul dot_S128x512_S512x128_S128x128_1_0_0_1_n_n none (extractStridedSlice S128x512 ![n.val * 128, 0] e (slices_rows n)) (shapeCast S512x128 v shapeCasts_S1x512x128_S512x128 : FVec Ideal S512x128 .bf16) (constant S128x128 .f32 0x00000000#32) : FVec Ideal S128x128 .f32)
    (broadcastTo S128x128 (extractStridedSlice S128x1 ![n.val * 128, 0] inv (slices_col n)) broadcasts_S128x1_S128x128)
  shapeCast S1x64x128 (truncf .bf16 (select k1_pay2 (extractStridedSlice S64x128 ![0, 0] o slices_S128x128_o0_0_S64x128) (extractStridedSlice S64x128 ![64, 0] o slices_S128x128_o64_0_S64x128)) bitsLt_bf16_f32) shapeCasts_S64x128_S1x64x128

def tile (n : Fin 32) : FVec Ideal S1x64x128 .bf16 :=
  oTile (k1_pay54 (scAll i X0 X1 X3) (mxAll (scAll i X0 X1 X3))) (k1_pay55 (scAll i X0 X1 X3) (mxAll (scAll i X0 X1 X3))) n (kvTile i X2 n)

theorem pieces_eq (c : Dev nD) (arg3 : Memref sig .tc .vmem S1x512x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S8x4x128x512 .f32) (harg6 : arg6.IsWhole) (arg7 : Memref sig .tc .vmem S1x512x512 .bf16) (harg7 : arg7.IsWhole) :
    (kernelRun1_A (F := Ideal) c i arg3 harg3 arg4 harg4 arg5 harg5 arg6 harg6 arg7 harg7 X0 X1 X2 X3).1
      = List.ofFn fun k : Fin 32 => (⟨Rect.unit (s := S1x512x512) (qOff k.rev) S1x64x128.size (qOff_inb k.rev),
          tile i (arg3.view.read (Elt Ideal) (harg3.unread X0)) (arg4.view.read (Elt Ideal) (harg4.unread X1)) (arg5.view.read (Elt Ideal) (harg5.unread X2)) (arg6.view.read (Elt Ideal) (harg6.unread X3)) k.rev⟩ : View.Piece (Elt Ideal) S1x512x512 .bf16) := by
  sl_kernel_rfl

end Cert.Natten
end
-- ==== Proof.TileAt.lean ====
/- One tile of the kernel's output block, entry by entry. -/
module

public import proofs.«01_k».proof.Proof.KernelTiles

@[expose] public section

set_option maxRecDepth 16384

noncomputable section

namespace Cert.Natten

open Idealize.ShloMosaic Idealize.ShloMosaic.TcCoe Cert.KernelIdeal Cert.KernelIdeal.Gen

/-- A row of a tile: head `u` of the pair, query `y`. -/
def row (u : Fin 2) (y : Fin 64) : Fin 128 := ⟨u * 64 + y, by omega⟩
/-- A lane of the pair of heads: head `u`, dimension `d`. -/
def lane (u : Fin 2) (d : Fin 64) : Fin 128 := ⟨u * 64 + d, by omega⟩

theorem outsAt1_at (V : (c : Dev nD) → (b : Ref sig .tc) → Buf (Elt Ideal) ((c : Thread nD τ).loc b)) (c : Dev nD) (t : Fin cfg1.N)
    (j : S1x512x512.Idx) (n : Fin 32) (x : S1x64x128.Idx) (hj : ∀ a : Fin 3, (j a : ℕ) = qOff n a + x a) :
    outsAt1 V c t j = tile (grid1.coords t) (iblk1 V c 0 t) (iblk1 V c 1 t) (iblk1 V c 2 t) (iblk1 V c 3 t) n x := by
  unfold outsAt1 out1_A_4
  rw [View.read_writes_junk_eq_canon, pieces_eq, (hs1_0 t).read_unread, (hs1_1 t).read_unread, (hs1_2 t).read_unread, (hs1_3 t).read_unread]
  · have x1 : (x 1).val < 64 := (x 1).isLt
    have x2 : (x 2).val < 128 := (x 2).isLt
    refine View.canon_ofFn_unit_eq_of_forall (S := S1x512x512) (fun k : Fin 32 => qOff k.rev) S1x64x128.size (fun k => qOff_inb k.rev) _ j _ ⟨n.rev, ?_⟩ ?_
    · intro a
      rw [Fin.rev_rev, hj a]
      have := (x a).isLt
      exact ⟨by omega, by omega⟩
    · intro k x' hx'
      have e : k.rev = n := by
        have h1 := (hx' 1).symm.trans (hj 1)
        have h2 := (hx' 2).symm.trans (hj 2)
        have x1' : (x' 1).val < 64 := (x' 1).isLt
        have x2' : (x' 2).val < 128 := (x' 2).isLt
        simp only [qOff, tr, tp, Matrix.cons_val] at h1 h2
        exact Fin.ext (by omega)
      subst e
      congr 1
      funext a
      have := (hx' a).symm.trans (hj a)
      exact Fin.ext (by omega)

theorem lo_half : ∀ l : Fin 128, IntOp.cmpi .slt (BitVec.ofNat 32 l.val) 64#32 = if l.val < 64 then 1#1 else 0#1 := by decide +kernel

theorem sum_lanes (f : Fin 128 → EReal) : ∑ x, f x = (∑ d, f (lane 0 d)) + ∑ d, f (lane 1 d) := by
  refine (Fin.sum_univ_add (a := 64) (b := 64) f).trans ?_
  congr 1 <;> exact Finset.sum_congr rfl fun d _ => congrArg f (Fin.ext (by simp [lane]))

theorem pay3_at (q : Vec Ideal S1x64x128 .bf16) (k : Vec Ideal S1x512x128 .bf16) (b : Vec Ideal S1x1x128x512 .f32) (u : Fin 2) (y : Fin 64) (s : Fin 512) :
    k1_pay3 (F := Ideal) q k b (ix2 (row u y) s) = (∑ d : Fin 64, q (ix3 (0 : Fin 1) y (lane u d)) * k (ix3 (0 : Fin 1) s (lane u d)))
      + b (ix4 (0 : Fin 1) (0 : Fin 1) (row u y) s) := by
  pointwise [k1_pay3, k1_pay2]
  congr 1
  rw [sum_lanes]
  simp only [lo_half]
  fin_cases u
  · have hr : (row 0 y).val < 64 := by simp [row]
    have e : (⟨(row 0 y).val, hr⟩ : Fin 64) = y := Fin.ext (by simp [row])
    simp [hr, lane, Scalar.select, row]
  · have hr : ¬ (row 1 y).val < 64 := by simp [row]
    have e : (⟨(row 1 y).val - 64, by simp [row]⟩ : Fin 64) = y := Fin.ext (by simp [row])
    simp [hr, lane, Scalar.select, row]

theorem oTile_at (inv : FVec Ideal S4096x1 .f32) (e : FVec Ideal S4096x512 .bf16) (n : Fin 32) (v : Vec Ideal S1x512x128 .bf16) (u : Fin 2) (y d : Fin 64) :
    oTile inv e n v (ix3 (0 : Fin 1) y (lane u d)) = (∑ s : Fin 512, e (ix2 (⟨n * 128 + row u y, by omega⟩ : Fin 4096) s) * v (ix3 (0 : Fin 1) s (lane u d))) * inv (ix2 (⟨n * 128 + row u y, by omega⟩ : Fin 4096) (0 : Fin 1)) := by
  pointwise [oTile, k1_pay2]
  rw [lo_half]
  fin_cases u
  · simp [row, lane, Scalar.select]
  · simp [row, lane, Scalar.select]

/-- The scores of a tile's row. -/
def rowScore (q : Vec Ideal S1x64x128 .bf16) (k : Vec Ideal S1x512x128 .bf16) (b : Vec Ideal S1x1x128x512 .f32) (u : Fin 2) (y : Fin 64) (s : Fin 512) : EReal :=
  (∑ d : Fin 64, q (ix3 (0 : Fin 1) y (lane u d)) * k (ix3 (0 : Fin 1) s (lane u d))) + b (ix4 (0 : Fin 1) (0 : Fin 1) (row u y) s)

theorem kNegInf : Ideal.ofBits .f32 0xFF800000#32 = ⊥ := by simp [Ideal.ofBits, Ideal.ieee]

theorem mxAll_at (S : FVec Ideal S4096x512 .f32) (r : Fin 4096) (s : Fin 512) : mxAll S (ix2 r s) = top (fun k => S (ix2 r k)) := by
  pointwise [mxAll]
  rw [kNegInf, top]

theorem pay55_at (S M : FVec Ideal S4096x512 .f32) (r : Fin 4096) (s : Fin 512) : k1_pay55 S M (ix2 r s) = Ideal.exp (S (ix2 r s) - M (ix2 r s)) := by
  pointwise [k1_pay55, k1_pay53]

theorem pay54_at (S M : FVec Ideal S4096x512 .f32) (r : Fin 4096) : k1_pay54 S M (ix2 r (0 : Fin 1)) = Ideal.div 1 (∑ s, Ideal.exp (S (ix2 r s) - M (ix2 r s))) := by
  pointwise [k1_pay54, k1_pay53]

variable (i : grid1.Coords) (X0 : Vec Ideal S1x512x512 .bf16) (X1 X2 : Vec Ideal S1x8192x512 .bf16) (X3 : Vec Ideal S8x4x128x512 .f32)

theorem scAll_at (n : Fin 32) (u : Fin 2) (y : Fin 64) (s : Fin 512) :
    scAll i X0 X1 X3 (ix2 (⟨n * 128 + row u y, by omega⟩ : Fin 4096) s) = rowScore (qTile X0 n) (kvTile i X1 n) (bTile i X3 n) u y s := by
  rw [rowScore, ← pay3_at]
  refine concatenate_ofFn_apply (t := S4096x512) (0 : Fin 2) (fun n : Fin 32 => scTile i X0 X1 X3 n) _ rfl 128 rfl _ n ?_ (ix2 (row u y) s) ?_ ?_
  · show (n.val * 128 + (row u y).val) / 128 = n.val
    have := (row u y).isLt; omega
  · show (row u y).val = (n.val * 128 + (row u y).val) % 128
    have := (row u y).isLt; omega
  · intro b hb
    match b with
    | 0 => exact absurd rfl hb
    | 1 => rfl

/-- A tile's entry: the softmax of its row's scores against its values. -/
theorem tile_at (n : Fin 32) (u : Fin 2) (y d : Fin 64) :
    tile i X0 X1 X2 X3 n (ix3 (0 : Fin 1) y (lane u d))
      = (∑ s, wt (rowScore (qTile X0 n) (kvTile i X1 n) (bTile i X3 n) u y) s * kvTile i X2 n (ix3 (0 : Fin 1) s (lane u d)))
        * Ideal.div 1 (∑ s, wt (rowScore (qTile X0 n) (kvTile i X1 n) (bTile i X3 n) u y) s) := by
  rw [tile, oTile_at, pay54_at]
  simp only [pay55_at, mxAll_at, scAll_at, wt]

end Cert.Natten
end
-- ==== Proof.Offsets.lean ====
/- Where a grid point's blocks and tiles lie in their arrays. -/
module

public import proofs.«01_k».proof.Proof.TileAt

@[expose] public section

set_option maxRecDepth 16384

noncomputable section

namespace Cert.Natten

open Idealize.ShloMosaic Idealize.ShloMosaic.TcCoe Cert.KernelIdeal Cert.KernelIdeal.Gen

/-- The grid row a tile's queries lie in. -/
def gr (t : Fin cfg1.N) (r : Fin 8) : ℕ := (grid1.coords t 2).val * 8 + r.val

theorem gr_lt (t : Fin cfg1.N) (r : Fin 8) : gr t r < 128 := by
  have h : (grid1.coords t 2).val < 16 := (grid1.coords t 2).isLt
  unfold gr; omega

theorem half_lt (t : Fin cfg1.N) : (grid1.coords t 0).val < 2 := (grid1.coords t 0).isLt
theorem batch_lt (t : Fin cfg1.N) : (grid1.coords t 1).val < 8 := (grid1.coords t 1).isLt
theorem group_lt (t : Fin cfg1.N) : (grid1.coords t 2).val < 16 := (grid1.coords t 2).isLt

theorem kOff_eq : ∀ (t : Fin grid1.N) (r : Fin 8) (p : Fin 4),
    kOff (grid1.coords t) r p = ![0, rs (gr t r) * 64, p.val * 128] := by
  unfold gr
  decide +kernel

theorem bOff_eq : ∀ (t : Fin grid1.N) (r : Fin 8) (p : Fin 4),
    bOff (grid1.coords t) r p = ![gr t r - rs (gr t r), p.val, 0, 0] := by
  unfold gr
  decide +kernel

theorem blocks_at : ∀ t : Fin cfg1.N,
    win1_0.index t = ![(grid1.coords t 1).val, (grid1.coords t 2).val, (grid1.coords t 0).val]
    ∧ win1_1.index t = ![(grid1.coords t 1).val, 0, (grid1.coords t 0).val]
    ∧ win1_2.index t = ![(grid1.coords t 1).val, 0, (grid1.coords t 0).val]
    ∧ win1_3.index t = ![0, (grid1.coords t 0).val, 0, 0]
    ∧ win1_4.index t = ![(grid1.coords t 1).val, (grid1.coords t 2).val, (grid1.coords t 0).val] :=
  (by decide +kernel : ∀ t : Fin grid1.N, _)

/-- The head of lane half `u` of a tile. -/
def hOf (t : Fin cfg1.N) (n : Fin 32) (u : Fin 2) : Fin 16 :=
  ⟨((grid1.coords t 0).val * 4 + tp n) * 2 + u, by have := half_lt t; omega⟩

/-- The token of row `y` of a tile. -/
def tOf (t : Fin cfg1.N) (n : Fin 32) (y : Fin 64) : Fin 8192 :=
  ⟨gr t (tr n) * 64 + y, by have := gr_lt t (tr n); omega⟩

def bOf (t : Fin cfg1.N) : Fin 8 := ⟨(grid1.coords t 1).val, batch_lt t⟩

/-- The token of row `s` of the eight rows of keys. -/
def sOf (t : Fin cfg1.N) (n : Fin 32) (s : Fin 512) : Fin 8192 :=
  ⟨rs (gr t (tr n)) * 64 + s, by unfold rs; omega⟩

/-- The distance of the query row from the window's first row. -/
def dOf (t : Fin cfg1.N) (n : Fin 32) : Fin 8 :=
  ⟨gr t (tr n) - rs (gr t (tr n)), by have := gr_lt t (tr n); unfold rs; omega⟩

end Cert.Natten
end
-- ==== Proof.PointAt.lean ====
/- What a grid point reads: its tiles of queries, keys, values and biases at coordinates of the arrays. -/
module

public import proofs.«01_k».proof.Proof.Offsets

@[expose] public section

set_option maxRecDepth 16384

noncomputable section

namespace Cert.Natten

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem q_at (t : Fin cfg1.N) (n : Fin 32) (y : Fin 64) (u : Fin 2) (d : Fin 64) :
    qTile (iblk1 V c 0 t) n (ix3 (0 : Fin 1) y (lane u d)) = (V c main_arg0 : SX.Idx → EReal) (ix3 (bOf t) (tOf t n y) (hd (hOf t n u) d)) := by
  unfold qTile
  refine (View.ld_unit_apply_of _ _ _ _ _ (ix3 (0 : Fin 1) (⟨(tr n).val * 64 + y, by omega⟩ : Fin 512) (⟨(tp n).val * 128 + lane u d, by omega⟩ : Fin 512)) ?_).trans ?_
  · intro a; fin_cases a <;> rfl
  · blk_ext [iblk1, blocks_at t]
    all_goals simp only [bOf, tOf, hd, hOf, gr, lane]
    all_goals omega

theorem k_at (t : Fin cfg1.N) (n : Fin 32) (s : Fin 512) (u : Fin 2) (d : Fin 64) :
    kvTile (grid1.coords t) (iblk1 V c 1 t) n (ix3 (0 : Fin 1) s (lane u d)) = (V c main_arg1 : SX.Idx → EReal) (ix3 (bOf t) (sOf t n s) (hd (hOf t n u) d)) := by
  unfold kvTile
  refine (View.ld_unit_apply_of _ _ _ _ _ (ix3 (0 : Fin 1) (sOf t n s) (⟨(tp n).val * 128 + lane u d, by omega⟩ : Fin 512)) ?_).trans ?_
  · intro a; refine Eq.trans ?_ (congrArg (· + _) (congrFun (kOff_eq t (tr n) (tp n)) a).symm); fin_cases a <;> rfl
  · blk_ext [iblk1, blocks_at t]
    all_goals simp only [bOf, sOf, hd, hOf, gr, lane]
    all_goals omega

theorem v_at (t : Fin cfg1.N) (n : Fin 32) (s : Fin 512) (u : Fin 2) (d : Fin 64) :
    kvTile (grid1.coords t) (iblk1 V c 2 t) n (ix3 (0 : Fin 1) s (lane u d)) = (V c main_arg2 : SX.Idx → EReal) (ix3 (bOf t) (sOf t n s) (hd (hOf t n u) d)) := by
  unfold kvTile
  refine (View.ld_unit_apply_of _ _ _ _ _ (ix3 (0 : Fin 1) (sOf t n s) (⟨(tp n).val * 128 + lane u d, by omega⟩ : Fin 512)) ?_).trans ?_
  · intro a; refine Eq.trans ?_ (congrArg (· + _) (congrFun (kOff_eq t (tr n) (tp n)) a).symm); fin_cases a <;> rfl
  · blk_ext [iblk1, blocks_at t]
    all_goals simp only [bOf, sOf, hd, hOf, gr, lane]
    all_goals omega

theorem b_at (t : Fin cfg1.N) (n : Fin 32) (r : Fin 128) (s : Fin 512) :
    bTile (grid1.coords t) (iblk1 V c 3 t) n (ix4 (0 : Fin 1) (0 : Fin 1) r s)
      = (V c main_v16 : S8x8x128x512.Idx → EReal) (ix4 (dOf t n) ⟨(grid1.coords t 0).val * 4 + tp n, by have := half_lt t; omega⟩ r s) := by
  unfold bTile
  refine (View.ld_unit_apply_of _ _ _ _ _ (ix4 (dOf t n) (tp n) r s) ?_).trans ?_
  · intro a; refine Eq.trans ?_ (congrArg (· + _) (congrFun (bOff_eq t (tr n) (tp n)) a).symm); fin_cases a
    · rfl
    · rfl
    · exact (Nat.zero_add _).symm
    · exact (Nat.zero_add _).symm
  · blk_ext [iblk1, blocks_at t]

end Cert.Natten
end
-- ==== Proof.Gather.lean ====
/- A gather read at an index, one axis of its operand at a time. -/
module

public import Idealize.ShloMosaic.Lib.Pointwise
public import proofs.«01_k».proof.Proof.Gen.ReferenceIdeal
public import proofs.«01_k».proof.Proof.Gen.KernelIdeal

@[expose] public section

set_option maxRecDepth 16384

noncomputable section

namespace Cert.Natten

open Idealize.ShloMosaic

variable {s si t : Shape} (d : GatherDims s si t)

/-- An axis the gather carries through whole: the result's coordinate on the axis in its place. -/
theorem gather_axis_kept (j : t.Idx) (idx : IVec si 32) (a : Fin s.rank) (hs : a ∉ d.startIndexMap)
    (hb : a ∉ d.operandBatchingDims) (hk : a ∈ d.sKept) :
    (d.operandIdx j idx a).val
      = (j (d.offsetDims[d.sKept.idxOf a]'(by rw [d.offset_length]; exact List.idxOf_lt_length_iff.2 hk))).val := by
  show d.start j idx a + d.batchCoord j a + d.offCoord j a = _
  rw [d.batchCoord_eq_zero j a hb]
  unfold GatherDims.start GatherDims.offCoord
  rw [dif_neg hs, dif_pos hk]
  exact (Nat.zero_add _).trans rfl

/-- An axis the gather indexes: the entry of the table of indices, when it is in range. -/
theorem gather_axis_indexed (j : t.Idx) (idx : IVec si 32) (a : Fin s.rank) (hs : a ∈ d.startIndexMap)
    (hb : a ∉ d.operandBatchingDims) (hk : a ∉ d.sKept) (i : si.Idx)
    (hi : d.siIdx j ⟨d.startIndexMap.idxOf a, List.idxOf_lt_length_iff.2 hs⟩ = i) (u : ℕ) (hu : idx i = BitVec.ofNat 32 u)
    (hlt : u < 2 ^ 31) (hle : u ≤ s.size a - d.sliceSizes a) : (d.operandIdx j idx a).val = u := by
  show d.start j idx a + d.batchCoord j a + d.offCoord j a = _
  rw [d.batchCoord_eq_zero j a hb, d.offCoord_eq_zero j a hk]
  unfold GatherDims.start
  rw [dif_pos hs, hi, hu, BitVec.toInt_ofNat', Int.bmod_eq_of_le (by omega) (by omega)]
  simp only [Int.toNat_natCast]; omega

section
open Cert.ReferenceIdeal

theorem gather_tokens {α : Type} (x : S8x8192x16x64.Idx → α) (idx : IVec S8192x128x1 32) (b : Fin 8) (t : Fin 8192)
    (n : Fin 128) (h : Fin 16) (e : Fin 64) (u : Fin 8192) (hu : idx (ix3 t n (0 : Fin 1)) = BitVec.ofNat 32 u.val) :
    Host.gather gather_S8x8192x16x64_S8192x128x1_S8x8192x128x16x64_034_1_n_n_1_2_811664 x idx (ix5 b t n h e) = x (ix4 b u h e) := by
  unfold Host.gather
  refine congrArg x (funext fun y => Fin.ext ?_)
  match y with
  | 0 => exact (gather_axis_kept gather_S8x8192x16x64_S8192x128x1_S8x8192x128x16x64_034_1_n_n_1_2_811664 _ idx (0 : Fin 4) (by decide) (by decide) (by decide)).trans rfl
  | 1 =>
    refine gather_axis_indexed gather_S8x8192x16x64_S8192x128x1_S8x8192x128x16x64_034_1_n_n_1_2_811664 _ idx (1 : Fin 4) (by decide) (by decide) (by decide) (ix3 t n (0 : Fin 1)) ?_ u.val hu ?_ ?_
    · funext a; apply Fin.ext
      match a with
      | 0 => rfl
      | 1 => rfl
      | 2 => rfl
    · omega
    · show u.val ≤ 8192 - 1; omega
  | 2 => exact (gather_axis_kept gather_S8x8192x16x64_S8192x128x1_S8x8192x128x16x64_034_1_n_n_1_2_811664 _ idx (2 : Fin 4) (by decide) (by decide) (by decide)).trans rfl
  | 3 => exact (gather_axis_kept gather_S8x8192x16x64_S8192x128x1_S8x8192x128x16x64_034_1_n_n_1_2_811664 _ idx (3 : Fin 4) (by decide) (by decide) (by decide)).trans rfl

theorem gather_bias {α : Type} (x : S16x15x31.Idx → α) (idx : IVec S8192x128x2 32) (t : Fin 8192)
    (n : Fin 128) (h : Fin 16) (u : Fin 15) (w : Fin 31) (hu : idx (ix3 t n (0 : Fin 2)) = BitVec.ofNat 32 u.val)
    (hw : idx (ix3 t n (1 : Fin 2)) = BitVec.ofNat 32 w.val) :
    Host.gather gather_S16x15x31_S8192x128x2_S16x8192x128_0_12_n_n_12_2_1611 x idx (ix3 h t n) = x (ix3 h u w) := by
  unfold Host.gather
  refine congrArg x (funext fun y => Fin.ext ?_)
  match y with
  | 0 => exact (gather_axis_kept gather_S16x15x31_S8192x128x2_S16x8192x128_0_12_n_n_12_2_1611 _ idx (0 : Fin 3) (by decide) (by decide) (by decide)).trans rfl
  | 1 =>
    refine gather_axis_indexed gather_S16x15x31_S8192x128x2_S16x8192x128_0_12_n_n_12_2_1611 _ idx (1 : Fin 3) (by decide) (by decide) (by decide) (ix3 t n (0 : Fin 2)) ?_ u.val hu ?_ ?_
    · funext a; apply Fin.ext
      match a with
      | 0 => rfl
      | 1 => rfl
      | 2 => rfl
    · omega
    · show u.val ≤ 15 - 1; omega
  | 2 =>
    refine gather_axis_indexed gather_S16x15x31_S8192x128x2_S16x8192x128_0_12_n_n_12_2_1611 _ idx (2 : Fin 3) (by decide) (by decide) (by decide) (ix3 t n (1 : Fin 2)) ?_ w.val hw ?_ ?_
    · funext a; apply Fin.ext
      match a with
      | 0 => rfl
      | 1 => rfl
      | 2 => rfl
    · omega
    · show w.val ≤ 31 - 1; omega
end

section
open Cert.KernelIdeal

theorem gather_rows {α : Type} (x : S16x15x31.Idx → α) (idx : IVec S8x8x1 32) (h : Fin 16) (p a : Fin 8) (c : Fin 31)
    (u : Fin 15) (hu : idx (ix3 p a (0 : Fin 1)) = BitVec.ofNat 32 u.val) :
    Host.gather gather_S16x15x31_S8x8x1_S16x8x8x31_03_1_n_n_1_2_16131 x idx (ix4 h p a c) = x (ix3 h u c) := by
  unfold Host.gather
  refine congrArg x (funext fun y => Fin.ext ?_)
  match y with
  | 0 => exact (gather_axis_kept gather_S16x15x31_S8x8x1_S16x8x8x31_03_1_n_n_1_2_16131 _ idx (0 : Fin 3) (by decide) (by decide) (by decide)).trans rfl
  | 1 =>
    refine gather_axis_indexed gather_S16x15x31_S8x8x1_S16x8x8x31_03_1_n_n_1_2_16131 _ idx (1 : Fin 3) (by decide) (by decide) (by decide) (ix3 p a (0 : Fin 1)) ?_ u.val hu ?_ ?_
    · funext a; apply Fin.ext
      match a with
      | 0 => rfl
      | 1 => rfl
      | 2 => rfl
    · omega
    · show u.val ≤ 15 - 1; omega
  | 2 => exact (gather_axis_kept gather_S16x15x31_S8x8x1_S16x8x8x31_03_1_n_n_1_2_16131 _ idx (2 : Fin 3) (by decide) (by decide) (by decide)).trans rfl

theorem gather_cols {α : Type} (x : S16x8x8x31.Idx → α) (idx : IVec S64x64x1 32) (h : Fin 16) (p a : Fin 8) (j k : Fin 64)
    (u : Fin 31) (hu : idx (ix3 j k (0 : Fin 1)) = BitVec.ofNat 32 u.val) :
    Host.gather gather_S16x8x8x31_S64x64x1_S16x8x8x64x64_012_3_n_n_3_2_16881 x idx (ix5 h p a j k) = x (ix4 h p a u) := by
  unfold Host.gather
  refine congrArg x (funext fun y => Fin.ext ?_)
  match y with
  | 0 => exact (gather_axis_kept gather_S16x8x8x31_S64x64x1_S16x8x8x64x64_012_3_n_n_3_2_16881 _ idx (0 : Fin 4) (by decide) (by decide) (by decide)).trans rfl
  | 1 => exact (gather_axis_kept gather_S16x8x8x31_S64x64x1_S16x8x8x64x64_012_3_n_n_3_2_16881 _ idx (1 : Fin 4) (by decide) (by decide) (by decide)).trans rfl
  | 2 => exact (gather_axis_kept gather_S16x8x8x31_S64x64x1_S16x8x8x64x64_012_3_n_n_3_2_16881 _ idx (2 : Fin 4) (by decide) (by decide) (by decide)).trans rfl
  | 3 =>
    refine gather_axis_indexed gather_S16x8x8x31_S64x64x1_S16x8x8x64x64_012_3_n_n_3_2_16881 _ idx (3 : Fin 4) (by decide) (by decide) (by decide) (ix3 j k (0 : Fin 1)) ?_ u.val hu ?_ ?_
    · funext a; apply Fin.ext
      match a with
      | 0 => rfl
      | 1 => rfl
      | 2 => rfl
    · omega
    · show u.val ≤ 31 - 1; omega
end

end Cert.Natten
end
-- ==== Proof.Table.lean ====
/- The bias table the kernel's host part builds: case `d`, pair of heads, head and query column, key row and key column.
   A key outside the query's window holds the mask. -/
module

public import Idealize.ShloMosaic.Lib.Pipeline.ValueKit
public import Idealize.ShloMosaic.Lib.Claim
public import proofs.«01_k».proof.Proof.Gen.KernelIdeal.Frame
public import proofs.«01_k».proof.Proof.Gather
public import proofs.«01_k».proof.Proof.Spec

@[expose] public section

set_option maxRecDepth 16384

noncomputable section

namespace Cert.Natten

open Idealize.ShloMosaic Idealize.ShloMosaic.TcCoe Cert.KernelIdeal Cert.KernelIdeal.Gen

def rowI : IVec S8x8x1 32 :=
  broadcastInDim S8x8x1 ![0, 1] bcast_S8x8_S8x8x1_0_1 (select (constantI S8x8 1 0#1) (addi (fun i => lit0 (S8x8.rowMajor i)) (broadcastInDim S8x8 ![] bcast_S_S8x8 (constantI S_ 32 15#32))) (fun i => lit0 (S8x8.rowMajor i)))

def colI : IVec S64x64x1 32 :=
  broadcastInDim S64x64x1 ![0, 1] bcast_S64x64_S64x64x1_0_1 (select (constantI S64x64 1 0#1) (addi (fun i => lit1 (S64x64.rowMajor i)) (broadcastInDim S64x64 ![] bcast_S_S64x64 (constantI S_ 32 31#32))) (fun i => lit1 (S64x64.rowMajor i)))

/-- The table before the mask. -/
def tabT (B : FVec Ideal S1x16x15x31 .f32) (I : IVec S8x8x1 32) (J : IVec S64x64x1 32) : FVec Ideal S8x16x64x8x64 .f32 :=
  transpose S8x16x64x8x64 [1, 0, 3, 2, 4] (Host.gather gather_S16x8x8x31_S64x64x1_S16x8x8x64x64_012_3_n_n_3_2_16881 (Host.gather gather_S16x15x31_S8x8x1_S16x8x8x31_03_1_n_n_1_2_16131 (shapeCast _ B shapeCasts_S1x16x15x31_S16x15x31) I) J) transposes_S16x8x8x64x64_S8x16x64x8x64_1_0_3_2_4

def inWin : IVec S8x16x64x8x64 1 :=
  broadcastInDim S8x16x64x8x64 ![0, 1, 2, 3, 4] bcast_S1x1x64x1x64_S8x16x64x8x64_0_1_2_3_4 (broadcastInDim S1x1x64x1x64 ![2, 4] bcast_S64x64_S1x1x64x1x64_2_4 (fun i => lit2 (S64x64.rowMajor i)))

def biasT (T : FVec Ideal S8x16x64x8x64 .f32) (M : FVec Ideal S8x64 .f32) : FVec Ideal S8x8x128x512 .f32 :=
  shapeCast _ (select inWin T (broadcastInDim S8x16x64x8x64 ![3, 4] bcast_S8x64_S8x16x64x8x64_3_4 M)) shapeCasts_S8x16x64x8x64_S8x8x128x512

theorem W1_v12 (m : (ℓ : Loc nD τ sig) → Buf (Elt Ideal) ℓ) (ρ : Dev nD → PrngReg) (c : Dev nD) :
    W1 m ρ c (Proc.devRef .tc main_v12) = tabT (m ((c : Thread nD τ).loc main_arg3)) rowI colI := by
  after_results
  rfl

theorem W1_v0 (m : (ℓ : Loc nD τ sig) → Buf (Elt Ideal) ℓ) (ρ : Dev nD → PrngReg) (c : Dev nD) :
    W1 m ρ c (Proc.devRef .tc main_v0) = broadcastInDim S1x1x64x1x64 ![2, 4] bcast_S64x64_S1x1x64x1x64_2_4 (fun i => lit2 (S64x64.rowMajor i)) := by
  after_results
  rfl

theorem W4_v16 (m : (ℓ : Loc nD τ sig) → Buf (Elt Ideal) ℓ) (ρ : Dev nD → PrngReg) (c : Dev nD) :
    W4 m ρ c (Proc.devRef .tc main_v16) = biasT (tabT (m ((c : Thread nD τ).loc main_arg3)) rowI colI) ((dat0 (V1 m ρ) c).arrAt 1 cfg0.N) := by
  have h14 : W2 m ρ c (Proc.devRef .tc main_v14) = (dat0 (V1 m ρ) c).arrAt 1 cfg0.N := W2_arr m ρ c 1
  have h12 : W2 m ρ c (Proc.devRef .tc main_v12) = _ := (W2_of_ne m ρ c main_v12 (by decide)).trans (W1_v12 m ρ c)
  have h0 : W2 m ρ c (Proc.devRef .tc main_v0) = _ := (W2_of_ne m ρ c main_v0 (by decide)).trans (W1_v0 m ρ c)
  unfold W4 W3
  after_results
  show shapeCast _ (select (broadcastInDim S8x16x64x8x64 ![0, 1, 2, 3, 4] bcast_S1x1x64x1x64_S8x16x64x8x64_0_1_2_3_4 (W2 m ρ c (Proc.devRef .tc main_v0)))
    (W2 m ρ c (Proc.devRef .tc main_v12)) (broadcastInDim S8x16x64x8x64 ![3, 4] bcast_S8x64_S8x16x64x8x64_3_4 (W2 m ρ c (Proc.devRef .tc main_v14)))) shapeCasts_S8x16x64x8x64_S8x8x128x512 = _
  rw [h0, h12, h14]
  rfl

theorem mask_arr (V : (c : Dev nD) → (b : Ref sig .tc) → Buf (Elt Ideal) ((c : Thread nD τ).loc b)) (c : Dev nD) :
    (dat0 V c).arrAt 1 cfg0.N = fun _ => (⊥ : EReal) := by
  refine (dat0 V c).arrAt_eq_of_covers 1 _ (by decide +kernel) fun t hf y => ?_
  rw [after0_1]
  frame_out
  rfl

theorem lit0_at : ∀ d a : Fin 8, lit0 (S8x8.rowMajor (ix2 d a)) = BitVec.ofNat 32 (a + 7 - d) := by decide +kernel
theorem lit2_at : ∀ j k : Fin 64, lit2 (S64x64.rowMajor (ix2 j k)) = if cs j ≤ k ∧ k < cs j + 16 then 1#1 else 0#1 := by decide +kernel
theorem lit1_at : ∀ j k : Fin 64, cs j ≤ k ∧ k < cs j + 16 → lit1 (S64x64.rowMajor (ix2 j k)) = BitVec.ofNat 32 (k + 15 - j) := by decide +kernel

theorem rowI_at (d a : Fin 8) : rowI (ix3 d a (0 : Fin 1)) = BitVec.ofNat 32 (a + 7 - d) := by
  rw [← lit0_at]
  pointwise [rowI]

theorem colI_at (j k : Fin 64) (h : cs j ≤ k ∧ k < cs j + 16) : colI (ix3 j k (0 : Fin 1)) = BitVec.ofNat 32 (k + 15 - j) := by
  rw [← lit1_at j k h]
  pointwise [colI]

theorem tabT_at (B : FVec Ideal S1x16x15x31 .f32) (I : IVec S8x8x1 32) (J : IVec S64x64x1 32) (d : Fin 8) (h : Fin 16) (j : Fin 64) (a : Fin 8) (k : Fin 64)
    (u : Fin 15) (w : Fin 31) (hu : I (ix3 d a (0 : Fin 1)) = BitVec.ofNat 32 u.val) (hw : J (ix3 j k (0 : Fin 1)) = BitVec.ofNat 32 w.val) :
    tabT B I J (ix5 d h j a k) = B (ix4 (0 : Fin 1) h u w) := by
  pointwise [tabT]
  rw [gather_cols _ _ h d a j k w hw, gather_rows _ _ h d a w u hu]
  pointwise

theorem biasT_at (T : FVec Ideal S8x16x64x8x64 .f32) (M : FVec Ideal S8x64 .f32) (d p : Fin 8) (r : Fin 128) (s : Fin 512) :
    biasT T M (ix4 d p r s) = Scalar.select (lit2 (S64x64.rowMajor (ix2 (⟨r % 64, by omega⟩ : Fin 64) (⟨s % 64, by omega⟩ : Fin 64))))
      (T (ix5 d (⟨p * 2 + r / 64, by omega⟩ : Fin 16) (⟨r % 64, by omega⟩ : Fin 64) (⟨s / 64, by omega⟩ : Fin 8) (⟨s % 64, by omega⟩ : Fin 64)))
      (M (ix2 (⟨s / 64, by omega⟩ : Fin 8) (⟨s % 64, by omega⟩ : Fin 64))) := by
  pointwise [biasT, inWin]

end Cert.Natten
end
-- ==== Proof.Point.lean ====
/- One element of what a grid point leaves in its output block is the attention's element. -/
module

public import proofs.«01_k».proof.Proof.PointAt
public import proofs.«01_k».proof.Proof.Table
public import proofs.«01_k».proof.Proof.Soft

@[expose] public section

set_option maxRecDepth 16384

noncomputable section

namespace Cert.Natten

open Idealize.ShloMosaic Idealize.ShloMosaic.TcCoe Cert.KernelIdeal Cert.KernelIdeal.Gen

/-- Token `n` of the window of a query in column `y`, among the eight rows of keys. -/
def win (y : Fin 64) (n : Fin 128) : Fin 512 := ⟨n / 16 * 64 + (cs y + n % 16), by unfold cs; omega⟩

theorem win_inj (y : Fin 64) : Function.Injective (win y) := fun a b h => by
  have h := congrArg Fin.val h
  simp only [win, cs] at h
  ext; omega

theorem of_not_win (y : Fin 64) (s : Fin 512) (h : ∀ n, win y n ≠ s) : ¬ (cs y ≤ s % 64 ∧ s.val % 64 < cs y + 16) := by
  rintro ⟨h1, h2⟩
  refine h ⟨s / 64 * 16 + (s % 64 - cs y), by omega⟩ (Fin.ext ?_)
  simp only [win]
  omega

/-- A sum of products of reals is a real. -/
theorem sum_real {K : ℕ} (f g : Fin K → EReal) (hf : ∀ k, ∃ r : ℝ, f k = r) (hg : ∀ k, ∃ r : ℝ, g k = r) : ∃ r : ℝ, ∑ k, f k * g k = r := by
  choose a ha using hf
  choose b hb using hg
  refine ⟨∑ k, a k * b k, ?_⟩
  simp only [ha, hb, ← EReal.coe_mul]
  exact (map_sum (⟨⟨Real.toEReal, rfl⟩, fun _ _ => EReal.coe_add _ _⟩ : ℝ →+ EReal) _ _).symm

/-- The biases the kernel builds: the table's entry inside the window, minus infinity outside. -/
theorem bias_in (B : FVec Ideal S1x16x15x31 .f32) (d p : Fin 8) (u : Fin 2) (y : Fin 64) (s : Fin 512) (h : Fin 16) (v : Fin 15) (w : Fin 31)
    (hh : h.val = p * 2 + u) (hv : v.val = s / 64 + 7 - d) (hw : w.val = s % 64 + 15 - y) (hs : cs y ≤ s % 64 ∧ s.val % 64 < cs y + 16) :
    biasT (tabT B rowI colI) (fun _ => (⊥ : EReal)) (ix4 d p (row u y) s) = B (ix4 (0 : Fin 1) h v w) := by
  have hy : (row u y : ℕ) % 64 = y := by simp only [row]; omega
  have hu : (row u y : ℕ) / 64 = u := by simp only [row]; omega
  rw [biasT_at]
  simp only [hy, hu]
  rw [lit2_at, if_pos hs]
  refine (tabT_at B rowI colI d _ _ _ _ v w ?_ ?_).trans ?_
  · rw [rowI_at, hv]
  · rw [colI_at _ _ hs, hw]
  · rw [show h = ⟨p * 2 + u, by omega⟩ from Fin.ext hh]

theorem bias_out (T : FVec Ideal S8x16x64x8x64 .f32) (d p : Fin 8) (u : Fin 2) (y : Fin 64) (s : Fin 512) (hs : ¬ (cs y ≤ s % 64 ∧ s.val % 64 < cs y + 16)) :
    biasT T (fun _ => (⊥ : EReal)) (ix4 d p (row u y) s) = (⊥ : EReal) := by
  have hy : (row u y : ℕ) % 64 = y := by simp only [row]; omega
  rw [biasT_at]
  simp only [hy]
  rw [lit2_at, if_neg hs]
  rfl

variable (V : (c : Dev nD) → (b : Ref sig .tc) → Buf (Elt Ideal) ((c : Thread nD τ).loc b)) (c : Dev nD) (t : Fin cfg1.N)
variable (Q K W : SX.Idx → EReal) (B : SB.Idx → EReal)

/-- The kernel's score of the row `s` of keys for the query in row `y`. -/
def kScore (n : Fin 32) (u : Fin 2) (y : Fin 64) : Fin 512 → EReal :=
  rowScore (qTile (iblk1 V c 0 t) n) (kvTile (grid1.coords t) (iblk1 V c 1 t) n) (bTile (grid1.coords t) (iblk1 V c 3 t) n) u y

theorem kScore_in (hq : V c main_arg0 = Q) (hk : V c main_arg1 = K) (hb : V c main_v16 = biasT (tabT B rowI colI) (fun _ => (⊥ : EReal)))
    (n : Fin 32) (u : Fin 2) (y : Fin 64) (w : Fin 128) :
    kScore V c t n u y (win y w) = score Q K B (bOf t) (tOf t n y) (hOf t n u) w := by
  have e1 : (tOf t n y : ℕ) / 64 = gr t (tr n) := by simp only [tOf]; omega
  have e2 : (tOf t n y : ℕ) % 64 = y := by simp only [tOf]; omega
  have es : sOf t n (win y w) = nbr (tOf t n y) w := Fin.ext (by simp only [sOf, nbr, win, e1, e2]; omega)
  have ecs : cs y ≤ 48 := by unfold cs; omega
  have hg := gr_lt t (tr n)
  unfold kScore rowScore score
  simp only [q_at, k_at, b_at, hq, hk, hb, es]
  refine congrArg (_ + ·) (bias_in B _ _ u y (win y w) _ _ _ ?_ ?_ ?_ ?_)
  · simp only [hOf]
  · simp only [ro, dOf, win, e1]; unfold rs; omega
  · simp only [co, win, e2]; omega
  · simp only [win]; omega

theorem kScore_out (hb : V c main_v16 = biasT (tabT B rowI colI) (fun _ => (⊥ : EReal)))
    (n : Fin 32) (u : Fin 2) (y : Fin 64) (s : Fin 512) (hs : ∀ w, win y w ≠ s) : kScore V c t n u y s = ⊥ := by
  unfold kScore rowScore
  rw [b_at, hb, bias_out _ _ _ _ _ _ (of_not_win y s hs)]
  exact EReal.add_bot _

theorem point (hq : V c main_arg0 = Q) (hk : V c main_arg1 = K) (hv : V c main_arg2 = W) (hb : V c main_v16 = biasT (tabT B rowI colI) (fun _ => (⊥ : EReal)))
    (fQ : ∀ x, ∃ r : ℝ, Q x = r) (fK : ∀ x, ∃ r : ℝ, K x = r) (fB : ∀ x, ∃ r : ℝ, B x = r) (n : Fin 32) (u : Fin 2) (y d : Fin 64) :
    tile (grid1.coords t) (iblk1 V c 0 t) (iblk1 V c 1 t) (iblk1 V c 2 t) (iblk1 V c 3 t) n (ix3 (0 : Fin 1) y (lane u d))
      = att Q K W B (bOf t) (tOf t n y) (hOf t n u) d := by
  have e1 : (tOf t n y : ℕ) / 64 = gr t (tr n) := by simp only [tOf]; omega
  have e2 : (tOf t n y : ℕ) % 64 = y := by simp only [tOf]; omega
  have es : ∀ w, sOf t n (win y w) = nbr (tOf t n y) w := fun w => Fin.ext (by simp only [sOf, nbr, win, e1, e2]; omega)
  have hr : ∀ w, ∃ r : ℝ, kScore V c t n u y (win y w) = r := fun w => by
    rw [kScore_in V c t Q K B hq hk hb]
    obtain ⟨a, ha⟩ := sum_real _ _ (fun d => fQ (ix3 (bOf t) (tOf t n y) (hd (hOf t n u) d))) (fun d => fK (ix3 (bOf t) (nbr (tOf t n y) w) (hd (hOf t n u) d)))
    obtain ⟨b, hb'⟩ := fB (ix4 (0 : Fin 1) (hOf t n u) (ro (tOf t n y) w) (co (tOf t n y) w))
    exact ⟨a + b, by unfold score; rw [ha, hb']; exact (EReal.coe_add a b).symm⟩
  choose s hs using hr
  rw [tile_at]
  refine (soft_window (win y) (win_inj y) (kScore V c t n u y)
    (fun s => kvTile (grid1.coords t) (iblk1 V c 2 t) n (ix3 (0 : Fin 1) s (lane u d))) s hs (kScore_out V c t B hb n u y)).trans ?_
  unfold att
  simp only [kScore_in V c t Q K B hq hk hb, v_at, hv, es]

end Cert.Natten
end
-- ==== Proof.RefAt.lean ====
/- The reference read at an index: its tables of tokens and of offsets hold the window's, and its result is the
   attention. -/
module

public import Idealize.ShloMosaic.Lib.Pointwise
public import proofs.«01_k».proof.Proof.Gen.ReferenceIdeal.Run
public import proofs.«01_k».proof.Proof.Spec
public import proofs.«01_k».proof.Proof.Gather
public import Idealize.ShloMosaic.Lib.WordArith

@[expose] public section

set_option maxRecDepth 16384

noncomputable section

namespace Cert.Natten

open Idealize.ShloMosaic Idealize.ShloMosaic.TcCoe Cert.ReferenceIdeal Cert.ReferenceIdeal.Gen Cert.ReferenceIdeal.Value

/-- The rows of the windows: row `a` of the window of a token in row `i`. -/
def rowT : IVec S128x8 32 :=
  addi (broadcastInDim S128x8 ![0, 1] bcast_S128x1_S128x8_0_1 (broadcastInDim S128x1 ![0] bcast_S128_S128x1_0 (minsi (broadcastInDim S128 ![] bcast_S_S128 (id (constantI S_ 32 120#32))) (maxsi (broadcastInDim S128 ![] bcast_S_S128 (id (constantI S_ 32 0#32))) (subi (iotaInDim S128 32 0) (broadcastInDim S128 ![] bcast_S_S128 (constantI S_ 32 4#32))))))) (broadcastInDim S128x8 ![0, 1] bcast_S1x8_S128x8_0_1 (broadcastInDim S1x8 ![1] bcast_S8_S1x8_1 (iotaInDim S8 32 0)))

/-- The columns of the windows: column `c` of the window of a token in column `j`. -/
def colT : IVec S64x16 32 :=
  addi (broadcastInDim S64x16 ![0, 1] bcast_S64x1_S64x16_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))))) (broadcastInDim S64x16 ![0, 1] bcast_S1x16_S64x16_0_1 (broadcastInDim S1x16 ![1] bcast_S16_S1x16_1 (iotaInDim S16 32 0)))

/-- A table over the rows, laid over tokens and window tokens; a table over the columns, likewise. -/
def overRows (T : IVec S128x8 32) : IVec S8192x128 32 :=
  shapeCast _ (broadcastInDim S128x64x8x16 ![0, 1, 2, 3] bcast_S128x1x8x1_S128x64x8x16_0_1_2_3 (broadcastInDim S128x1x8x1 ![0, 2] bcast_S128x8_S128x1x8x1_0_2 T)) shapeCasts_S128x64x8x16_S8192x128
def overCols (T : IVec S64x16 32) : IVec S8192x128 32 :=
  shapeCast _ (broadcastInDim S128x64x8x16 ![0, 1, 2, 3] bcast_S1x64x1x16_S128x64x8x16_0_1_2_3 (broadcastInDim S1x64x1x16 ![1, 3] bcast_S64x16_S1x64x1x16_1_3 T)) shapeCasts_S128x64x8x16_S8192x128

/-- An index counted from the end where it is negative, as array indexing reads it. -/
def wrapped (T : IVec S8192x128 32) (n : BitVec 32) : IVec S8192x128x1 32 :=
  broadcastInDim S8192x128x1 ![0, 1] bcast_S8192x128_S8192x128x1_0_1 (select (cmpi .slt T (broadcastInDim S8192x128 ![] bcast_S_S8192x128 (constantI S_ 32 0#32))) (addi T (broadcastInDim S8192x128 ![] bcast_S_S8192x128 (constantI S_ 32 n))) T)

def tokI : IVec S8192x128x1 32 :=
  wrapped (addi (muli (overRows rowT) (broadcastInDim S8192x128 ![] bcast_S_S8192x128 (constantI S_ 32 64#32))) (overCols colT)) 8192#32

def rowOff : IVec S128x8 32 :=
  addi (subi rowT (broadcastInDim S128x8 ![0, 1] bcast_S128x1_S128x8_0_1 (broadcastInDim S128x1 ![0] bcast_S128_S128x1_0 (iotaInDim S128 32 0)))) (broadcastInDim S128x8 ![] bcast_S_S128x8 (constantI S_ 32 7#32))
def colOff : IVec S64x16 32 :=
  addi (subi colT (broadcastInDim S64x16 ![0, 1] bcast_S64x1_S64x16_0_1 (broadcastInDim S64x1 ![0] bcast_S64_S64x1_0 (iotaInDim S64 32 0)))) (broadcastInDim S64x16 ![] bcast_S_S64x16 (constantI S_ 32 15#32))

def offI : IVec S8192x128x2 32 :=
  concatenate S8192x128x2 2 [⟨S8192x128x1, wrapped (overRows rowOff) 15#32⟩, ⟨S8192x128x1, wrapped (overCols colOff) 31#32⟩] concatenates_S8192x128x1_S8192x128x1_S8192x128x2_d2

/-- The keys or values of the windows. -/
def nbrs (X : FVec Ideal S8x8192x1024 .bf16) (I : IVec S8192x128x1 32) : FVec Ideal S8x8192x128x16x64 .f32 :=
  Host.gather gather_S8x8192x16x64_S8192x128x1_S8x8192x128x16x64_034_1_n_n_1_2_811664 (shapeCast _ (extf .f32 X bitsLt_bf16_f32) shapeCasts_S8x8192x1024_S8x8192x16x64) I

def biases (B : FVec Ideal S1x16x15x31 .f32) (I : IVec S8192x128x2 32) : FVec Ideal S16x8192x128 .f32 :=
  Host.gather gather_S16x15x31_S8192x128x2_S16x8192x128_0_12_n_n_12_2_1611 (shapeCast _ B shapeCasts_S1x16x15x31_S16x15x31) I

def scores (Q : FVec Ideal S8x8192x1024 .bf16) (KN : FVec Ideal S8x8192x128x16x64 .f32) (BN : FVec Ideal S16x8192x128 .f32) :
    FVec Ideal S8x8192x16x128 .f32 :=
  addf (Host.dotGeneral dot_S8x8192x16x64_S8x8192x128x16x64_S8x8192x16x128_3_4_n_2_012_013 none (shapeCast _ (extf .f32 Q bitsLt_bf16_f32) shapeCasts_S8x8192x1024_S8x8192x16x64) KN) (broadcastInDim S8x8192x16x128 ![0, 1, 2, 3] bcast_S1x8192x16x128_S8x8192x16x128_0_1_2_3 (broadcastInDim S1x8192x16x128 ![1, 2, 3] bcast_S8192x16x128_S1x8192x16x128_1_2_3 (transpose S8192x16x128 [1, 0, 2] BN transposes_S16x8192x128_S8192x16x128_1_0_2)))

/-- The largest score of every window. -/
def maxes (s : FVec Ideal S8x8192x16x128 .f32) : FVec Ideal S8x8192x16 .f32 :=
  Host.reduce FloatOps.maximumf s (constant S_ .f32 0xFF800000#32) reducesTo_S8x8192x16x128_S8x8192x16_d3 h_S_

def weights (s : FVec Ideal S8x8192x16x128 .f32) (x : FVec Ideal S8x8192x16 .f32) : FVec Ideal S8x8192x16x128 .f32 :=
  Host.exp (subf s (broadcastInDim S8x8192x16x128 ![0, 1, 2, 3] bcast_S8x8192x16x1_S8x8192x16x128_0_1_2_3 (broadcastInDim S8x8192x16x1 ![0, 1, 2] bcast_S8x8192x16_S8x8192x16x1_0_1_2 (maximumf (broadcastInDim S8x8192x16 ![] bcast_S_S8x8192x16 (constant S_ .f32 0xFF800000#32)) x))))

def probs (e : FVec Ideal S8x8192x16x128 .f32) : FVec Ideal S8x8192x16x128 .f32 :=
  Host.divf e (broadcastInDim S8x8192x16x128 ![0, 1, 2, 3] bcast_S8x8192x16x1_S8x8192x16x128_0_1_2_3 (broadcastInDim S8x8192x16x1 ![0, 1, 2] bcast_S8x8192x16_S8x8192x16x1_0_1_2 (Host.reduceAdd e (constant S_ .f32 0x00000000#32) reducesTo_S8x8192x16x128_S8x8192x16_d3 h_S_)))

def outs (p : FVec Ideal S8x8192x16x128 .f32) (VN : FVec Ideal S8x8192x128x16x64 .f32) : FVec Ideal S8x8192x1024 .bf16 :=
  truncf .bf16 (shapeCast _ (Host.dotGeneral dot_S8x8192x16x128_S8x8192x128x16x64_S8x8192x16x64_3_2_n_4_012_013 none p VN) shapeCasts_S8x8192x16x64_S8x8192x1024) bitsLt_bf16_f32

/-- The reference's result, in these parts. -/
def ref (Q K V : FVec Ideal S8x8192x1024 .bf16) (B : FVec Ideal S1x16x15x31 .f32) : FVec Ideal S8x8192x1024 .bf16 :=
  outs (probs (weights (scores Q (nbrs K tokI) (biases B offI)) (maxes (scores Q (nbrs K tokI) (biases B offI))))) (nbrs V tokI)

theorem res_eq (m : (ℓ : Loc nD τ sig) → Buf (Elt Ideal) ℓ) (c : Dev nD) :
    res_main_v98 m c = ref (m ((c.tc : Thread nD τ).loc main_arg0)) (m ((c.tc : Thread nD τ).loc main_arg1)) (m ((c.tc : Thread nD τ).loc main_arg2)) (m ((c.tc : Thread nD τ).loc main_arg3)) := rfl

/-! The index tables, entry by entry. -/

theorem rowT_at (i : Fin 128) (a : Fin 8) : rowT (ix2 i a) = BitVec.ofNat 32 (rs i + a) := by
  pointwise [rowT]
  revert i a; decide +kernel

theorem colT_at (j : Fin 64) (k : Fin 16) : colT (ix2 j k) = BitVec.ofNat 32 (cs j + k) := by
  pointwise [colT]
  revert j k; decide +kernel

theorem rowOff_at (i : Fin 128) (a : Fin 8) : rowOff (ix2 i a) = BitVec.ofNat 32 (rs i + a + 7 - i) := by
  pointwise [rowOff]
  rw [rowT_at]
  revert i a; decide +kernel

theorem colOff_at (j : Fin 64) (k : Fin 16) : colOff (ix2 j k) = BitVec.ofNat 32 (cs j + k + 15 - j) := by
  pointwise [colOff]
  rw [colT_at]
  revert j k; decide +kernel

theorem overRows_at (T : IVec S128x8 32) (t : Fin 8192) (n : Fin 128) :
    overRows T (ix2 t n) = T (ix2 (⟨t / 64, by omega⟩ : Fin 128) (⟨n / 16, by omega⟩ : Fin 8)) := by
  pointwise [overRows]

theorem overCols_at (T : IVec S64x16 32) (t : Fin 8192) (n : Fin 128) :
    overCols T (ix2 t n) = T (ix2 (⟨t % 64, by omega⟩ : Fin 64) (⟨n % 16, by omega⟩ : Fin 16)) := by
  pointwise [overCols]

theorem wrapped_at (T : IVec S8192x128 32) (w : BitVec 32) (t : Fin 8192) (n : Fin 128) (x : ℕ) (hx : x < 2 ^ 31)
    (h : T (ix2 t n) = BitVec.ofNat 32 x) : wrapped T w (ix3 t n (0 : Fin 1)) = BitVec.ofNat 32 x := by
  pointwise [wrapped]
  rw [h]
  have : (BitVec.ofNat 32 x).slt 0#32 = false := by
    rw [BitVec.slt, WordArith.toInt_ofNat_small _ hx]
    simp
  simp [IntOp.cmpi, this, Scalar.select]

theorem tokI_at (t : Fin 8192) (n : Fin 128) : tokI (ix3 t n (0 : Fin 1)) = BitVec.ofNat 32 (nbr t n) := by
  refine wrapped_at _ _ t n _ (by have := (nbr t n).isLt; omega) ?_
  pointwise
  rw [overRows_at, overCols_at, rowT_at, colT_at]
  simp only [IntOp.addi, IntOp.muli, ← BitVec.ofNat_add, ← BitVec.ofNat_mul, nbr]

theorem offI_row (t : Fin 8192) (n : Fin 128) : offI (ix3 t n (0 : Fin 2)) = BitVec.ofNat 32 (ro t n) := by
  pointwise [offI]
  exact wrapped_at _ _ t n _ (by have := (ro t n).isLt; omega) (by rw [overRows_at, rowOff_at]; rfl)

theorem offI_col (t : Fin 8192) (n : Fin 128) : offI (ix3 t n (1 : Fin 2)) = BitVec.ofNat 32 (co t n) := by
  pointwise [offI]
  exact wrapped_at _ _ t n _ (by have := (co t n).isLt; omega) (by rw [overCols_at, colOff_at]; rfl)

/-! The arrays, entry by entry. -/

theorem nbrs_at (X : FVec Ideal S8x8192x1024 .bf16) (b : Fin 8) (t : Fin 8192) (n : Fin 128) (h : Fin 16) (e : Fin 64) :
    nbrs X tokI (ix5 b t n h e) = X (ix3 b (nbr t n) (hd h e)) := by
  rw [nbrs, gather_tokens _ _ b t n h e (nbr t n) (tokI_at t n)]
  pointwise [hd]

theorem biases_at (B : FVec Ideal S1x16x15x31 .f32) (h : Fin 16) (t : Fin 8192) (n : Fin 128) :
    biases B offI (ix3 h t n) = B (ix4 (0 : Fin 1) h (ro t n) (co t n)) := by
  rw [biases, gather_bias _ _ t n h (ro t n) (co t n) (offI_row t n) (offI_col t n)]
  pointwise

theorem scores_at (Q K : FVec Ideal S8x8192x1024 .bf16) (B : FVec Ideal S1x16x15x31 .f32) (b : Fin 8) (t : Fin 8192) (h : Fin 16) (n : Fin 128) :
    scores Q (nbrs K tokI) (biases B offI) (ix4 b t h n) = score Q K B b t h n := by
  pointwise [scores]
  simp only [nbrs_at, biases_at]
  rfl

theorem negInf : Ideal.ofBits .f32 0xFF800000#32 = ⊥ := by simp [Ideal.ofBits, Ideal.ieee]

theorem maxes_at (s : FVec Ideal S8x8192x16x128 .f32) (b : Fin 8) (t : Fin 8192) (h : Fin 16) :
    maxes s (ix3 b t h) = top (fun k => s (ix4 b t h k)) := by
  rw [maxes, Host.reduce_eq_fold_single FloatOps.maximumf s _ _ (show S8x8192x16x128.Reduces [3] S8x8192x16 by decide)]
  show Finset.univ.fold max (Ideal.ofBits .f32 0xFF800000#32) _ = _
  rw [negInf, top]
  congr 1
  funext k
  refine congrArg s (funext fun a => Fin.ext ?_)
  match a with
  | 0 => rfl
  | 1 => rfl
  | 2 => rfl
  | 3 => rfl

theorem weights_at (s : FVec Ideal S8x8192x16x128 .f32) (x : FVec Ideal S8x8192x16 .f32) (b : Fin 8) (t : Fin 8192) (h : Fin 16) (n : Fin 128) :
    weights s x (ix4 b t h n) = Ideal.exp (s (ix4 b t h n) - x (ix3 b t h)) := by
  pointwise [weights]
  rw [negInf, max_eq_right bot_le]

theorem probs_at (e : FVec Ideal S8x8192x16x128 .f32) (b : Fin 8) (t : Fin 8192) (h : Fin 16) (n : Fin 128) :
    probs e (ix4 b t h n) = Ideal.div (e (ix4 b t h n)) (∑ k : Fin 128, e (ix4 b t h k)) := by
  pointwise [probs]

theorem outs_at (p : FVec Ideal S8x8192x16x128 .f32) (VN : FVec Ideal S8x8192x128x16x64 .f32) (b : Fin 8) (t : Fin 8192) (h : Fin 16) (d : Fin 64) :
    outs p VN (ix3 b t (hd h d)) = ∑ n : Fin 128, p (ix4 b t h n) * VN (ix5 b t n h d) := by
  pointwise [outs]
  have e1 : (⟨(hd h d).val / 64, by have := (hd h d).isLt; omega⟩ : Fin 16) = h := Fin.ext (by simp only [hd]; omega)
  have e2 : (⟨(hd h d).val % 64, by omega⟩ : Fin 64) = d := Fin.ext (by simp only [hd]; omega)
  rw [e1, e2]

theorem ref_at (Q K V : FVec Ideal S8x8192x1024 .bf16) (B : FVec Ideal S1x16x15x31 .f32) (b : Fin 8) (t : Fin 8192) (h : Fin 16) (d : Fin 64) :
    ref Q K V B (ix3 b t (hd h d)) = att Q K V B b t h d := by
  rw [ref, outs_at, att]
  refine Finset.sum_congr rfl fun n _ => ?_
  rw [probs_at, nbrs_at]
  simp only [weights_at, maxes_at, scores_at, wt]

end Cert.Natten
end
-- ==== Proof.Final.lean ====
/- The whole array the attention kernel leaves, and the run that leaves it. -/
module

public import proofs.«01_k».proof.Proof.Point
public import proofs.«01_k».proof.Proof.RefAt

@[expose] public section

set_option maxRecDepth 16384

noncomputable section

namespace Cert.Natten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

section Arr
variable (V : (c : Dev nD) → (b : Ref sig .tc) → Buf (Elt Ideal) ((c : Thread nD τ).loc b)) (c : Dev nD)
variable (Q K W : SX.Idx → EReal) (B : SB.Idx → EReal)

/-- The tile, the row in it, the lane half and the lane of an element of an output block. -/
theorem out_at (t : Fin cfg1.N) (j : S1x512x512.Idx)
    (hq : V c main_arg0 = Q) (hk : V c main_arg1 = K) (hv : V c main_arg2 = W) (hb : V c main_v16 = biasT (tabT B rowI colI) (fun _ => (⊥ : EReal)))
    (fQ : ∀ x, ∃ r : ℝ, Q x = r) (fK : ∀ x, ∃ r : ℝ, K x = r) (fB : ∀ x, ∃ r : ℝ, B x = r) (b : Fin 8) (k : Fin 8192) (h : Fin 16) (d : Fin 64)
    (hb' : b.val = (grid1.coords t 1).val) (hk' : k.val = (grid1.coords t 2).val * 512 + (j 1).val)
    (hd' : h.val * 64 + d.val = (grid1.coords t 0).val * 512 + (j 2).val) :
    outsAt1 V c t j = att Q K W B b k h d := by
  have j0 : (j 0).val < 1 := (j 0).isLt
  have j1 : (j 1).val < 512 := (j 1).isLt
  have j2 : (j 2).val < 512 := (j 2).isLt
  have hn : (j 1).val / 64 * 4 + (j 2).val / 128 < 32 := by omega
  rw [outsAt1_at V c t j ⟨_, hn⟩ (ix3 (0 : Fin 1) (⟨(j 1).val % 64, by omega⟩ : Fin 64) (lane ⟨(j 2).val % 128 / 64, by omega⟩ d)) ?_,
    point V c t Q K W B hq hk hv hb fQ fK fB]
  · rw [show bOf t = b from Fin.ext hb'.symm]
    congr 1
    · ext; simp only [tOf, gr, tr]; omega
    · ext; simp only [hOf, tp]; omega
  · intro a
    fin_cases a
    · show (j 0).val = 0 + 0
      omega
    · show (j 1).val = ((j 1).val / 64 * 4 + (j 2).val / 128) / 4 * 64 + (j 1).val % 64
      omega
    · show (j 2).val = ((j 1).val / 64 * 4 + (j 2).val / 128) % 4 * 128 + ((j 2).val % 128 / 64 * 64 + d.val)
      omega

theorem arr_at
    (hq : V c main_arg0 = Q) (hk : V c main_arg1 = K) (hv : V c main_arg2 = W) (hb : V c main_v16 = biasT (tabT B rowI colI) (fun _ => (⊥ : EReal)))
    (fQ : ∀ x, ∃ r : ℝ, Q x = r) (fK : ∀ x, ∃ r : ℝ, K x = r) (fB : ∀ x, ∃ r : ℝ, B x = r) :
    (dat1 V c).arrAt 4 cfg1.N = (ref Q K W B : SX.Idx → EReal) := by
  refine (dat1 V c).arrAt_eq_of_covers 4 _ (by decide +kernel) fun t hf y => ?_
  rw [after1_4]
  have hg := group_lt t
  have hh := half_lt t
  have hbt := batch_lt t
  have y0 : (y 0).val < 1 := (y 0).isLt
  have y1 : (y 1).val < 512 := (y 1).isLt
  have y2 : (y 2).val < 512 := (y 2).isLt
  refine Eq.trans ?_ (congrArg (ref Q K W B) (?_ : ix3 (bOf t) (⟨(grid1.coords t 2).val * 512 + (y 1).val, by omega⟩ : Fin 8192)
    (hd ⟨((grid1.coords t 0).val * 512 + (y 2).val) / 64, by omega⟩ ⟨(y 2).val % 64, by omega⟩) = _))
  · rw [ref_at]
    refine out_at V c Q K W B t _ hq hk hv hb fQ fK fB _ _ _ _ rfl rfl ?_
    show ((grid1.coords t 0).val * 512 + (y 2).val) / 64 * 64 + (y 2).val % 64 = (grid1.coords t 0).val * 512 + (y 2).val
    omega
  · blk_ext [blocks_at t]
    all_goals simp only [bOf, hd]
    all_goals omega
end Arr

variable (m : (ℓ : Loc nD τ sig) → Buf (Elt Ideal) ℓ) (ρ : Dev nD → PrngReg)

set_option backward.isDefEq.respectTransparency.types false in
/-- The kernel's run: at its end every unscoped buffer holds what the last region left in it. -/
theorem value_run : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- The result array after the run, from the arguments. -/
theorem result_eq (c : Dev nD)
    (fQ : ∀ x, ∃ r : ℝ, (show SX.Idx → EReal from m ((c : Thread nD τ).loc main_arg0)) x = r)
    (fK : ∀ x, ∃ r : ℝ, (show SX.Idx → EReal from m ((c : Thread nD τ).loc main_arg1)) x = r)
    (fB : ∀ x, ∃ r : ℝ, (show SB.Idx → EReal from m ((c : Thread nD τ).loc main_arg3)) x = r) :
    W5 m ρ c (Proc.devRef .tc main_v17)
      = (ref (m ((c : Thread nD τ).loc main_arg0)) (m ((c : Thread nD τ).loc main_arg1)) (m ((c : Thread nD τ).loc main_arg2)) (m ((c : Thread nD τ).loc main_arg3)) : SX.Idx → EReal) :=
  (W5_arr m ρ c 4).trans (arr_at (V4 m ρ) c _ _ _ _
    (W4_args m ρ c main_arg0 (by decide)) (W4_args m ρ c main_arg1 (by decide)) (W4_args m ρ c main_arg2 (by decide))
    ((W4_v16 m ρ c).trans (by rw [mask_arr]; rfl)) fQ fK fB)

end Cert.Natten
end
-- ==== Proof.Moe.Kit.lean ====
/- What the run of the experts' call is stated over: the tables read off the memory, the windows' blocks, the
   staging memrefs. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the call writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the call writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the call writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the call writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the call writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the call writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S264 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, for any proof data over `V` whose body leaves it. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over `V` whose body leaves it. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over `V` whose body leaves it. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over `V` whose body leaves it. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data over `V` whose body leaves it. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Window 5 (result 0 (%7#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)
/-- Window 6 (result 1 (%7#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)

/-! ## The kernel body on any staging memrefs: a subtype the run finds -/

/-- One staging buffer of output window 5, through which its contents are stated (`View.read_writes_of_cover`: the
    choice does not matter). -/
abbrev VO0_5 : View sig .tc .vmem S512x512 .bf16 := (Memref.whole cc0_stg5_0 : Memref sig .tc .vmem S512x512 .bf16).view
/-- One staging buffer of output window 6, through which its contents are stated (`View.read_writes_of_cover`: the
    choice does not matter). -/
abbrev VO0_6 : View sig .tc .vmem S512x512 .bf16 := (Memref.whole cc0_stg6_0 : Memref sig .tc .vmem S512x512 .bf16).view
/-- Each window's current staging memref at point `t`, spelled as the pipeline passes it (`bodyAt0`), and its wholeness. -/
abbrev ms0_0 (hO : Ok m) (t : Fin (cfgM m hO).N) : Memref sig .tc .vmem S512x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x3584 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x3584 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3584x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x512 .bf16 := spec0_6.stage ((cfgM m hO).slots t 6)
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S512x3584 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The number of tiles in use, as the body reads it. -/
abbrev nUsed (c : Dev nD) (xt1 : TbBuf0 (F := F) c tbM0_1) : Elt F .i32 :=
  (tbM0_1.access (Rect.unit (s := S1) ![0] S1.size inb_S1_S1_0)).read (Elt F) xt1 (Shape.Idx.first (numel1_S1.symm ▸ Nat.one_pos))

/-- The tile of point `i` is in use. -/
abbrev Used (c : Dev nD) (xt1 : TbBuf0 (F := F) c tbM0_1) (i : grid0.Coords) : Prop := k0_cond1 i (nUsed c xt1) = 1#1

end Cert.Kernel2Ideal.Moe

end
-- ==== Proof.Moe.RunUsed.lean ====
/- The body at a tile in use. -/
module

public import proofs.«01_k».proof.Proof.Moe.Kit

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves at a point whose tile is in use: the pieces of each output, with the triple that the run finds
    them by. -/
def runUsed (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x3584 .bf16) (harg10 : arg10.IsWhole)

    (x0 : Vec F S512x512 .bf16) (x1 : Vec F S512x512 .bf16) (x2 : Vec F S1x1024x3584 .bf16) (x3 : Vec F S1x1024x3584 .bf16) (x4 : Vec F S1x3584x1024 .bf16) (xt0 : TbBuf0 (F := F) c tbM0_0) (xt1 : TbBuf0 (F := F) c tbM0_1) (hc0 : Used c xt1 i) :
    Σ' (L5 : List (View.Piece (Elt F) S512x512 .bf16)), Σ' (L6 : List (View.Piece (Elt F) S512x512 .bf16)), { LT0 : List (View.Piece (Elt F) S512x3584 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LT0) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K } := by
  refine ⟨?_, ?_, ?_, fun E K => ?run⟩
  case run =>
    simp only [cc0_moe_experts_eq_skeleton]; unfold cc0_moe_experts_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [HS0]; · iexists _; iexact HS0
    isplitl [HT0]; · iexact HT0
    iexact HT1

end Cert.Kernel2Ideal.Moe

end
-- ==== Proof.Moe.RunIdle.lean ====
/- The body at a tile not in use. -/
module

public import proofs.«01_k».proof.Proof.Moe.RunUsed

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point whose tile is not in use the body stores nothing. -/
theorem runIdle (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x3584 .bf16) (harg10 : arg10.IsWhole)

    (x0 : Vec F S512x512 .bf16) (x1 : Vec F S512x512 .bf16) (x2 : Vec F S1x1024x3584 .bf16) (x3 : Vec F S1x1024x3584 .bf16) (x4 : Vec F S1x3584x1024 .bf16) (xt0 : TbBuf0 (F := F) c tbM0_0) (xt1 : TbBuf0 (F := F) c tbM0_1) (hc0 : ¬ Used c xt1 i) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  intro E K
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]; · iexists _; iexact H5
  isplitl [H6]; · iexists _; iexact H6
  isplitl [HS0]; · iexists _; iexact HS0
  isplitl [HT0]; · iexact HT0
  iexact HT1

end Cert.Kernel2Ideal.Moe

end
-- ==== Proof.Moe.Frame.lean ====
/- The run of the experts' call: what its outputs hold at a tile in use, the proof data that leaves the other tiles open,
   and the frame. -/
module

public import proofs.«01_k».proof.Proof.Moe.RunIdle
public import Idealize.ShloMosaic.Lib.Claim

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of output 5 cover its block. -/
theorem cover5 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x3584 .bf16) (harg10 : arg10.IsWhole)
    (x0 : Vec F S512x512 .bf16) (x1 : Vec F S512x512 .bf16) (x2 : Vec F S1x1024x3584 .bf16) (x3 : Vec F S1x1024x3584 .bf16) (x4 : Vec F S1x3584x1024 .bf16) (xt0 : TbBuf0 (F := F) c tbM0_0) (xt1 : TbBuf0 (F := F) c tbM0_1) (hc0 : Used c xt1 i) (y : S512x512.Idx) :
    ∃ pc ∈ (runUsed c i arg3 harg3 arg4 harg4 arg5 harg5 arg6 harg6 arg7 harg7 arg8 harg8 arg9 harg9 arg10 harg10 x0 x1 x2 x3 x4 xt0 xt1 hc0).1, y ∈ pc.1.set :=
  View.cover_of_tiledL (runUsed c i arg3 harg3 arg4 harg4 arg5 harg5 arg6 harg6 arg7 harg7 arg8 harg8 arg9 harg9 arg10 harg10 x0 x1 x2 x3 x4 xt0 xt1 hc0).1 S512x512.size (by sl_kernel_rfl) y

/-- Output 5's block as the run leaves it at a tile in use. -/
def out5 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x3584 .bf16) (harg10 : arg10.IsWhole)
    (x0 : Vec F S512x512 .bf16) (x1 : Vec F S512x512 .bf16) (x2 : Vec F S1x1024x3584 .bf16) (x3 : Vec F S1x1024x3584 .bf16) (x4 : Vec F S1x3584x1024 .bf16) (xt0 : TbBuf0 (F := F) c tbM0_0) (xt1 : TbBuf0 (F := F) c tbM0_1) (hc0 : Used c xt1 i) : Vec F S512x512 .bf16 :=
  VO0_5.read (Elt F) (VO0_5.writes (Elt F) VO0_5.junk (runUsed c i arg3 harg3 arg4 harg4 arg5 harg5 arg6 harg6 arg7 harg7 arg8 harg8 arg9 harg9 arg10 harg10 x0 x1 x2 x3 x4 xt0 xt1 hc0).1)

/-- The pieces of output 6 cover its block. -/
theorem cover6 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x3584 .bf16) (harg10 : arg10.IsWhole)
    (x0 : Vec F S512x512 .bf16) (x1 : Vec F S512x512 .bf16) (x2 : Vec F S1x1024x3584 .bf16) (x3 : Vec F S1x1024x3584 .bf16) (x4 : Vec F S1x3584x1024 .bf16) (xt0 : TbBuf0 (F := F) c tbM0_0) (xt1 : TbBuf0 (F := F) c tbM0_1) (hc0 : Used c xt1 i) (y : S512x512.Idx) :
    ∃ pc ∈ (runUsed c i arg3 harg3 arg4 harg4 arg5 harg5 arg6 harg6 arg7 harg7 arg8 harg8 arg9 harg9 arg10 harg10 x0 x1 x2 x3 x4 xt0 xt1 hc0).2.1, y ∈ pc.1.set :=
  View.cover_of_tiledL (runUsed c i arg3 harg3 arg4 harg4 arg5 harg5 arg6 harg6 arg7 harg7 arg8 harg8 arg9 harg9 arg10 harg10 x0 x1 x2 x3 x4 xt0 xt1 hc0).2.1 S512x512.size (by sl_kernel_rfl) y

/-- Output 6's block as the run leaves it at a tile in use. -/
def out6 (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x3584 .bf16) (harg10 : arg10.IsWhole)
    (x0 : Vec F S512x512 .bf16) (x1 : Vec F S512x512 .bf16) (x2 : Vec F S1x1024x3584 .bf16) (x3 : Vec F S1x1024x3584 .bf16) (x4 : Vec F S1x3584x1024 .bf16) (xt0 : TbBuf0 (F := F) c tbM0_0) (xt1 : TbBuf0 (F := F) c tbM0_1) (hc0 : Used c xt1 i) : Vec F S512x512 .bf16 :=
  VO0_6.read (Elt F) (VO0_6.writes (Elt F) VO0_6.junk (runUsed c i arg3 harg3 arg4 harg4 arg5 harg5 arg6 harg6 arg7 harg7 arg8 harg8 arg9 harg9 arg10 harg10 x0 x1 x2 x3 x4 xt0 xt1 hc0).2.1)

/-- The tile of point `t` is in use, by the tables of the memory. -/
abbrev UsedAt (hO : Ok m) (c : Dev nD) (t : Fin (cfgM m hO).N) : Prop := Used c (tbl m 1) (grid0.coords t)

/-- Output 5's block after point `t`: what the run leaves where the tile is in use, and anything elsewhere. -/
def outAt5 (hO : Ok m) (c : Dev nD) (t : Fin (cfgM m hO).N) : Vec F S512x512 .bf16 :=
  if h : UsedAt m hO c t then out5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (iblk m hO c 0 t) (iblk m hO c 1 t) (iblk m hO c 2 t) (iblk m hO c 3 t) (iblk m hO c 4 t) (tbl m 0) (tbl m 1) h else VO0_5.read (Elt F) VO0_5.junk

/-- Output 6's block after point `t`: what the run leaves where the tile is in use, and anything elsewhere. -/
def outAt6 (hO : Ok m) (c : Dev nD) (t : Fin (cfgM m hO).N) : Vec F S512x512 .bf16 :=
  if h : UsedAt m hO c t then out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (iblk m hO c 0 t) (iblk m hO c 1 t) (iblk m hO c 2 t) (iblk m hO c 3 t) (iblk m hO c 4 t) (tbl m 0) (tbl m 1) h else VO0_6.read (Elt F) VO0_6.junk

/-- The proof data: the arrays as the call finds them, each input left as it is, the outputs at `outAt5` and `outAt6`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt5 m hO c t
    | ⟨6, _⟩ => outAt6 m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt5 m hO c t := by dsimp only [dats]; try rfl
theorem after0_6 (hO : Ok m) (c : Dev nD) (t : Fin (cfgM m hO).N) : (dats m hO 0 c).after 6 t = outAt6 m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- The two outputs are the windows left open. -/
def open56 (hO : Ok m) (w : Fin (cfgM m hO).W) : Bool := match w with
  | ⟨5, _⟩ => true
  | ⟨6, _⟩ => true
  | _ => false

/-- What is asked of an open window: its block where the tile is in use. -/
def Left (hO : Ok m) (c : Dev nD) (w : Fin (cfgM m hO).W) (t : Fin (cfgM m hO).N) (X : ((cfgM m hO).win w).block.Idx → Elt F ((cfgM m hO).win w).elt) : Prop :=
  UsedAt m hO c t → X = (dats m hO 0 c).after w t

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ Y, ⌜((dats m hO 0 c).toRRel (open56 m hO) (Left m hO c)).Finds 5 t Y⌝ ∗ owns (c : Thread nD τ) (ms0_5 m hO t) fullShare Y)
    ∗ (∃ Y, ⌜((dats m hO 0 c).toRRel (open56 m hO) (Left m hO c)).Finds 6 t Y⌝ ∗ owns (c : Thread nD τ) (ms0_6 m hO t) fullShare Y))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ X, ⌜Left m hO c 5 t X⌝ ∗ owns (c : Thread nD τ) (ms0_5 m hO t) fullShare X)
    ∗ (∃ X, ⌜Left m hO c 6 t X⌝ ∗ owns (c : Thread nD τ) (ms0_6 m hO t) fullShare X))

set_option maxHeartbeats 800000 in
/-- The body at a point: the run where the tile is in use; elsewhere the body leaves every buffer. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [after0_0, after0_1, after0_2, after0_3, after0_4]
  unfold Left
  rw [after0_5, after0_6]
  by_cases h : UsedAt m hO c t
  · rw [outAt5, outAt6, dif_pos h, dif_pos h]
    unfold out5 out6
    iintro ⟨⟨⟨HS0, Hg⟩, ⟨HT0, HT1⟩⟩, Ho, ⟨%d0, H0⟩, ⟨%d1, H1⟩, ⟨%d2, H2⟩, ⟨%d3, H3⟩, ⟨%d4, H4⟩, ⟨%d5, -, H5⟩, ⟨%d6, -, H6⟩⟩
    iapply ((runUsed c (grid0.coords t) _ _ _ _ _ _ _ _ _ _ _ _ _ _ _ _ (iblk m hO c 0 t) (iblk m hO c 1 t) (iblk m hO c 2 t) (iblk m hO c 3 t) (iblk m hO c 4 t) (tbl m 0) (tbl m 1) h).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HT0]; · iexact HT0
    isplitl [HT1]; · iexact HT1
    iintro ⟨H0, H1, H2, H3, H4, ⟨%e5, H5⟩, ⟨%e6, H6⟩, ⟨%fT0, HS0⟩, HT0, HT1⟩
    isplitl [HS0 Hg HT0 HT1]
    · isplitl [HS0 Hg]
      · isplitl [HS0]
        · iexists _; unfold owns; iexists _; isplitr
          swap; · iexact HS0
          ipureintro; rfl
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      swap
      · unfold owns; iexists _; isplitr
        swap; · iexact H5
        ipureintro; rfl
      ipureintro
      exact fun _ => View.read_writes_of_cover _ _ _ _ _ (cover5 c _ _ _ _ _ _ _ _ _ _ _ _ _ _ _ _ _ _ _ _ _ _ _ _ h)
    iexists _; isplitr
    swap
    · unfold owns; iexists _; isplitr
      swap; · iexact H6
      ipureintro; rfl
    ipureintro
    exact fun _ => View.read_writes_of_cover _ _ _ _ _ (cover6 c _ _ _ _ _ _ _ _ _ _ _ _ _ _ _ _ _ _ _ _ _ _ _ _ h)
  · iintro ⟨⟨⟨HS0, Hg⟩, ⟨HT0, HT1⟩⟩, Ho, ⟨%d0, H0⟩, ⟨%d1, H1⟩, ⟨%d2, H2⟩, ⟨%d3, H3⟩, ⟨%d4, H4⟩, ⟨%d5, -, H5⟩, ⟨%d6, -, H6⟩⟩
    iapply (runIdle c (grid0.coords t) _ _ _ _ _ _ _ _ _ _ _ _ _ _ _ _ (iblk m hO c 0 t) (iblk m hO c 1 t) (iblk m hO c 2 t) (iblk m hO c 3 t) (iblk m hO c 4 t) (tbl m 0) (tbl m 1) h Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HT0]; · iexact HT0
    isplitl [HT1]; · iexact HT1
    iintro ⟨H0, H1, H2, H3, H4, ⟨%e5, H5⟩, ⟨%e6, H6⟩, ⟨%fT0, HS0⟩, HT0, HT1⟩
    isplitl [HS0 Hg HT0 HT1]
    · isplitl [HS0 Hg]
      · isplitl [HS0]
        · iexists _; unfold owns; iexists _; isplitr
          swap; · iexact HS0
          ipureintro; rfl
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      swap
      · unfold owns; iexists _; isplitr
        swap; · iexact H5
        ipureintro; rfl
      ipureintro
      exact fun h' => absurd h' h
    iexists _; isplitr
    swap
    · unfold owns; iexists _; isplitr
      swap; · iexact H6
      ipureintro; rfl
    ipureintro
    exact fun h' => absurd h' h

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, with the two outputs open. -/
theorem body_obligation (hO : Ok m) (c : Dev nD) :
    BodyObligationRel (dats (F := F) m hO 0 c) (defs₀ (F := F)) Variants.none () Set.univ (open56 m hO) (Left m hO c) := fun t => by
  rw [bigSep_W0, bigSep_W0, defs₀_row m hO]
  exact triple_restated (sound_body m hO c t) rfl .rfl fun _ => .rfl

/-- The proof data of the run, the two outputs held to `Left`. -/
abbrev rdat (hO : Ok m) (c : Dev nD) : RDat τ (Elt F) Unit ℕ (UR sig nD τ) ℕ (cfgM m hO) c :=
  (dats m hO 0 c).toRRel (open56 m hO) (Left m hO c)

/-- The arrays after a run. -/
abbrev Post (hO : Ok m) := RDat.FramePost (cfgM m hO) (rdat m hO) (V m)

set_option backward.isDefEq.respectTransparency.types false in
/-- Every run of the program ends, its arrays at what the proof data allows and its counters at zero. -/
theorem run_main (hO : Ok m) : θ_run defs (onTc (τ := τ) (main (F := F))) (s₀ m ρ) (fun r => Post m hO r ∧ r.2.sem = fun _ => 0) :=
  RDat.θ_run_frameP (Q' := _) pcfgs (fun _ => adm m hO) (0 : Fin 1) launch0 defs₀ Variants.none (rdat m hO) m ρ main
    (hbody := fun c => (body_obligation m hO c).toRRel) (hshare := fun c => (dats m hO 0 c).share_full fun _ => rfl)
    (howed := fun _ _ => rfl) (V := V m) (hmain := hmain m Variants.none) (hA := A_eq m hO) (hpf := V_pre m)
    (hΦ := fun _ _ => rfl)

/-- The arguments after a run. -/
theorem args_of (hO : Ok m) (r : PUnit × MemSt nD τ sig (Elt F)) (h : Post m hO r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c)⟩

/-- The frame, where the tables satisfy the windows' side condition. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m hO r h.1, h.2⟩) (run_main m ρ hO)

end Cert.Kernel2Ideal.Moe

end
-- ==== Proof.Moe.Spec.lean ====
/- One expert's rows, entry by entry. -/
module

public import Idealize.ShloMosaic.Lib.Pointwise
public import Idealize.ShloMosaic.PureOps.Ideal

@[expose] public section

noncomputable section

namespace Cert.Moe

open Idealize.ShloMosaic

abbrev SX : Shape := ⟨2, ![135168, 1024]⟩
abbrev SW : Shape := ⟨3, ![8, 1024, 3584]⟩
abbrev SD : Shape := ⟨3, ![8, 3584, 1024]⟩

/-- The gated unit: the gate times its logistic, times the other factor. -/
def swi (g u : EReal) : EReal := g * Ideal.logistic g * u

/-- Expert `e` on row `r`, at output `q`. -/
def expert (x : SX.Idx → EReal) (wg wu : SW.Idx → EReal) (wd : SD.Idx → EReal) (e : Fin 8) (r : Fin 135168) (q : Fin 1024) : EReal :=
  ∑ f : Fin 3584, swi (∑ k : Fin 1024, x (ix2 r k) * wg (ix3 e k f)) (∑ k : Fin 1024, x (ix2 r k) * wu (ix3 e k f)) * wd (ix3 e f q)

end Cert.Moe

end
-- ==== Proof.Moe.Act.lean ====
/- The experts' kernel at a tile in use: what its chunks of activations hold, and the two halves it stores. -/
module

public import proofs.«01_k».proof.Proof.Moe.Frame
public import Idealize.ShloMosaic.Lib.Pipeline.ValueKit
public import Idealize.ShloMosaic.Lib.Pointwise
public import proofs.«01_k».proof.Proof.Moe.Spec

@[expose] public section

set_option maxRecDepth 16384

noncomputable section

namespace Cert.Kernel2Ideal.Moe

open Cert.Kernel2Ideal Cert.Kernel2Ideal.Gen Cert.Moe
open Idealize.ShloMosaic Idealize.ShloMosaic.TcCoe Idealize.ShloMosaic.Tactic

/-- One chunk of the activations: the rows against 512 columns of the two weights. -/
def chunk (v8 : FVec Ideal S512x1024 .bf16) (a b : Vec Ideal S1x1024x512 .bf16) : FVec Ideal S512x512 .bf16 :=
  k0_pay7 v8 a b

theorem chunk_at (v8 : FVec Ideal S512x1024 .bf16) (a b : Vec Ideal S1x1024x512 .bf16) (r q : Fin 512) :
    chunk v8 a b (ix2 r q) = swi (∑ k : Fin 1024, v8 (ix2 r k) * a (ix3 (0 : Fin 1) k q)) (∑ k : Fin 1024, v8 (ix2 r k) * b (ix3 (0 : Fin 1) k q)) := by
  pointwise [chunk, k0_pay7]
  rfl

/-- The activations of the rows `v8`. -/
def act (v8 : FVec Ideal S512x1024 .bf16) (x2 x3 : Vec Ideal S1x1024x3584 .bf16) (y : S512x3584.Idx) : EReal :=
  swi (∑ k : Fin 1024, v8 (ix2 (y 0 : Fin 512) k) * x2 (ix3 (0 : Fin 1) k (y 1 : Fin 3584))) (∑ k : Fin 1024, v8 (ix2 (y 0 : Fin 512) k) * x3 (ix3 (0 : Fin 1) k (y 1 : Fin 3584)))

theorem piece_at (v8 : FVec Ideal S512x1024 .bf16) (x2 x3 : Vec Ideal S1x1024x3584 .bf16) (o : ℕ)
    (inb : ∀ a, (![0, 0, o] : Fin 3 → ℕ) a + S1x1024x512.size a ≤ S1x1024x3584.size a) (y : S512x3584.Idx) :
    View.TileAt (S := S512x3584) (Val := Elt Ideal) (e := .bf16) y ![0, o] S512x512.size
      (chunk v8 (View.ld x2 (Rect.unit (s := S1x1024x3584) ![0, 0, o] S1x1024x512.size inb)) (View.ld x3 (Rect.unit (s := S1x1024x3584) ![0, 0, o] S1x1024x512.size inb)))
      (act v8 x2 x3 y) := by
  intro x hx
  have e0 : (y 0).val = 0 + (x 0).val := hx 0
  have e1 : (y 1).val = o + (x 1).val := hx 1
  have ey : (x 0 : Fin 512) = (y 0 : Fin 512) := Fin.ext (by show (x 0).val = (y 0).val; omega)
  refine (congrArg _ (ix2_eta x).symm).trans ((chunk_at v8 _ _ (x 0) (x 1)).trans ?_)
  unfold act
  rw [ey]
  have ld_at : ∀ (X : Vec Ideal S1x1024x3584 .bf16) (k : Fin 1024),
      View.ld X (Rect.unit (s := S1x1024x3584) ![0, 0, o] S1x1024x512.size inb) (ix3 (0 : Fin 1) k (x 1 : Fin 512)) = X (ix3 (0 : Fin 1) k (y 1 : Fin 3584)) := fun X k => by
    refine View.ld_unit_apply_of X _ _ inb _ _ fun a => ?_
    fin_cases a
    · rfl
    · exact (Nat.zero_add _).symm
    · exact e1
  exact congrArg₂ swi (Finset.sum_congr rfl fun k _ => congrArg (v8 (ix2 (y 0 : Fin 512) k) * ·) (ld_at x2 k))
    (Finset.sum_congr rfl fun k _ => congrArg (v8 (ix2 (y 0 : Fin 512) k) * ·) (ld_at x3 k))

section Pays
variable (v4 v6 : Vec Ideal S512x512 .bf16) (v8 : FVec Ideal S512x1024 .bf16) (a b : Vec Ideal S1x1024x512 .bf16)
theorem pay5_eq : k0_pay5 (F := Ideal) v4 v6 a b = chunk (k0_pay4 v4 v6) a b := by sl_kernel_rfl
theorem pay6_eq : k0_pay6 (F := Ideal) v4 v6 a b = chunk (k0_pay4 v4 v6) a b := by sl_kernel_rfl
theorem pay7_eq : k0_pay7 (F := Ideal) v8 a b = chunk v8 a b := by sl_kernel_rfl
theorem pay8_eq : k0_pay8 (F := Ideal) v8 a b = chunk v8 a b := by sl_kernel_rfl
theorem pay12_eq : k0_pay12 (F := Ideal) (k0_pay9 v8 a) (k0_pay10 v8 b) (k0_pay11 v8 a) = chunk v8 a b := by sl_kernel_rfl
theorem pay13_eq : k0_pay13 (F := Ideal) v8 a b = chunk v8 a b := by sl_kernel_rfl
theorem pay14_eq : k0_pay14 (F := Ideal) v8 a b = chunk v8 a b := by sl_kernel_rfl
end Pays

variable (c : Dev nD) (arg3 : Memref sig .tc .vmem S512x512 .bf16) (harg3 : arg3.IsWhole) (arg4 : Memref sig .tc .vmem S512x512 .bf16) (harg4 : arg4.IsWhole)
  (arg5 : Memref sig .tc .vmem S1x1024x3584 .bf16) (harg5 : arg5.IsWhole) (arg6 : Memref sig .tc .vmem S1x1024x3584 .bf16) (harg6 : arg6.IsWhole)
  (arg10 : Memref sig .tc .vmem S512x3584 .bf16)
  (x0 x1 : Vec Ideal S512x512 .bf16) (x2 x3 : Vec Ideal S1x1024x3584 .bf16)

theorem row0 : View.readAt (Elt Ideal) arg3.view (Rect.unit (s := S512x512) ![0, 0] S512x512.size inb_S512x512_S512x512_0_0).toLoadRect (harg3.unread x0) = x0 := by
  rw [View.readAt_eq_ld, harg3.read_unread]
  exact View.ld_unit_lit _ _ (by decide)

theorem w_ld (M : Memref sig .tc .vmem S1x1024x3584 .bf16) (hM : M.IsWhole) (x : Vec Ideal S1x1024x3584 .bf16) (r : Rect S1x1024x3584) :
    View.readAt (Elt Ideal) M.view r.toLoadRect (hM.unread x) = View.ld x r := by
  rw [View.readAt_eq_ld, hM.read_unread]

theorem r1_eq : runUsed.sl.r_1 (F := Ideal) c arg3 harg3 arg4 harg4 x0 x1 = k0_pay4 x0 x1 := by
  unfold runUsed.sl.r_1
  rw [row0, row0]

/-- The pieces stored in the scratch, as chunks of the activations. -/
theorem pieces_eq : runUsed.sl.HS0_7 (F := Ideal) c arg3 harg3 arg4 harg4 arg5 harg5 arg6 harg6 x0 x1 x2 x3 =
    (let v8 := k0_pay4 x0 x1
    [⟨Rect.unit ![0, 3072] S512x512.size inb_S512x3584_S512x512_0_3072, chunk v8 (View.ld x2 (Rect.unit ![0, 0, 3072] S1x1024x512.size inb_S1x1024x3584_S1x1024x512_0_0_3072)) (View.ld x3 (Rect.unit ![0, 0, 3072] S1x1024x512.size inb_S1x1024x3584_S1x1024x512_0_0_3072))⟩,
     ⟨Rect.unit ![0, 2560] S512x512.size inb_S512x3584_S512x512_0_2560, chunk v8 (View.ld x2 (Rect.unit ![0, 0, 2560] S1x1024x512.size inb_S1x1024x3584_S1x1024x512_0_0_2560)) (View.ld x3 (Rect.unit ![0, 0, 2560] S1x1024x512.size inb_S1x1024x3584_S1x1024x512_0_0_2560))⟩,
     ⟨Rect.unit ![0, 2048] S512x512.size inb_S512x3584_S512x512_0_2048, chunk v8 (View.ld x2 (Rect.unit ![0, 0, 2048] S1x1024x512.size inb_S1x1024x3584_S1x1024x512_0_0_2048)) (View.ld x3 (Rect.unit ![0, 0, 2048] S1x1024x512.size inb_S1x1024x3584_S1x1024x512_0_0_2048))⟩,
     ⟨Rect.unit ![0, 1536] S512x512.size inb_S512x3584_S512x512_0_1536, chunk v8 (View.ld x2 (Rect.unit ![0, 0, 1536] S1x1024x512.size inb_S1x1024x3584_S1x1024x512_0_0_1536)) (View.ld x3 (Rect.unit ![0, 0, 1536] S1x1024x512.size inb_S1x1024x3584_S1x1024x512_0_0_1536))⟩,
     ⟨Rect.unit ![0, 1024] S512x512.size inb_S512x3584_S512x512_0_1024, chunk v8 (View.ld x2 (Rect.unit ![0, 0, 1024] S1x1024x512.size inb_S1x1024x3584_S1x1024x512_0_0_1024)) (View.ld x3 (Rect.unit ![0, 0, 1024] S1x1024x512.size inb_S1x1024x3584_S1x1024x512_0_0_1024))⟩,
     ⟨Rect.unit ![0, 512] S512x512.size inb_S512x3584_S512x512_0_512, chunk v8 (View.ld x2 (Rect.unit ![0, 0, 512] S1x1024x512.size inb_S1x1024x3584_S1x1024x512_0_0_512)) (View.ld x3 (Rect.unit ![0, 0, 512] S1x1024x512.size inb_S1x1024x3584_S1x1024x512_0_0_512))⟩,
     ⟨Rect.unit ![0, 0] S512x512.size inb_S512x3584_S512x512_0_0, chunk v8 (View.ld x2 (Rect.unit ![0, 0, 0] S1x1024x512.size inb_S1x1024x3584_S1x1024x512_0_0_0)) (View.ld x3 (Rect.unit ![0, 0, 0] S1x1024x512.size inb_S1x1024x3584_S1x1024x512_0_0_0))⟩] : List (View.Piece (Elt Ideal) S512x3584 .bf16)) := by
  unfold runUsed.sl.HS0_7 runUsed.sl.r_2 runUsed.sl.r_3 runUsed.sl.r_4
  rw [row0, row0]
  simp only [r1_eq, w_ld, pay5_eq, pay6_eq, pay7_eq, pay8_eq, pay12_eq, pay13_eq, pay14_eq]

/-- The scratch read whole holds the activations. -/
theorem scratch_eq : runUsed.sl.v (F := Ideal) c arg3 harg3 arg4 harg4 arg5 harg5 arg6 harg6 arg10 x0 x1 x2 x3 = act (k0_pay4 x0 x1) x2 x3 := by
  unfold runUsed.sl.v
  rw [View.readCov_eq_canon', pieces_eq]
  funext y
  have hy : (Rect.unit (s := S512x3584) ![0, 0] S512x3584.size inb_S512x3584_S512x3584_0_0).toLoadRect.idx y = y := by
    funext a
    refine Fin.ext ?_
    refine (Rect.idx_unit_val _ _ inb_S512x3584_S512x3584_0_0 y a).trans ?_
    fin_cases a
    · exact Nat.zero_add _
    · exact Nat.zero_add _
  rw [hy]
  refine View.canon_eq_of_allAt _ y _ (View.cover_of_tiled_head _ _ _ (by rfl) y) ?_
  refine View.allAt_cons_unit _ _ _ _ _ (piece_at _ x2 x3 3072 _ y) ?_
  refine View.allAt_cons_unit _ _ _ _ _ (piece_at _ x2 x3 2560 _ y) ?_
  refine View.allAt_cons_unit _ _ _ _ _ (piece_at _ x2 x3 2048 _ y) ?_
  refine View.allAt_cons_unit _ _ _ _ _ (piece_at _ x2 x3 1536 _ y) ?_
  refine View.allAt_cons_unit _ _ _ _ _ (piece_at _ x2 x3 1024 _ y) ?_
  refine View.allAt_cons_unit _ _ _ _ _ (piece_at _ x2 x3 512 _ y) ?_
  refine View.allAt_cons_unit _ _ _ _ _ (piece_at _ x2 x3 0 _ y) ?_
  exact View.allAt_nil _ _

end Cert.Kernel2Ideal.Moe

end
-- ==== Proof.Moe.Value.lean ====
/- What the experts' kernel leaves in its blocks at a tile in use, in terms of the arguments. -/
module

public import proofs.«01_k».proof.Proof.Moe.Act
public import Idealize.ShloMosaic.Lib.Claim
public import Idealize.ShloMosaic.Lib.WordArith

@[expose] public section

set_option maxRecDepth 16384

noncomputable section

namespace Cert.Kernel2Ideal.Moe

open Cert.Kernel2Ideal Cert.Kernel2Ideal.Gen Cert.Moe
open Idealize.ShloMosaic Idealize.ShloMosaic.TcCoe Idealize.ShloMosaic.Tactic

/-! ## The two stored halves -/

theorem pay2_at (A : Vec Ideal S512x3584 .bf16) (w : Vec Ideal S1x3584x1024 .bf16) (r q : Fin 512) :
    k0_pay2 (F := Ideal) A w (ix2 r q) = ∑ f : Fin 3584, A (ix2 r f) * w (ix3 (0 : Fin 1) f (⟨q.val, by omega⟩ : Fin 1024)) := by
  pointwise [k0_pay2, k0_pay1]

theorem pay3_at (A : Vec Ideal S512x3584 .bf16) (w : Vec Ideal S1x3584x1024 .bf16) (r q : Fin 512) :
    k0_pay3 (F := Ideal) A w (ix2 r q) = ∑ f : Fin 3584, A (ix2 r f) * w (ix3 (0 : Fin 1) f (⟨512 + q.val, by omega⟩ : Fin 1024)) := by
  pointwise [k0_pay3, k0_pay1]

/-- The rows, from their two halves. -/
theorem rows_at (x0 x1 : Vec Ideal S512x512 .bf16) (r : Fin 512) (k : Fin 1024) :
    k0_pay4 (F := Ideal) x0 x1 (ix2 r k) = if h : k.val < 512 then x0 (ix2 r ⟨k.val, h⟩) else x1 (ix2 r ⟨k.val - 512, by omega⟩) := by
  pointwise [k0_pay4]

section Blocks
variable (c : Dev nD) (i : grid0.Coords) (arg3 : Memref sig .tc .vmem S512x512 .bf16) (harg3 : arg3.IsWhole) (arg4 : Memref sig .tc .vmem S512x512 .bf16) (harg4 : arg4.IsWhole)
  (arg5 : Memref sig .tc .vmem S1x1024x3584 .bf16) (harg5 : arg5.IsWhole) (arg6 : Memref sig .tc .vmem S1x1024x3584 .bf16) (harg6 : arg6.IsWhole)
  (arg7 : Memref sig .tc .vmem S1x3584x1024 .bf16) (harg7 : arg7.IsWhole)
  (arg8 : Memref sig .tc .vmem S512x512 .bf16) (harg8 : arg8.IsWhole) (arg9 : Memref sig .tc .vmem S512x512 .bf16) (harg9 : arg9.IsWhole)
  (arg10 : Memref sig .tc .vmem S512x3584 .bf16) (harg10 : arg10.IsWhole)
  (x0 x1 : Vec Ideal S512x512 .bf16) (x2 x3 : Vec Ideal S1x1024x3584 .bf16) (x4 : Vec Ideal S1x3584x1024 .bf16)
  (xt0 : TbBuf0 (F := Ideal) c tbM0_0) (xt1 : TbBuf0 (F := Ideal) c tbM0_1) (hc0 : Used c xt1 i)

theorem w4 : View.readAt (Elt Ideal) arg7.view (Rect.unit (s := S1x3584x1024) ![0, 0, 0] S1x3584x1024.size inb_S1x3584x1024_S1x3584x1024_0_0_0).toLoadRect (harg7.unread x4) = x4 := by
  rw [View.readAt_eq_ld, harg7.read_unread]
  exact View.ld_unit_lit _ _ (by decide)

theorem out5_eq : out5 (F := Ideal) c i arg3 harg3 arg4 harg4 arg5 harg5 arg6 harg6 arg7 harg7 arg8 harg8 arg9 harg9 arg10 harg10 x0 x1 x2 x3 x4 xt0 xt1 hc0
    = k0_pay2 (F := Ideal) (act (k0_pay4 x0 x1) x2 x3) x4 := by
  unfold out5
  rw [View.read_writes_junk_eq_canon]
  refine (View.canon_cons_unit_lit (S := S512x512) inb_S512x512_S512x512_0_0 _ _ (by decide)).trans ?_
  rw [scratch_eq, w4]

theorem out6_eq : out6 (F := Ideal) c i arg3 harg3 arg4 harg4 arg5 harg5 arg6 harg6 arg7 harg7 arg8 harg8 arg9 harg9 arg10 harg10 x0 x1 x2 x3 x4 xt0 xt1 hc0
    = k0_pay3 (F := Ideal) (act (k0_pay4 x0 x1) x2 x3) x4 := by
  unfold out6
  rw [View.read_writes_junk_eq_canon]
  refine (View.canon_cons_unit_lit (S := S512x512) inb_S512x512_S512x512_0_0 _ _ (by decide)).trans ?_
  rw [scratch_eq, w4]
end Blocks

variable (m : (ℓ : Loc nD τ sig) → Buf (Elt Ideal) ℓ)

/-! ## The arrays the call reads -/

theorem V_v1 (c : Dev nD) : V m c main_v1 = (truncf .bf16 (extractStridedSlice S135168x512 ![0, 0] (m ((c : Thread nD τ).loc main_arg0)) slices_S135168x1024_S135168x512_0_0) bitsLt_bf16_f32 : FVec Ideal S135168x512 .bf16) := by
  show StableHlo.after hostOps0 _ (Proc.devRef .tc main_v1) = _
  after_results
theorem V_v3 (c : Dev nD) : V m c main_v3 = (truncf .bf16 (extractStridedSlice S135168x512 ![0, 512] (m ((c : Thread nD τ).loc main_arg0)) slices_S135168x1024_S135168x512_0_512) bitsLt_bf16_f32 : FVec Ideal S135168x512 .bf16) := by
  show StableHlo.after hostOps0 _ (Proc.devRef .tc main_v3) = _
  after_results
theorem V_v4 (c : Dev nD) : V m c main_v4 = (truncf .bf16 (m ((c : Thread nD τ).loc main_arg3)) bitsLt_bf16_f32 : FVec Ideal S8x1024x3584 .bf16) := by
  show StableHlo.after hostOps0 _ (Proc.devRef .tc main_v4) = _
  after_results
theorem V_v5 (c : Dev nD) : V m c main_v5 = (truncf .bf16 (m ((c : Thread nD τ).loc main_arg4)) bitsLt_bf16_f32 : FVec Ideal S8x1024x3584 .bf16) := by
  show StableHlo.after hostOps0 _ (Proc.devRef .tc main_v5) = _
  after_results
theorem V_v6 (c : Dev nD) : V m c main_v6 = (truncf .bf16 (m ((c : Thread nD τ).loc main_arg5)) bitsLt_bf16_f32 : FVec Ideal S8x3584x1024 .bf16) := by
  show StableHlo.after hostOps0 _ (Proc.devRef .tc main_v6) = _
  after_results

end Cert.Kernel2Ideal.Moe

end
-- ==== Proof.Moe.Pre.lean ====
/- The precondition decoded: every tile's expert is one of the eight, so every block of the weights lies in its array. -/
module

public import proofs.«01_k».proof.Defs
public import proofs.«01_k».proof.Proof.Gen.Kernel2
public import proofs.«01_k».proof.Proof.Gen.Pre_experts_in_range
public import proofs.«01_k».proof.Proof.Moe.Frame
public import Idealize.ShloMosaic.Lib.ReduceAll
public import Idealize.ShloMosaic.Lib.WordCmp
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe Idealize.SL.Sem Idealize.ShloMosaic.Tactic

variable {F : FTy → Type} [FloatOps F]

/-- The precondition at a tile. -/
theorem lt_of_pre (x : FVec F S135168x1024 .f32) (te : IVec S264 32) (nu : IVec S1 32) (wg wu : FVec F S8x1024x3584 .f32) (wd : FVec F S8x3584x1024 .f32)
    (h : Cert.Pre_experts_in_range.fn x te nu wg wu wd = fun _ => 1#1) (j : S264.Idx) : (te j).toNat < 8 := by
  have h := Host.reduce_andi_all _ _ _ _ _ (congrFun h (fun a => a.elim0)) j
  obtain ⟨h0, h1⟩ := IntOp.andi_eq_one.1 h
  have h0 : (0 : ℤ) ≤ (te j).toInt := IntOp.cmpi_sge.1 h0
  have h1 : (te j).toInt < 8 := IntOp.cmpi_slt.1 h1
  rw [BitVec.toInt_eq_toNat_cond] at h0 h1
  split at h0 <;> omega

variable (m : (ℓ : Loc nD τ sig) → Buf (Elt F) ℓ)

theorem ok_of_lt (te : IVec S264 32) (hte : V m 0 main_arg1 = te) (h : ∀ j, (te j).toNat < 8) : Ok m := by
  have key : ∀ j : S264.Idx, BitVec.toNat (w := 32) (tbl m 0 j) < 8 := fun j => by
    have e : tbl m 0 = te := hte
    rw [e]
    exact h j
  refine ⟨fun i => ⟨fun a => ?_, .inr (.inr ⟨by decide, rfl, rfl, rfl⟩)⟩, fun i => ⟨fun a => ?_, .inr (.inr ⟨by decide, rfl, rfl, rfl⟩)⟩,
    fun i => ⟨fun a => ?_, .inr (.inr ⟨by decide, rfl, rfl, rfl⟩)⟩⟩
  all_goals
    fin_cases a
    · show (BitVec.toNat _ + 1) * 1 ≤ 8
      rw [Nat.mul_one]
      exact key _
    · show (0 + 1) * _ ≤ _
      decide
    · show (0 + 1) * _ ≤ _
      decide

/-- The frame's statement, at any values. -/
def Framed (F : FTy → Type) [FloatOps F] : Prop :=
  ∀ (m : (ℓ : Loc nD τ sig) → Buf (Elt F) ℓ) (g : Dev nD → PrngReg),
    (∀ c : Dev nD, Cert.Pre_experts_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) →
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem framed : Framed F := fun m g h => frame m g (ok_of_lt m _ (V_main_arg1 m 0) (lt_of_pre _ _ _ _ _ _ (h 0)))

theorem ok_of_pre (m : (ℓ : Loc nD τ sig) → Buf (Elt Ideal) ℓ) (h : Cert.Pre_Kernel2Ideal m) : Ok m :=
  ok_of_lt m _ (V_main_arg1 m 0) (lt_of_pre _ _ _ _ _ _ (h 0))

theorem frame_ideal : Cert.quiescent_Kernel2Ideal := framed

/-- The printed program at its words has the same text. -/
theorem same_text : Cert.quiescent_Kernel2 = Framed Bits := by sl_kernel_rfl

theorem frame_bits : Cert.quiescent_Kernel2 := same_text ▸ framed

end Cert.Kernel2Ideal.Moe

end
-- ==== Proof.Moe.Point.lean ====
/- The blocks the experts' kernel reads at a tile, at coordinates of the arguments, and so the two blocks it stores. -/
module

public import proofs.«01_k».proof.Proof.Moe.Value
public import proofs.«01_k».proof.Proof.Moe.Pre

@[expose] public section

set_option maxRecDepth 16384

noncomputable section

namespace Cert.Kernel2Ideal.Moe

open Cert.Kernel2Ideal Cert.Kernel2Ideal.Gen Cert.Moe
open Idealize.ShloMosaic Idealize.ShloMosaic.TcCoe Idealize.ShloMosaic.Tactic

/-- The grid has one axis, so a point's coordinate is its number. -/
theorem coord : ∀ t : Fin grid0.N, (grid0.coords t 0).val = t.val := by decide +kernel

theorem coord_word (t : Fin grid0.N) : (BitVec.ofNat 32 (grid0.coords t 0).val).toNat = t.val := by
  rw [coord, BitVec.toNat_ofNat]
  have : t.val < 264 := t.isLt
  omega

variable (m : (ℓ : Loc nD τ sig) → Buf (Elt Ideal) ℓ) (hO : Ok m) (c : Dev nD)

theorem index_0 (t : Fin (cfgM m hO).N) : ((cfgM m hO).win 0).index t = ![t.val, 0] := by
  rw [← coord_word t]; rfl
theorem index_1 (t : Fin (cfgM m hO).N) : ((cfgM m hO).win 1).index t = ![t.val, 0] := by
  rw [← coord_word t]; rfl
theorem index_5 (t : Fin (cfgM m hO).N) : ((cfgM m hO).win 5).index t = ![t.val, 0] := by
  rw [← coord_word t]; rfl
theorem index_6 (t : Fin (cfgM m hO).N) : ((cfgM m hO).win 6).index t = ![t.val, 0] := by
  rw [← coord_word t]; rfl

/-- The table's index at a point: the point itself. -/
theorem entry (t : Fin (cfgM m hO).N) (h) (j : (Rect.unit (s := S264) ![(BitVec.ofNat 32 (grid0.coords t 0).val).toNat] S1.size h).shape.Idx) :
    (Rect.unit (s := S264) ![(BitVec.ofNat 32 (grid0.coords t 0).val).toNat] S1.size h).emb j = (ix1 (⟨t.val, t.isLt⟩ : Fin 264) : S264.Idx) := by
  funext a
  fin_cases a
  apply Fin.ext
  have hj : (j 0).val < 1 := (j 0).isLt
  show (BitVec.ofNat 32 (grid0.coords t 0).val).toNat + 1 * (j 0).val = t.val
  have e := coord_word t
  omega

theorem index_2 (t : Fin (cfgM m hO).N) (e : ℕ) (he : BitVec.toNat (w := 32) (tbl m 0 (ix1 (⟨t.val, t.isLt⟩ : Fin 264))) = e) : ((cfgM m hO).win 2).index t = ![e, 0, 0] := by
  rw [← he, ← entry m hO t (k0_off1_inb _) (Shape.Idx.first (numel1_S1.symm ▸ Nat.one_pos))]; rfl
theorem index_3 (t : Fin (cfgM m hO).N) (e : ℕ) (he : BitVec.toNat (w := 32) (tbl m 0 (ix1 (⟨t.val, t.isLt⟩ : Fin 264))) = e) : ((cfgM m hO).win 3).index t = ![e, 0, 0] := by
  rw [← he, ← entry m hO t (k0_off1_inb _) (Shape.Idx.first (numel1_S1.symm ▸ Nat.one_pos))]; rfl
theorem index_4 (t : Fin (cfgM m hO).N) (e : ℕ) (he : BitVec.toNat (w := 32) (tbl m 0 (ix1 (⟨t.val, t.isLt⟩ : Fin 264))) = e) : ((cfgM m hO).win 4).index t = ![e, 0, 0] := by
  rw [← he, ← entry m hO t (k0_off1_inb _) (Shape.Idx.first (numel1_S1.symm ▸ Nat.one_pos))]; rfl

section At
variable (x : SX.Idx → EReal) (wg wu : SW.Idx → EReal) (wd : SD.Idx → EReal)

theorem x0_at (hx : m ((c : Thread nD τ).loc main_arg0) = x) (t : Fin (cfgM m hO).N) (r k : Fin 512) (R : Fin 135168) (hR : R.val = t.val * 512 + r.val) :
    (iblk m hO c 0 t : S512x512.Idx → EReal) (ix2 r k) = x (ix2 R (⟨k.val, by omega⟩ : Fin 1024)) := by
  refine Eq.trans (b := (V m c main_v1 : S135168x512.Idx → EReal) (ix2 R k)) ?_ ?_
  · blk_ext [iblk, index_0 m hO t]
    all_goals omega
  · rw [V_v1, hx]; pointwise

theorem x1_at (hx : m ((c : Thread nD τ).loc main_arg0) = x) (t : Fin (cfgM m hO).N) (r k : Fin 512) (R : Fin 135168) (hR : R.val = t.val * 512 + r.val) :
    (iblk m hO c 1 t : S512x512.Idx → EReal) (ix2 r k) = x (ix2 R (⟨512 + k.val, by omega⟩ : Fin 1024)) := by
  refine Eq.trans (b := (V m c main_v3 : S135168x512.Idx → EReal) (ix2 R k)) ?_ ?_
  · blk_ext [iblk, index_1 m hO t]
    all_goals omega
  · rw [V_v3, hx]; pointwise

variable (t : Fin (cfgM m hO).N) (e : Fin 8) (he : BitVec.toNat (w := 32) (tbl m 0 (ix1 (⟨t.val, t.isLt⟩ : Fin 264))) = e.val)
include he

theorem x2_at (hw : m ((c : Thread nD τ).loc main_arg3) = wg) (k : Fin 1024) (f : Fin 3584) :
    (iblk m hO c 2 t : S1x1024x3584.Idx → EReal) (ix3 (0 : Fin 1) k f) = wg (ix3 e k f) := by
  refine Eq.trans (b := (V m c main_v4 : SW.Idx → EReal) (ix3 e k f)) ?_ ?_
  · blk_ext [iblk, index_2 m hO t e.val he]
  · rw [V_v4, hw]; pointwise

theorem x3_at (hw : m ((c : Thread nD τ).loc main_arg4) = wu) (k : Fin 1024) (f : Fin 3584) :
    (iblk m hO c 3 t : S1x1024x3584.Idx → EReal) (ix3 (0 : Fin 1) k f) = wu (ix3 e k f) := by
  refine Eq.trans (b := (V m c main_v5 : SW.Idx → EReal) (ix3 e k f)) ?_ ?_
  · blk_ext [iblk, index_3 m hO t e.val he]
  · rw [V_v5, hw]; pointwise

theorem x4_at (hw : m ((c : Thread nD τ).loc main_arg5) = wd) (f : Fin 3584) (q : Fin 1024) :
    (iblk m hO c 4 t : S1x3584x1024.Idx → EReal) (ix3 (0 : Fin 1) f q) = wd (ix3 e f q) := by
  refine Eq.trans (b := (V m c main_v6 : SD.Idx → EReal) (ix3 e f q)) ?_ ?_
  · blk_ext [iblk, index_4 m hO t e.val he]
  · rw [V_v6, hw]; pointwise

/-- A row of the tile. -/
theorem rows (hx : m ((c : Thread nD τ).loc main_arg0) = x) (r : Fin 512) (k : Fin 1024) (R : Fin 135168) (hR : R.val = t.val * 512 + r.val) :
    k0_pay4 (F := Ideal) (iblk m hO c 0 t) (iblk m hO c 1 t) (ix2 r k) = x (ix2 R k) := by
  refine (rows_at _ _ r k).trans ?_
  by_cases h : k.val < 512
  · refine (dif_pos h).trans (x0_at m hO c x hx t r _ R hR)
  · refine (dif_neg h).trans ((x1_at m hO c x hx t r _ R hR).trans ?_)
    congr 2
    ext
    simp only
    omega

/-- The activations of the tile. -/
theorem act_at (hx : m ((c : Thread nD τ).loc main_arg0) = x) (hg : m ((c : Thread nD τ).loc main_arg3) = wg) (hu : m ((c : Thread nD τ).loc main_arg4) = wu)
    (r : Fin 512) (f : Fin 3584) (R : Fin 135168) (hR : R.val = t.val * 512 + r.val) :
    act (k0_pay4 (F := Ideal) (iblk m hO c 0 t) (iblk m hO c 1 t)) (iblk m hO c 2 t) (iblk m hO c 3 t) (ix2 r f)
      = swi (∑ k : Fin 1024, x (ix2 R k) * wg (ix3 e k f)) (∑ k : Fin 1024, x (ix2 R k) * wu (ix3 e k f)) :=
  congrArg₂ swi
    (Finset.sum_congr rfl fun k _ => congrArg₂ (· * ·) (rows m hO c x t e he hx r k R hR) (x2_at m hO c wg t e he hg k f))
    (Finset.sum_congr rfl fun k _ => congrArg₂ (· * ·) (rows m hO c x t e he hx r k R hR) (x3_at m hO c wu t e he hu k f))

/-- The first stored half of a tile in use. -/
theorem left5 (h : UsedAt m hO c t) (hx : m ((c : Thread nD τ).loc main_arg0) = x) (hg : m ((c : Thread nD τ).loc main_arg3) = wg)
    (hu : m ((c : Thread nD τ).loc main_arg4) = wu) (hd : m ((c : Thread nD τ).loc main_arg5) = wd)
    (r q : Fin 512) (R : Fin 135168) (hR : R.val = t.val * 512 + r.val) :
    outAt5 m hO c t (ix2 r q) = expert x wg wu wd e R (⟨q.val, by omega⟩ : Fin 1024) := by
  refine (congrFun (dif_pos h) _).trans ((congrFun (out5_eq c _ _ _ _ _ _ _ _ _ _ _ _ _ _ _ _ _ _ _ _ _ _ _ _ h) _).trans ((pay2_at _ _ r q).trans ?_))
  exact Finset.sum_congr rfl fun f _ => congrArg₂ (· * ·) (act_at m hO c x wg wu t e he hx hg hu r f R hR) (x4_at m hO c wd t e he hd f _)

/-- The second stored half of a tile in use. -/
theorem left6 (h : UsedAt m hO c t) (hx : m ((c : Thread nD τ).loc main_arg0) = x) (hg : m ((c : Thread nD τ).loc main_arg3) = wg)
    (hu : m ((c : Thread nD τ).loc main_arg4) = wu) (hd : m ((c : Thread nD τ).loc main_arg5) = wd)
    (r q : Fin 512) (R : Fin 135168) (hR : R.val = t.val * 512 + r.val) :
    outAt6 m hO c t (ix2 r q) = expert x wg wu wd e R (⟨512 + q.val, by omega⟩ : Fin 1024) := by
  refine (congrFun (dif_pos h) _).trans ((congrFun (out6_eq c _ _ _ _ _ _ _ _ _ _ _ _ _ _ _ _ _ _ _ _ _ _ _ _ h) _).trans ((pay3_at _ _ r q).trans ?_))
  exact Finset.sum_congr rfl fun f _ => congrArg₂ (· * ·) (act_at m hO c x wg wu t e he hx hg hu r f R hR) (x4_at m hO c wd t e he hd f _)

end At
end Cert.Kernel2Ideal.Moe

end
-- ==== Proof.Moe.RefAt.lean ====
/- The reference of the experts read at an index: of its eight terms the tile's expert's is left. -/
module

public import Idealize.ShloMosaic.Lib.Pointwise
public import Idealize.ShloMosaic.Lib.Tactic
public import proofs.«01_k».proof.Proof.Gen.Reference2Ideal.Run
public import proofs.«01_k».proof.Proof.Moe.Spec

@[expose] public section

set_option maxRecDepth 16384

noncomputable section

namespace Cert.Moe

open Idealize.ShloMosaic Idealize.ShloMosaic.TcCoe Idealize.ShloMosaic.Tactic Cert.Reference2Ideal Cert.Reference2Ideal.Gen Cert.Reference2Ideal.Value

variable (x : FVec Ideal S135168x1024 .f32) (te : IVec S264 32) (wg wu : FVec Ideal S8x1024x3584 .f32) (wd : FVec Ideal S8x3584x1024 .f32)

/-- Every row's expert. -/
def rowExpert : IVec S135168x1 32 :=
  shapeCast _ (broadcastInDim S264x512 ![0, 1] bcast_S264x1_S264x512_0_1 (broadcastInDim S264x1 ![0] bcast_S264_S264x1_0 te)) shapeCasts_S264x512_S135168x1

theorem rowExpert_at (r : Fin 135168) : rowExpert te (ix2 r (0 : Fin 1)) = te (ix1 (⟨r.val / 512, by omega⟩ : Fin 264)) := by
  pointwise [rowExpert]

/-- The rows against one of the weights. -/
def lin (w : FVec Ideal S8x1024x3584 .f32) (n : ℕ) (hS : S8x1024x3584.Slices ![n, 0, 0] S1x1024x3584) : FVec Ideal S135168x3584 .f32 :=
  Host.dotGeneral dot_S135168x1024_S1024x3584_S135168x3584_1_0_0_1_n_n none (truncf .bf16 x bitsLt_bf16_f32)
    (shapeCast _ (extractStridedSlice S1x1024x3584 ![n, 0, 0] (truncf .bf16 w bitsLt_bf16_f32) hS) shapeCasts_S1x1024x3584_S1024x3584)

theorem lin_at (w : FVec Ideal S8x1024x3584 .f32) (e : Fin 8) (n : ℕ) (hn : n = e.val) (hS : S8x1024x3584.Slices ![n, 0, 0] S1x1024x3584) (r : Fin 135168) (f : Fin 3584) :
    lin x w n hS (ix2 r f) = ∑ k : Fin 1024, x (ix2 r k) * w (ix3 e k f) := by
  subst hn
  pointwise [lin]

/-- The gated unit of all rows. -/
def gated (g u : FVec Ideal S135168x3584 .f32) : FVec Ideal S135168x3584 .f32 :=
  mulf (mulf g (Host.divf (broadcastInDim S135168x3584 ![] bcast_S_S135168x3584 (constant S_ .f32 0x3F800000#32))
    (addf (broadcastInDim S135168x3584 ![] bcast_S_S135168x3584 (constant S_ .f32 0x3F800000#32)) (Host.exp (Host.negf g))))) u

theorem gated_at (g u : FVec Ideal S135168x3584 .f32) (j : S135168x3584.Idx) : gated g u j = swi (g j) (u j) := by
  pointwise [gated]
  rfl

/-- One expert's term. -/
def term (n : ℕ) (b : BitVec 32) (hS : S8x1024x3584.Slices ![n, 0, 0] S1x1024x3584) (hD : S8x3584x1024.Slices ![n, 0, 0] S1x3584x1024) : FVec Ideal S135168x1024 .f32 :=
  mulf (broadcastInDim S135168x1024 ![0, 1] bcast_S135168x1_S135168x1024_0_1 (uitofp .f32 (cmpi .eq (rowExpert te) (broadcastInDim S135168x1 ![] bcast_S_S135168x1 (constantI S_ 32 b)))))
    (Host.dotGeneral dot_S135168x3584_S3584x1024_S135168x1024_1_0_0_1_n_n none (truncf .bf16 (gated (lin x wg n hS) (lin x wu n hS)) bitsLt_bf16_f32)
      (shapeCast _ (extractStridedSlice S1x3584x1024 ![n, 0, 0] (truncf .bf16 wd bitsLt_bf16_f32) hD) shapeCasts_S1x3584x1024_S3584x1024))

theorem term_at (e : Fin 8) (n : ℕ) (hn : n = e.val) (b : BitVec 32) (hS : S8x1024x3584.Slices ![n, 0, 0] S1x1024x3584) (hD : S8x3584x1024.Slices ![n, 0, 0] S1x3584x1024)
    (r : Fin 135168) (q : Fin 1024) :
    term x te wg wu wd n b hS hD (ix2 r q)
      = FloatOps.uitofp (F := Ideal) .f32 (IntOp.cmpi .eq (rowExpert te (ix2 r (0 : Fin 1))) b) * expert x wg wu wd e r q := by
  have l0 := fun f => lin_at x wg e n hn hS r f
  have l1 := fun f => lin_at x wu e n hn hS r f
  subst hn
  pointwise [term, expert]
  simp only [gated_at, l0, l1]

/-- The sum of the eight terms. -/
def refSum : FVec Ideal S135168x1024 .bf16 :=
  truncf .bf16 (addf (addf (addf (addf (addf (addf (addf (addf (broadcastInDim S135168x1024 ![] bcast_S_S135168x1024 (constant S_ .f32 0x00000000#32))
    (term x te wg wu wd 0 0#32 slices_S8x1024x3584_S1x1024x3584_0_0_0 slices_S8x3584x1024_S1x3584x1024_0_0_0))
    (term x te wg wu wd 1 1#32 slices_S8x1024x3584_S1x1024x3584_1_0_0 slices_S8x3584x1024_S1x3584x1024_1_0_0))
    (term x te wg wu wd 2 2#32 slices_S8x1024x3584_S1x1024x3584_2_0_0 slices_S8x3584x1024_S1x3584x1024_2_0_0))
    (term x te wg wu wd 3 3#32 slices_S8x1024x3584_S1x1024x3584_3_0_0 slices_S8x3584x1024_S1x3584x1024_3_0_0))
    (term x te wg wu wd 4 4#32 slices_S8x1024x3584_S1x1024x3584_4_0_0 slices_S8x3584x1024_S1x3584x1024_4_0_0))
    (term x te wg wu wd 5 5#32 slices_S8x1024x3584_S1x1024x3584_5_0_0 slices_S8x3584x1024_S1x3584x1024_5_0_0))
    (term x te wg wu wd 6 6#32 slices_S8x1024x3584_S1x1024x3584_6_0_0 slices_S8x3584x1024_S1x3584x1024_6_0_0))
    (term x te wg wu wd 7 7#32 slices_S8x1024x3584_S1x1024x3584_7_0_0 slices_S8x3584x1024_S1x3584x1024_7_0_0)) bitsLt_bf16_f32

theorem res_eq (V0 : Valuation τ sig (Elt Ideal)) : res_main_v152 (F := Ideal) V0
    = refSum (V0 (Proc.devRef .tc main_arg0)) (V0 (Proc.devRef .tc main_arg1)) (V0 (Proc.devRef .tc main_arg3)) (V0 (Proc.devRef .tc main_arg4)) (V0 (Proc.devRef .tc main_arg5)) := by
  sl_kernel_rfl

theorem gate_one (a b : BitVec 32) (h : a = b) (y : EReal) : FloatOps.uitofp (F := Ideal) .f32 (IntOp.cmpi .eq a b) * y = y := by
  subst h
  have : IntOp.cmpi .eq a a = 1#1 := by simp [IntOp.cmpi]
  rw [this]
  show ((_ : ℝ) : EReal) * y = y
  simp

theorem gate_zero (a b : BitVec 32) (h : a ≠ b) (y : EReal) : FloatOps.uitofp (F := Ideal) .f32 (IntOp.cmpi .eq a b) * y = 0 := by
  have : IntOp.cmpi .eq a b = 0#1 := by
    show BitVec.ofBool (a == b) = 0#1
    rw [beq_false_of_ne h]
    rfl
  rw [this]
  show ((_ : ℝ) : EReal) * y = 0
  simp

/-- The reference at a row of expert `e`. -/
theorem refSum_at (r : Fin 135168) (q : Fin 1024) (e : Fin 8) (he : te (ix1 (⟨r.val / 512, by omega⟩ : Fin 264)) = BitVec.ofNat 32 e.val) :
    refSum x te wg wu wd (ix2 r q) = expert x wg wu wd e r q := by
  pointwise [refSum]
  rw [term_at x te wg wu wd 0 0 rfl, term_at x te wg wu wd 1 1 rfl, term_at x te wg wu wd 2 2 rfl, term_at x te wg wu wd 3 3 rfl,
    term_at x te wg wu wd 4 4 rfl, term_at x te wg wu wd 5 5 rfl, term_at x te wg wu wd 6 6 rfl, term_at x te wg wu wd 7 7 rfl]
  rw [rowExpert_at, he]
  fin_cases e
  all_goals simp [gate_one, gate_zero]

end Cert.Moe

end
-- ==== Proof.Moe.Final.lean ====
/- The two result arrays of the experts' kernel on the tiles in use, against the reference's. -/
module

public import proofs.«01_k».proof.Proof.Moe.Point
public import proofs.«01_k».proof.Proof.Moe.RefAt
public import Idealize.ShloMosaic.Lib.Pipeline.ArrRel

@[expose] public section

set_option maxRecDepth 16384

noncomputable section

namespace Cert.Kernel2Ideal.Moe

open Cert.Kernel2Ideal Cert.Kernel2Ideal.Gen Cert.Moe
open Idealize.ShloMosaic Idealize.ShloMosaic.TcCoe Idealize.ShloMosaic.Tactic Idealize.ShloMosaic.Pipeline Idealize.SL.Sem

/-- The facts the mask's operations take. -/
theorem mask_facts : Cert.On_used_rows.Facts := by constructor <;> decide

attribute [local instance] mask_facts

/-- The mask at a row: the row's tile is before the number of tiles in use. -/
theorem mask_at (x : FVec Ideal S135168x1024 .f32) (te : IVec S264 32) (nu : IVec S1 32) (wg wu : FVec Ideal S8x1024x3584 .f32) (wd : FVec Ideal S8x3584x1024 .f32)
    (R : Fin 135168) (q : Fin 512) :
    (Cert.On_used_rows.fn x te nu wg wu wd).1 (ix2 R q) = IntOp.cmpi .slt (BitVec.ofNat 32 (R.val / 512)) (nu (ix1 (0 : Fin 1))) := by
  pointwise [Cert.On_used_rows.fn]

variable (m : (ℓ : Loc nD τ sig) → Buf (Elt Ideal) ℓ) (hO : Ok m) (c : Dev nD)

theorem used_of (nu : IVec S1 32) (hn : tbl m 1 = nu) (t : Fin (cfgM m hO).N)
    (h : IntOp.cmpi .slt (BitVec.ofNat 32 t.val) (nu (ix1 (0 : Fin 1))) = 1#1) : UsedAt m hO c t := by
  show k0_cond1 (grid0.coords t) (nUsed c (tbl m 1)) = 1#1
  have e : nUsed c (tbl m 1) = nu (ix1 (0 : Fin 1)) := by
    rw [hn]
    refine congrArg nu (funext fun a => ?_)
    fin_cases a
    exact Subsingleton.elim (α := Fin 1) _ _
  rw [e]
  unfold k0_cond1
  rw [coord]
  show IntOp.cmpi .ne (BitVec.setWidth 32 (IntOp.cmpi .slt (BitVec.ofNat 32 t.val) (nu (ix1 (0 : Fin 1))))) 0#32 = 1#1
  rw [h]
  decide

section Arr
variable (x : SX.Idx → EReal) (te : IVec S264 32) (wg wu : SW.Idx → EReal) (wd : SD.Idx → EReal)

theorem nblk_5 (a : Fin 2) : ((cfgM m hO).win 5).nblk a = ![264, 1] a := by
  fin_cases a
  · show (135168 + 512 - 1) / 512 = 264
    norm_num
  · show (512 + 512 - 1) / 512 = 1
    norm_num

theorem covers_5 : ((cfgM m hO).win 5).Covers :=
  ⟨fun (a : Fin 2) => show 0 < S512x512.size a from (by decide : ∀ a : Fin 2, 0 < S512x512.size a) a, fun β => ⟨⟨(β (0 : Fin 2)).val, lt_of_lt_of_eq (β (0 : Fin 2)).isLt (nblk_5 m hO 0)⟩, flush0_5 _ _, fun (a : Fin 2) => ⟨by
    rw [index_5]
    fin_cases a
    · rfl
    · have : (β (1 : Fin 2)).val < 1 := lt_of_lt_of_eq (β (1 : Fin 2)).isLt (nblk_5 m hO 1)
      show 0 = (β (1 : Fin 2)).val
      omega, .inl rfl⟩⟩⟩

theorem nblk_6 (a : Fin 2) : ((cfgM m hO).win 6).nblk a = ![264, 1] a := by
  fin_cases a
  · show (135168 + 512 - 1) / 512 = 264
    norm_num
  · show (512 + 512 - 1) / 512 = 1
    norm_num

theorem covers_6 : ((cfgM m hO).win 6).Covers :=
  ⟨fun (a : Fin 2) => show 0 < S512x512.size a from (by decide : ∀ a : Fin 2, 0 < S512x512.size a) a, fun β => ⟨⟨(β (0 : Fin 2)).val, lt_of_lt_of_eq (β (0 : Fin 2)).isLt (nblk_6 m hO 0)⟩, flush0_6 _ _, fun (a : Fin 2) => ⟨by
    rw [index_6]
    fin_cases a
    · rfl
    · have : (β (1 : Fin 2)).val < 1 := lt_of_lt_of_eq (β (1 : Fin 2)).isLt (nblk_6 m hO 1)
      show 0 = (β (1 : Fin 2)).val
      omega, .inl rfl⟩⟩⟩

section Hyp
variable (hx : m ((c : Thread nD τ).loc main_arg0) = x) (ht : tbl m 0 = te) (hlt : ∀ j, (te j).toNat < 8) (hg : m ((c : Thread nD τ).loc main_arg3) = wg)
  (hu : m ((c : Thread nD τ).loc main_arg4) = wu) (hd : m ((c : Thread nD τ).loc main_arg5) = wd)
include hx ht hlt hg hu hd

/-- The table's word at a tile is its expert's number. -/
theorem te_at (s : Fin (cfgM m hO).N) (R : Fin 135168) (hR : R.val / 512 = s.val) :
    te (ix1 (⟨R.val / 512, by omega⟩ : Fin 264)) = BitVec.ofNat 32 (te (ix1 (⟨s.val, s.isLt⟩ : Fin 264))).toNat := by
  rw [BitVec.ofNat_toNat, BitVec.setWidth_eq]
  congr 2
  ext
  exact hR

theorem val5 (s : Fin (cfgM m hO).N) (hU : UsedAt m hO c s) (a q : Fin 512) (R : Fin 135168) (hR : R.val = s.val * 512 + a.val) :
    outAt5 m hO c s (ix2 a q) = refSum x te wg wu wd (ix2 R (⟨q.val, by omega⟩ : Fin 1024)) := by
  refine (left5 m hO c x wg wu wd s ⟨(te (ix1 (⟨s.val, s.isLt⟩ : Fin 264))).toNat, hlt _⟩ (by rw [ht]) hU hx hg hu hd a q R hR).trans ?_
  refine (refSum_at x te wg wu wd R _ _ ?_).symm
  exact te_at m hO c x te wg wu wd hx ht hlt hg hu hd s R (by omega)

theorem val6 (s : Fin (cfgM m hO).N) (hU : UsedAt m hO c s) (a q : Fin 512) (R : Fin 135168) (hR : R.val = s.val * 512 + a.val) :
    outAt6 m hO c s (ix2 a q) = refSum x te wg wu wd (ix2 R (⟨512 + q.val, by omega⟩ : Fin 1024)) := by
  refine (left6 m hO c x wg wu wd s ⟨(te (ix1 (⟨s.val, s.isLt⟩ : Fin 264))).toNat, hlt _⟩ (by rw [ht]) hU hx hg hu hd a q R hR).trans ?_
  refine (refSum_at x te wg wu wd R _ _ ?_).symm
  exact te_at m hO c x te wg wu wd hx ht hlt hg hu hd s R (by omega)
end Hyp

local notation "𝕄D" => Dat τ (Elt Ideal) Unit ℕ (UR sig nD τ) ℕ

theorem emb5 (t : Fin (cfgM m hO).N) (y : S512x512.Idx) (R : Fin 135168) (hR : R.val = t.val * 512 + (y 0).val) :
    ((((cfgM m hO).win 5).blk t).view.emb y : S135168x512.Idx) = ix2 R (y 1 : Fin 512) := by
  blk_ext [index_5 m hO t]
  all_goals omega

/-- An element of the first result array is its tile's block's. -/
theorem elem5 (dat : 𝕄D (cfgM m hO) c) (s : Fin (cfgM m hO).N) (a q : Fin 512) (R : Fin 135168) (hR : R.val = s.val * 512 + a.val) :
    (dat.arrAt 5 (cfgM m hO).N : S135168x512.Idx → EReal) (ix2 R q) = (dat.after 5 s : S512x512.Idx → EReal) (ix2 a q) := by
  refine dat.arrAt_forall_of_covers 5
    (fun (i : S135168x512.Idx) (v : EReal) => i = ix2 R q → v = (dat.after 5 s : S512x512.Idx → EReal) (ix2 a q))
    (covers_5 m hO) (fun t hf y => ?_) (ix2 R q) (Memref.isWhole_whole _) rfl
  intro he
  have y0 : (y (0 : Fin 2)).val < 512 := (y (0 : Fin 2)).isLt
  have y1 : (y (1 : Fin 2)).val < 512 := (y (1 : Fin 2)).isLt
  have ht : t.val < 264 := t.isLt
  have hemb := (emb5 m hO t y ⟨t.val * 512 + (y (0 : Fin 2)).val, by omega⟩ rfl).symm.trans he
  have e0 : t.val * 512 + (y (0 : Fin 2)).val = R.val := congrArg (fun j : S135168x512.Idx => (j 0).val) hemb
  have e1 : (y (1 : Fin 2)).val = q.val := congrArg (fun j : S135168x512.Idx => (j 1).val) hemb
  obtain rfl : s = t := Fin.ext (by omega)
  show dat.after 5 s (((cfgM m hO).win 5).xinj ((cfgM m hO).grid.coords s) y) = _
  congr 1
  funext (b : Fin 2)
  apply Fin.ext
  fin_cases b
  · show (y (0 : Fin 2)).val = a.val
    omega
  · exact e1

theorem emb6 (t : Fin (cfgM m hO).N) (y : S512x512.Idx) (R : Fin 135168) (hR : R.val = t.val * 512 + (y 0).val) :
    ((((cfgM m hO).win 6).blk t).view.emb y : S135168x512.Idx) = ix2 R (y 1 : Fin 512) := by
  blk_ext [index_6 m hO t]
  all_goals omega

/-- An element of the second result array is its tile's block's. -/
theorem elem6 (dat : 𝕄D (cfgM m hO) c) (s : Fin (cfgM m hO).N) (a q : Fin 512) (R : Fin 135168) (hR : R.val = s.val * 512 + a.val) :
    (dat.arrAt 6 (cfgM m hO).N : S135168x512.Idx → EReal) (ix2 R q) = (dat.after 6 s : S512x512.Idx → EReal) (ix2 a q) := by
  refine dat.arrAt_forall_of_covers 6
    (fun (i : S135168x512.Idx) (v : EReal) => i = ix2 R q → v = (dat.after 6 s : S512x512.Idx → EReal) (ix2 a q))
    (covers_6 m hO) (fun t hf y => ?_) (ix2 R q) (Memref.isWhole_whole _) rfl
  intro he
  have y0 : (y (0 : Fin 2)).val < 512 := (y (0 : Fin 2)).isLt
  have y1 : (y (1 : Fin 2)).val < 512 := (y (1 : Fin 2)).isLt
  have ht : t.val < 264 := t.isLt
  have hemb := (emb6 m hO t y ⟨t.val * 512 + (y (0 : Fin 2)).val, by omega⟩ rfl).symm.trans he
  have e0 : t.val * 512 + (y (0 : Fin 2)).val = R.val := congrArg (fun j : S135168x512.Idx => (j 0).val) hemb
  have e1 : (y (1 : Fin 2)).val = q.val := congrArg (fun j : S135168x512.Idx => (j 1).val) hemb
  obtain rfl : s = t := Fin.ext (by omega)
  show dat.after 6 s (((cfgM m hO).win 6).xinj ((cfgM m hO).grid.coords s) y) = _
  congr 1
  funext (b : Fin 2)
  apply Fin.ext
  fin_cases b
  · show (y (0 : Fin 2)).val = a.val
    omega
  · exact e1

theorem left_of (w : Fin (cfgM m hO).W) (hw : open56 m hO w = true) (s : Fin (cfgM m hO).N)
    (X : ((cfgM m hO).win w).block.Idx → Elt Ideal ((cfgM m hO).win w).elt) (hl : (rdat m hO c).Leaves w s X) : Left m hO c w s X :=
  Dat.toRRel_leaves _ hw hl

theorem flush_5 (s : Fin (cfgM m hO).N) : ((cfgM m hO).win 5).flush s = true := flush0_5 (adm m hO) s
theorem flush_6 (s : Fin (cfgM m hO).N) : ((cfgM m hO).win 6).flush s = true := flush0_6 (adm m hO) s

/-- What a run leaves in the two result arrays, by a choice of the blocks that are not in use. -/
theorem reads (r : PUnit × MemSt nD τ sig (Elt Ideal)) (h : Post m hO r) : ∃ dat : 𝕄D (cfgM m hO) c,
    (r.2.mem ((c.tc : Thread nD τ).loc main_v7_0) : S135168x512.Idx → EReal) = dat.arrAt 5 (cfgM m hO).N ∧
    (r.2.mem ((c.tc : Thread nD τ).loc main_v7_1) : S135168x512.Idx → EReal) = dat.arrAt 6 (cfgM m hO).N ∧
    (∀ s, UsedAt m hO c s → dat.after 5 s = outAt5 m hO c s) ∧ (∀ s, UsedAt m hO c s → dat.after 6 s = outAt6 m hO c s) := by
  obtain ⟨after, hL, hA⟩ := h.exists_exact c
  refine ⟨(rdat m hO c).withAfter after, hA 5, hA 6, fun s hU => ?_, fun s hU => ?_⟩
  · exact (left_of m hO c 5 rfl s _ (hL 5 s (flush_5 m hO s)) hU).trans (after0_5 m hO c s)
  · exact (left_of m hO c 6 rfl s _ (hL 6 s (flush_6 m hO s)) hU).trans (after0_6 m hO c s)
/-- The two results of a run at a row of a tile in use. -/
theorem results (nu : IVec S1 32) (hx : m ((c : Thread nD τ).loc main_arg0) = x) (ht : tbl m 0 = te) (hn : tbl m 1 = nu) (hlt : ∀ j, (te j).toNat < 8)
    (hg : m ((c : Thread nD τ).loc main_arg3) = wg) (hu : m ((c : Thread nD τ).loc main_arg4) = wu) (hd : m ((c : Thread nD τ).loc main_arg5) = wd)
    (r : PUnit × MemSt nD τ sig (Elt Ideal)) (h : Post m hO r) (R : Fin 135168) (q : Fin 512)
    (hR : IntOp.cmpi .slt (BitVec.ofNat 32 (R.val / 512)) (nu (ix1 (0 : Fin 1))) = 1#1) :
    (r.2.mem ((c.tc : Thread nD τ).loc main_v7_0) : S135168x512.Idx → EReal) (ix2 R q) = refSum x te wg wu wd (ix2 R (⟨q.val, by omega⟩ : Fin 1024))
    ∧ (r.2.mem ((c.tc : Thread nD τ).loc main_v7_1) : S135168x512.Idx → EReal) (ix2 R q) = refSum x te wg wu wd (ix2 R (⟨512 + q.val, by omega⟩ : Fin 1024)) := by
  obtain ⟨dat, h5, h6, u5, u6⟩ := reads m hO c r h
  have hN : R.val / 512 < (cfgM m hO).N := by
    show R.val / 512 < 264
    omega
  have hU : UsedAt m hO c ⟨R.val / 512, hN⟩ := used_of m hO c nu hn ⟨R.val / 512, hN⟩ hR
  have hm : R.val = R.val / 512 * 512 + R.val % 512 := by omega
  have hr : R.val % 512 < 512 := by omega
  constructor
  · rw [h5, elem5 m hO c dat ⟨R.val / 512, hN⟩ ⟨R.val % 512, hr⟩ q R hm, u5 _ hU]
    exact val5 m hO c x te wg wu wd hx ht hlt hg hu hd _ hU _ q R hm
  · rw [h6, elem6 m hO c dat ⟨R.val / 512, hN⟩ ⟨R.val % 512, hr⟩ q R hm, u6 _ hU]
    exact val6 m hO c x te wg wu wd hx ht hlt hg hu hd _ hU _ q R hm
end Arr

end Cert.Kernel2Ideal.Moe

end
-- ==== Proof.Moe.Claim.lean ====
/- The experts' kernel against its reference: equal results on every row of a tile in use. -/
module

public import proofs.«01_k».proof.Proof.Moe.Final

@[expose] public section

set_option maxRecDepth 16384

noncomputable section

namespace Cert.Moe

open Idealize.ShloMosaic Idealize.ShloMosaic.TcCoe Idealize.ShloMosaic.Tactic Idealize.SL.Sem
open Cert.Kernel2Ideal.Moe

attribute [local instance] mask_facts

theorem reference_frame : Cert.quiescent_Reference2Ideal := by
  intro m g _
  exact (θ_run _ _ _).mono (fun r h => ⟨fun c => (h c).2.2, sem_eq_zero_of_no_sems (by decide) r.2⟩) (Cert.Reference2Ideal.Value.run m g)

theorem slice_lo (S : SX.Idx → EReal) (R : Fin 135168) (q : Fin 512) (h : SX.Slices ![0, 0] Cert.Reference2Ideal.S135168x512) :
    extractStridedSlice Cert.Reference2Ideal.S135168x512 ![0, 0] S h (ix2 R q) = S (ix2 R (⟨q.val, by omega⟩ : Fin 1024)) := by
  pointwise

theorem slice_hi (S : SX.Idx → EReal) (R : Fin 135168) (q : Fin 512) (h : SX.Slices ![0, 512] Cert.Reference2Ideal.S135168x512) :
    extractStridedSlice Cert.Reference2Ideal.S135168x512 ![0, 512] S h (ix2 R q) = S (ix2 R (⟨512 + q.val, by omega⟩ : Fin 1024)) := by
  pointwise

section Ref
variable (m : (ℓ : Loc Cert.Reference2Ideal.nD Cert.Reference2Ideal.τ Cert.Reference2Ideal.sig) → Buf (Elt Ideal) ℓ) (c : Dev Cert.Reference2Ideal.nD)

/-- The reference's sum, of the launch's arguments. -/
def sumOf : SX.Idx → EReal :=
  refSum (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))

theorem sum_eq : Cert.Reference2Ideal.Value.res_main_v152 (F := Ideal) (StableHlo.launchContents m c) = sumOf m c :=
  res_eq (StableHlo.launchContents m c)

/-- The reference's run: its two results at an index. -/
theorem reference_run (g : Dev Cert.Reference2Ideal.nD → PrngReg) : θ_run (Cert.Reference2Ideal.defs (F := Ideal)) (onTc (τ := Cert.Reference2Ideal.τ) (Cert.Reference2Ideal.main (F := Ideal))) ⟨m, fun _ => 0, g⟩ (fun r => ∀ c : Dev Cert.Reference2Ideal.nD,
    (∀ (R : Fin 135168) (q : Fin 512), (r.2.mem ((c.tc : Thread Cert.Reference2Ideal.nD Cert.Reference2Ideal.τ).loc Cert.Reference2Ideal.main_v153) : Cert.Reference2Ideal.S135168x512.Idx → EReal) (ix2 R q) = sumOf m c (ix2 R (⟨q.val, by omega⟩ : Fin 1024)))
    ∧ (∀ (R : Fin 135168) (q : Fin 512), (r.2.mem ((c.tc : Thread Cert.Reference2Ideal.nD Cert.Reference2Ideal.τ).loc Cert.Reference2Ideal.main_v154) : Cert.Reference2Ideal.S135168x512.Idx → EReal) (ix2 R q) = sumOf m c (ix2 R (⟨512 + q.val, by omega⟩ : Fin 1024)))
    ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0) ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1) ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2) ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3) ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4) ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)) := by
  refine (θ_run _ _ _).mono (fun r h c => ?_) (Cert.Reference2Ideal.Value.run m g)
  obtain ⟨h0, h1, hargs⟩ := h c
  rw [sum_eq] at h0 h1
  exact ⟨fun R q => (congrFun h0 _).trans (slice_lo _ R q _), fun R q => (congrFun h1 _).trans (slice_hi _ R q _), hargs⟩
end Ref

section Ker
variable (m : (ℓ : Loc Cert.Kernel2Ideal.nD Cert.Kernel2Ideal.τ Cert.Kernel2Ideal.sig) → Buf (Elt Ideal) ℓ)

/-- The kernel's run: its two results at a row of a tile in use. -/
theorem kernel_run (g : Dev Cert.Kernel2Ideal.nD → PrngReg) (hp : Cert.Pre_Kernel2Ideal m) : θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
    (∀ (R : Fin 135168) (q : Fin 512), IntOp.cmpi .slt (BitVec.ofNat 32 (R.val / 512)) ((show IVec Cert.Kernel2Ideal.S1 32 from (m ((c.tc : Thread Cert.Kernel2Ideal.nD Cert.Kernel2Ideal.τ).loc Cert.Kernel2Ideal.main_arg2))) (ix1 (0 : Fin 1))) = 1#1 →
      (r.2.mem ((c.tc : Thread Cert.Kernel2Ideal.nD Cert.Kernel2Ideal.τ).loc Cert.Kernel2Ideal.main_v7_0) : Cert.Kernel2Ideal.S135168x512.Idx → EReal) (ix2 R q) = refSum (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (ix2 R (⟨q.val, by omega⟩ : Fin 1024))
      ∧ (r.2.mem ((c.tc : Thread Cert.Kernel2Ideal.nD Cert.Kernel2Ideal.τ).loc Cert.Kernel2Ideal.main_v7_1) : Cert.Kernel2Ideal.S135168x512.Idx → EReal) (ix2 R q) = refSum (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (ix2 R (⟨512 + q.val, by omega⟩ : Fin 1024)))
    ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0) ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1) ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2) ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3) ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4) ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)) := by
  have hO := ok_of_pre m hp
  refine (θ_run _ _ _).mono (fun r h c => ⟨?_, args_of m hO r h.1 c⟩) (run_main m g hO)
  exact results m hO c _ _ _ _ _ _ rfl ((V_pre m c 0).symm.trans (V_main_arg1 m c)) ((V_pre m c 1).symm.trans (V_main_arg2 m c)) (lt_of_pre _ _ _ _ _ _ (hp c)) rfl rfl rfl r h.1
end Ker

theorem algebraic : Cert.algebraic_Kernel2Ideal_Reference2Ideal_on_used_rows := by
  intro m g m' g' hp ha
  refine ⟨fun c i => sumOf m' c (ix2 (i 0 : Fin 135168) (⟨(i 1 : Fin 512).val, lt_trans (i 1 : Fin 512).isLt (show 512 < 1024 by decide)⟩ : Fin 1024)),
    fun c i => sumOf m' c (ix2 (i 0 : Fin 135168) (⟨512 + (i 1 : Fin 512).val, Nat.add_lt_add_left (i 1 : Fin 512).isLt 512⟩ : Fin 1024)), ?_, ?_⟩
  · refine (θ_run _ _ _).mono (fun r h c => ?_) (kernel_run m g hp)
    obtain ⟨a0, a1, a2, a3, a4, a5⟩ := ha c
    obtain ⟨hv, hargs⟩ := h c
    have hs : refSum (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) = sumOf m' c := by
      unfold sumOf
      rw [a0, a1, a3, a4, a5]
    rw [hs] at hv
    refine ⟨fun i hi => ?_, fun i hi => ?_, hargs⟩
    · obtain ⟨R, q, rfl⟩ : ∃ (R : Fin 135168) (q : Fin 512), i = ix2 R q := ⟨i 0, i 1, (ix2_eta i).symm⟩
      rw [mask_at] at hi
      exact (hv R q hi).1
    · obtain ⟨R, q, rfl⟩ : ∃ (R : Fin 135168) (q : Fin 512), i = ix2 R q := ⟨i 0, i 1, (ix2_eta i).symm⟩
      replace hi : (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 (ix2 R q) = 1#1 := hi
      rw [mask_at] at hi
      exact (hv R q hi).2
  · refine (θ_run _ _ _).mono (fun r h c => ?_) (reference_run m' g')
    obtain ⟨h0, h1, hargs⟩ := h c
    refine ⟨fun i _ => ?_, fun i _ => ?_, hargs⟩
    · obtain ⟨R, q, rfl⟩ : ∃ (R : Fin 135168) (q : Fin 512), i = ix2 R q := ⟨i 0, i 1, (ix2_eta i).symm⟩
      exact h0 R q
    · obtain ⟨R, q, rfl⟩ : ∃ (R : Fin 135168) (q : Fin 512), i = ix2 R q := ⟨i 0, i 1, (ix2_eta i).symm⟩
      exact h1 R q

end Cert.Moe

end
-- ==== Proof.Norm.Spec.lean ====
/- The layer norm of one row, entry by entry. -/
module

public import Idealize.ShloMosaic.Lib.Pointwise
public import Idealize.ShloMosaic.PureOps.Ideal

@[expose] public section

noncomputable section

namespace Cert.Norm

open Idealize.ShloMosaic

/-- The mean of a row of 1024 numbers. -/
def mean (f : Fin 1024 → EReal) : EReal := Ideal.div (∑ k, f k) (Ideal.ofBits .f32 0x44800000#32)

/-- The row without its mean. -/
def cent (f : Fin 1024 → EReal) (q : Fin 1024) : EReal := f q - mean f

/-- Entry `q` of the layer norm of a row with gain `g` and shift `b` there. -/
def ln (f : Fin 1024 → EReal) (g b : EReal) (q : Fin 1024) : EReal :=
  cent f q * Ideal.rsqrt (mean (fun k => cent f k * cent f k) + Ideal.ofBits .f32 0x3727C5AC#32) * g + b

/-- The residual, scaled by the square root of two, plus the layer's output. -/
def res (h y : EReal) : EReal := Ideal.ofBits .f32 0x3FB504F3#32 * h + y

end Cert.Norm

end
-- ==== Proof.Combine.Spec.lean ====
/- The gated sum of a token's two experts' rows, the residual and the norm, entry by entry. -/
module

public import proofs.«01_k».proof.Proof.Norm.Spec

@[expose] public section

noncomputable section

namespace Cert.Combine

open Idealize.ShloMosaic Cert.Norm

abbrev SH : Shape := ⟨2, ![65536, 1024]⟩
abbrev SG : Shape := ⟨2, ![65536, 128]⟩
abbrev SY : Shape := ⟨2, ![131072, 512]⟩
abbrev SR : Shape := ⟨2, ![1, 1024]⟩

/-- Column `q` of a row whose left and right halves are two arrays' rows. -/
def half {n : ℕ} (a b : (⟨2, ![n, 512]⟩ : Shape).Idx → EReal) (r : Fin n) (q : Fin 1024) : EReal :=
  if h : q.val < 512 then a (ix2 r (⟨q.val, h⟩ : Fin 512)) else b (ix2 r (⟨q.val - 512, by omega⟩ : Fin 512))

/-- The gated sum of a token's two experts' rows. -/
def mixed (ga : SG.Idx → EReal) (ya yb : SY.Idx → EReal) (r : Fin 65536) (q : Fin 1024) : EReal :=
  ga (ix2 r (0 : Fin 128)) * half ya yb (⟨r.val, by omega⟩ : Fin 131072) q
    + ga (ix2 r (1 : Fin 128)) * half ya yb (⟨65536 + r.val, by omega⟩ : Fin 131072) q

/-- The layer's output. -/
def out (h : SH.Idx → EReal) (ga : SG.Idx → EReal) (ya yb : SY.Idx → EReal) (g b : SR.Idx → EReal) (r : Fin 65536) (q : Fin 1024) : EReal :=
  ln (fun k => res (h (ix2 r k)) (mixed ga ya yb r k)) (g (ix2 (0 : Fin 1) q)) (b (ix2 (0 : Fin 1) q)) q

end Cert.Combine

end
-- ==== Proof.Combine.Value.lean ====
/- One grid point of the combining kernel, entry by entry. -/
module

public import Idealize.ShloMosaic.Lib.Pointwise
public import Idealize.ShloMosaic.Lib.Tactic
public import proofs.«01_k».proof.Proof.Gen.Kernel3Ideal.Frame
public import proofs.«01_k».proof.Proof.Combine.Spec

@[expose] public section

set_option maxRecDepth 16384

noncomputable section

namespace Cert.Combine

open Idealize.ShloMosaic Idealize.ShloMosaic.TcCoe Idealize.ShloMosaic.Tactic Cert.Kernel3Ideal Cert.Kernel3Ideal.Gen Cert.Norm

theorem pay1_at (x : FVec Ideal S512x1024 .f32) (g b : FVec Ideal S1x1024 .f32) (r : Fin 512) (q : Fin 1024) :
    k0_pay1 (F := Ideal) x g b (ix2 r q) = ln (fun k => x (ix2 r k)) (g (ix2 (0 : Fin 1) q)) (b (ix2 (0 : Fin 1) q)) q := by
  pointwise [k0_pay1]
  rfl

/-- The sum of a row's entries that are not in lane `i` is nothing. -/
theorem pick (i : Fin 128) (x : Fin 128 → EReal) :
    (∑ l : Fin 128, Scalar.select (IntOp.cmpi .eq (BitVec.ofNat 32 l.val) (BitVec.ofNat 32 i.val)) (x l) (0 : EReal)) = x i := by
  rw [Finset.sum_eq_single i]
  · exact if_pos (by simp [IntOp.cmpi])
  · intro l _ hl
    refine if_neg ?_
    have : ¬ BitVec.ofNat 32 l.val = BitVec.ofNat 32 i.val := fun h => hl (Fin.ext (by
      have := congrArg BitVec.toNat h
      simp only [BitVec.toNat_ofNat] at this
      omega))
    rw [IntOp.cmpi, show (BitVec.ofNat 32 l.val == BitVec.ofNat 32 i.val) = false from by simpa using this]
    decide
  · simp

theorem pay2_at (ga : FVec Ideal S512x128 .f32) (a0 b0 a1 b1 : FVec Ideal S512x512 .bf16) (h : FVec Ideal S512x1024 .f32) (r : Fin 512) (q : Fin 1024) :
    (k0_pay2 (F := Ideal) ga a0 b0 a1 b1 h (ix2 r q) : EReal)
      = res (h (ix2 r q)) (ga (ix2 r (0 : Fin 128)) * half a0 b0 r q + ga (ix2 r (1 : Fin 128)) * half a1 b1 r q) := by
  have p0 := pick 0 fun l => ga (ix2 r l)
  have p1 := pick 1 fun l => ga (ix2 r l)
  pointwise [k0_pay2]
  exact congrArg₂ (fun u v => res (h (ix2 r q)) (u * half a0 b0 r q + v * half a1 b1 r q)) p0 p1

theorem pay3_at (x : FVec Ideal S1x1024 .f32) (q : Fin 1024) : k0_pay3 (F := Ideal) x (ix2 (0 : Fin 1) q) = x (ix2 (0 : Fin 1) q) := by
  pointwise [k0_pay3]

theorem pay4_at (x : FVec Ideal S1x1024 .f32) (q : Fin 1024) : k0_pay4 (F := Ideal) x (ix2 (0 : Fin 1) q) = x (ix2 (0 : Fin 1) q) := by
  pointwise [k0_pay4]

end Cert.Combine

end
-- ==== Proof.Combine.Final.lean ====
/- The whole array the combining kernel leaves. -/
module

public import proofs.«01_k».proof.Proof.Combine.Value
public import Idealize.ShloMosaic.Lib.Claim
public import Idealize.ShloMosaic.Lib.Pipeline.ValueKit
public import Idealize.ShloMosaic.Lib.Pipeline.ArrRel

@[expose] public section

set_option maxRecDepth 16384

noncomputable section

namespace Cert.Combine

open Idealize.ShloMosaic Idealize.ShloMosaic.TcCoe Idealize.ShloMosaic.Tactic Cert.Kernel3Ideal Cert.Kernel3Ideal.Gen Cert.Norm

/-- What a grid point leaves, from its blocks. -/
theorem out_eq (x0 : Vec Ideal S512x1024 .f32) (x1 : Vec Ideal S512x128 .f32) (x2 x3 x4 x5 : Vec Ideal S512x512 .bf16) (x6 x7 : Vec Ideal S1x1024 .f32) :
    out0_8 (F := Ideal) x0 x1 x2 x3 x4 x5 x6 x7 = k0_pay1 (F := Ideal) (k0_pay2 x1 x2 x3 x4 x5 x0) (k0_pay3 x6) (k0_pay4 x7) := by
  unfold out0_8
  refine (View.canon_cons_unit_lit (S := S512x1024) inb_S512x1024_S512x1024_0_0 _ _ (by decide)).trans ?_
  have e0 : View.ld x0 r0_2 = x0 := View.ld_unit_lit (S := S512x1024) inb_S512x1024_S512x1024_0_0 x0 (by decide)
  have e1 : View.ld x1 r0_0 = x1 := View.ld_unit_lit (S := S512x128) inb_S512x128_S512x128_0_0 x1 (by decide)
  have e2 : View.ld x2 r0_1 = x2 := View.ld_unit_lit (S := S512x512) inb_S512x512_S512x512_0_0 x2 (by decide)
  have e3 : View.ld x3 r0_1 = x3 := View.ld_unit_lit (S := S512x512) inb_S512x512_S512x512_0_0 x3 (by decide)
  have e4 : View.ld x4 r0_1 = x4 := View.ld_unit_lit (S := S512x512) inb_S512x512_S512x512_0_0 x4 (by decide)
  have e5 : View.ld x5 r0_1 = x5 := View.ld_unit_lit (S := S512x512) inb_S512x512_S512x512_0_0 x5 (by decide)
  have e6 : View.ld x6 r0_3 = x6 := View.ld_unit_lit (S := S1x1024) inb_S1x1024_S1x1024_0_0 x6 (by decide)
  have e7 : View.ld x7 r0_3 = x7 := View.ld_unit_lit (S := S1x1024) inb_S1x1024_S1x1024_0_0 x7 (by decide)
  rw [e0, e1, e2, e3, e4, e5, e6, e7]

theorem blocks_at : ∀ t : Fin cfg0.N,
    win0_0.index t = ![t.val, 0] ∧ win0_1.index t = ![t.val, 0] ∧ win0_2.index t = ![t.val, 0] ∧ win0_3.index t = ![t.val, 0]
    ∧ win0_4.index t = ![128 + t.val, 0] ∧ win0_5.index t = ![128 + t.val, 0] ∧ win0_6.index t = ![0, 0] ∧ win0_7.index t = ![0, 0]
    ∧ win0_8.index t = ![t.val, 0] :=
  (by decide +kernel : ∀ t : Fin grid0.N, _)

variable (m : (ℓ : Loc nD τ sig) → Buf (Elt Ideal) ℓ) (c : Dev nD)

theorem V_v1 : V m c main_v1 = (m ((c : Thread nD τ).loc main_arg4) : FVec Ideal S1x1024 .f32) := by
  have h : V m c main_v1 = (shapeCast S1x1024 (shapeCast S1024 (m ((c : Thread nD τ).loc main_arg4)) shapeCasts_S1x1024_S1024) shapeCasts_S1024_S1x1024 : FVec Ideal S1x1024 .f32) := by
    show StableHlo.after hostOps0 _ (Proc.devRef .tc main_v1) = _
    after_results
    rfl
  refine h.trans (funext fun i => ?_)
  rw [← ix2_eta i]
  pointwise

theorem V_v3 : V m c main_v3 = (m ((c : Thread nD τ).loc main_arg5) : FVec Ideal S1x1024 .f32) := by
  have h : V m c main_v3 = (shapeCast S1x1024 (shapeCast S1024 (m ((c : Thread nD τ).loc main_arg5)) shapeCasts_S1x1024_S1024) shapeCasts_S1024_S1x1024 : FVec Ideal S1x1024 .f32) := by
    show StableHlo.after hostOps0 _ (Proc.devRef .tc main_v3) = _
    after_results
    rfl
  refine h.trans (funext fun i => ?_)
  rw [← ix2_eta i]
  pointwise

section Blocks
variable (t : Fin cfg0.N) (R : Fin 65536) (r : Fin 512) (hR : R.val = t.val * 512 + r.val)
include hR

theorem b0 (q : Fin 1024) : iblk m c 0 t (ix2 r q) = (m ((c : Thread nD τ).loc main_arg0) : SH.Idx → EReal) (ix2 R q) := by
  rw [← V_main_arg0 m c]
  blk_ext [iblk, blocks_at t]
  all_goals omega
theorem b1 (q : Fin 128) : iblk m c 1 t (ix2 r q) = (m ((c : Thread nD τ).loc main_arg1) : SG.Idx → EReal) (ix2 R q) := by
  rw [← V_main_arg1 m c]
  blk_ext [iblk, blocks_at t]
  all_goals omega
theorem b2 (S : Fin 131072) (hS : S.val = R.val) (q : Fin 512) : iblk m c 2 t (ix2 r q) = (m ((c : Thread nD τ).loc main_arg2) : SY.Idx → EReal) (ix2 S q) := by
  rw [← V_main_arg2 m c]
  blk_ext [iblk, blocks_at t]
  all_goals omega
theorem b3 (S : Fin 131072) (hS : S.val = R.val) (q : Fin 512) : iblk m c 3 t (ix2 r q) = (m ((c : Thread nD τ).loc main_arg3) : SY.Idx → EReal) (ix2 S q) := by
  rw [← V_main_arg3 m c]
  blk_ext [iblk, blocks_at t]
  all_goals omega
theorem b4 (S : Fin 131072) (hS : S.val = 65536 + R.val) (q : Fin 512) : iblk m c 4 t (ix2 r q) = (m ((c : Thread nD τ).loc main_arg2) : SY.Idx → EReal) (ix2 S q) := by
  rw [← V_main_arg2 m c]
  blk_ext [iblk, blocks_at t]
  all_goals omega
theorem b5 (S : Fin 131072) (hS : S.val = 65536 + R.val) (q : Fin 512) : iblk m c 5 t (ix2 r q) = (m ((c : Thread nD τ).loc main_arg3) : SY.Idx → EReal) (ix2 S q) := by
  rw [← V_main_arg3 m c]
  blk_ext [iblk, blocks_at t]
  all_goals omega
omit hR in
theorem b6 (q : Fin 1024) : iblk m c 6 t (ix2 (0 : Fin 1) q) = (m ((c : Thread nD τ).loc main_arg4) : SR.Idx → EReal) (ix2 (0 : Fin 1) q) := by
  rw [← V_v1 m c]
  blk_ext [iblk, blocks_at t]
  all_goals omega
omit hR in
theorem b7 (q : Fin 1024) : iblk m c 7 t (ix2 (0 : Fin 1) q) = (m ((c : Thread nD τ).loc main_arg5) : SR.Idx → EReal) (ix2 (0 : Fin 1) q) := by
  rw [← V_v3 m c]
  blk_ext [iblk, blocks_at t]
  all_goals omega

theorem half01 (q : Fin 1024) : half (iblk m c 2 t) (iblk m c 3 t) r q
    = half (m ((c : Thread nD τ).loc main_arg2)) (m ((c : Thread nD τ).loc main_arg3)) (⟨R.val, by omega⟩ : Fin 131072) q := by
  unfold half
  split
  · exact b2 m c t R r hR _ rfl _
  · exact b3 m c t R r hR _ rfl _
theorem half23 (q : Fin 1024) : half (iblk m c 4 t) (iblk m c 5 t) r q
    = half (m ((c : Thread nD τ).loc main_arg2)) (m ((c : Thread nD τ).loc main_arg3)) (⟨65536 + R.val, by omega⟩ : Fin 131072) q := by
  unfold half
  split
  · exact b4 m c t R r hR _ rfl _
  · exact b5 m c t R r hR _ rfl _

/-- One element of what a grid point leaves. -/
theorem elem (q : Fin 1024) : out0_8 (F := Ideal) (iblk m c 0 t) (iblk m c 1 t) (iblk m c 2 t) (iblk m c 3 t) (iblk m c 4 t) (iblk m c 5 t) (iblk m c 6 t) (iblk m c 7 t) (ix2 r q)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) R q := by
  refine (congrFun (out_eq _ _ _ _ _ _ _ _) _).trans ((pay1_at _ _ _ r q).trans ?_)
  unfold out
  have e : (fun k => k0_pay2 (F := Ideal) (iblk m c 1 t) (iblk m c 2 t) (iblk m c 3 t) (iblk m c 4 t) (iblk m c 5 t) (iblk m c 0 t) (ix2 r k))
      = fun k => res ((m ((c : Thread nD τ).loc main_arg0) : SH.Idx → EReal) (ix2 R k))
          (mixed (m ((c : Thread nD τ).loc main_arg1)) (m ((c : Thread nD τ).loc main_arg2)) (m ((c : Thread nD τ).loc main_arg3)) R k) := by
    funext k
    refine (pay2_at _ _ _ _ _ _ r k).trans ?_
    unfold mixed
    rw [half01 m c t R r hR, half23 m c t R r hR]
    exact congrArg₂ res (b0 m c t R r hR k) (congrArg₂ (· + ·) (congrArg (· * _) (b1 m c t R r hR 0)) (congrArg (· * _) (b1 m c t R r hR 1)))
  refine (congrArg (fun f => ln f _ _ q) e).trans (congrArg₂ (fun u v => ln _ u v q) ?_ ?_)
  · exact (pay3_at _ q).trans (b6 m c t q)
  · exact (pay4_at _ q).trans (b7 m c t q)
end Blocks

/-- The whole array. -/
def outArr (h : SH.Idx → EReal) (ga : SG.Idx → EReal) (ya yb : SY.Idx → EReal) (g b : SR.Idx → EReal) : SH.Idx → EReal :=
  fun i => out h ga ya yb g b (i 0) (i 1)

theorem left (t : Fin cfg0.N) (j : S512x1024.Idx) (R : Fin 65536) (q : Fin 1024) (hR : R.val = t.val * 512 + (j 0).val) (hq : q.val = (j 1).val) :
    out0_8 (F := Ideal) (iblk m c 0 t) (iblk m c 1 t) (iblk m c 2 t) (iblk m c 3 t) (iblk m c 4 t) (iblk m c 5 t) (iblk m c 6 t) (iblk m c 7 t) j
      = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 R q) := by
  obtain rfl : q = j 1 := Fin.ext hq
  exact (congrArg _ (ix2_eta j).symm).trans (elem m c t R (j 0) hR (j 1))

theorem arr_of (G : SH.Idx → EReal)
    (hl : ∀ (t : Fin cfg0.N) (j : S512x1024.Idx) (R : Fin 65536) (q : Fin 1024), R.val = t.val * 512 + (j 0).val → q.val = (j 1).val →
      out0_8 (F := Ideal) (iblk m c 0 t) (iblk m c 1 t) (iblk m c 2 t) (iblk m c 3 t) (iblk m c 4 t) (iblk m c 5 t) (iblk m c 6 t) (iblk m c 7 t) j = G (ix2 R q)) :
    (dats m 0 c).arrAt 8 cfg0.N = G := by
  refine (dats m 0 c).arrAt_eq_of_covers 8 _ (by decide +kernel) fun t hf y => ?_
  rw [after0_8]
  have ht : t.val < 128 := t.isLt
  have y0 : (y (0 : Fin 2)).val < 512 := (y (0 : Fin 2)).isLt
  have y1 : (y (1 : Fin 2)).val < 1024 := (y (1 : Fin 2)).isLt
  refine Eq.trans ?_ (congrArg G (?_ : ix2 (⟨t.val * 512 + (y (0 : Fin 2)).val, by omega⟩ : Fin 65536) (⟨(y (1 : Fin 2)).val, y1⟩ : Fin 1024) = _))
  · have h := hl t
    generalize out0_8 (F := Ideal) (iblk m c 0 t) (iblk m c 1 t) (iblk m c 2 t) (iblk m c 3 t) (iblk m c 4 t) (iblk m c 5 t) (iblk m c 6 t) (iblk m c 7 t) = o at h ⊢
    exact h _ _ _ rfl rfl
  · blk_ext [blocks_at t]
    all_goals omega

theorem arr_at : (dats m 0 c).arrAt 8 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  arr_of m c _ (left m c)

end Cert.Combine

end
-- ==== Proof.Norm.Ref.lean ====
/- The layer norm of all rows as the references write it, read at an index. -/
module

public import Idealize.ShloMosaic.Lib.Pointwise
public import Idealize.ShloMosaic.Lib.Tactic
public import proofs.«01_k».proof.Proof.Gen.Reference3Ideal.Run
public import proofs.«01_k».proof.Proof.Norm.Spec

@[expose] public section

set_option maxRecDepth 16384

noncomputable section

namespace Cert.Norm

open Idealize.ShloMosaic Idealize.ShloMosaic.TcCoe Idealize.ShloMosaic.Tactic Cert.Reference3Ideal Cert.Reference3Ideal.Gen

/-- The mean of every row, as a column. -/
def meanCol (x : FVec Ideal S65536x1024 .f32) : FVec Ideal S65536x1 .f32 :=
  Host.divf (broadcastInDim S65536x1 ![0] bcast_S65536_S65536x1_0 (Host.reduceAdd x (constant S_ .f32 0x00000000#32) reducesTo_S65536x1024_S65536_d1 h_S_))
    (broadcastInDim S65536x1 ![] bcast_S_S65536x1 (constant S_ .f32 0x44800000#32))

/-- The rows without their means. -/
def centAll (x : FVec Ideal S65536x1024 .f32) : FVec Ideal S65536x1024 .f32 :=
  subf x (broadcastInDim S65536x1024 ![0, 1] bcast_S65536x1_S65536x1024_0_1 (meanCol x))

/-- The layer norm of all rows. -/
def normAll (x : FVec Ideal S65536x1024 .f32) (g b : FVec Ideal S1024 .f32) : FVec Ideal S65536x1024 .f32 :=
  addf (mulf (mulf (centAll x) (broadcastInDim S65536x1024 ![0, 1] bcast_S65536x1_S65536x1024_0_1
      (Host.rsqrt (addf (meanCol (mulf (centAll x) (centAll x))) (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

theorem meanCol_at (x : FVec Ideal S65536x1024 .f32) (r : Fin 65536) : meanCol x (ix2 r (0 : Fin 1)) = mean fun k => x (ix2 r k) := by
  pointwise [meanCol]
  rfl

theorem centAll_at (x : FVec Ideal S65536x1024 .f32) (r : Fin 65536) (q : Fin 1024) : centAll x (ix2 r q) = cent (fun k => x (ix2 r k)) q := by
  have h := meanCol_at x r
  pointwise [centAll, h]
  rfl

theorem normAll_at (x : FVec Ideal S65536x1024 .f32) (g b : FVec Ideal S1024 .f32) (r : Fin 65536) (q : Fin 1024) :
    normAll x g b (ix2 r q) = ln (fun k => x (ix2 r k)) (g (ix1 q)) (b (ix1 q)) q := by
  have h := meanCol_at (mulf (centAll x) (centAll x)) r
  have h' := fun q => centAll_at x r q
  pointwise [normAll, h, h']
  rfl

/-- The residual plus the layer's output, for all rows. -/
def resAll (h y : FVec Ideal S65536x1024 .f32) : FVec Ideal S65536x1024 .f32 :=
  addf (mulf (broadcastInDim S65536x1024 ![] bcast_S_S65536x1024 (constant S_ .f32 0x3FB504F3#32)) h) y

theorem resAll_at (h y : FVec Ideal S65536x1024 .f32) (i : S65536x1024.Idx) : resAll h y i = res (h i) (y i) := by
  pointwise [resAll]
  rfl

/-- A row of 1024 columns as a vector. -/
def vec (g : FVec Ideal S1x1024 .f32) : FVec Ideal S1024 .f32 := shapeCast _ g shapeCasts_S1x1024_S1024

theorem vec_at (g : FVec Ideal S1x1024 .f32) (q : Fin 1024) : vec g (ix1 q) = g (ix2 (0 : Fin 1) q) := by
  pointwise [vec]

end Cert.Norm

end
-- ==== Proof.Combine.RefAt.lean ====
/- The reference of the gated sum and the norm, read at an index. -/
module

public import proofs.«01_k».proof.Proof.Norm.Ref
public import proofs.«01_k».proof.Proof.Combine.Spec

@[expose] public section

set_option maxRecDepth 16384

noncomputable section

namespace Cert.Combine

open Idealize.ShloMosaic Idealize.ShloMosaic.TcCoe Idealize.ShloMosaic.Tactic Cert.Reference3Ideal Cert.Reference3Ideal.Gen Cert.Reference3Ideal.Value Cert.Norm

/-- The tokens' two experts' rows. -/
def both (ya yb : FVec Ideal S131072x512 .bf16) : FVec Ideal S2x65536x1024 .f32 :=
  shapeCast _ (extf .f32 (concatenate S131072x1024 1 [⟨S131072x512, ya⟩, ⟨S131072x512, yb⟩] concatenates_S131072x512_S131072x512_S131072x1024_d1) bitsLt_bf16_f32) shapeCasts_S131072x1024_S2x65536x1024

/-- The gated sum of all tokens. -/
def mix (ga : FVec Ideal S65536x128 .f32) (y : FVec Ideal S2x65536x1024 .f32) : FVec Ideal S65536x1024 .f32 :=
  addf (addf (broadcastInDim S65536x1024 ![] bcast_S_S65536x1024 (constant S_ .f32 0x00000000#32))
      (mulf (broadcastInDim S65536x1024 ![0, 1] bcast_S65536x1_S65536x1024_0_1 (extractStridedSlice S65536x1 ![0, 0] ga slices_S65536x128_S65536x1_0_0))
        (shapeCast _ (extractStridedSlice S1x65536x1024 ![0, 0, 0] y slices_S2x65536x1024_S1x65536x1024_0_0_0) shapeCasts_S1x65536x1024_S65536x1024)))
    (mulf (broadcastInDim S65536x1024 ![0, 1] bcast_S65536x1_S65536x1024_0_1 (extractStridedSlice S65536x1 ![0, 1] ga slices_S65536x128_S65536x1_0_1))
      (shapeCast _ (extractStridedSlice S1x65536x1024 ![1, 0, 0] y slices_S2x65536x1024_S1x65536x1024_1_0_0) shapeCasts_S1x65536x1024_S65536x1024))

theorem both_at (ya yb : FVec Ideal S131072x512 .bf16) (k : Fin 2) (r : Fin 65536) (q : Fin 1024) :
    both ya yb (ix3 k r q) = half ya yb (⟨k.val * 65536 + r.val, by omega⟩ : Fin 131072) q := by
  pointwise [both]
  rfl

theorem mix_at (ga : FVec Ideal S65536x128 .f32) (y : FVec Ideal S2x65536x1024 .f32) (r : Fin 65536) (q : Fin 1024) :
    mix ga y (ix2 r q) = ga (ix2 r (0 : Fin 128)) * y (ix3 (0 : Fin 2) r q) + ga (ix2 r (1 : Fin 128)) * y (ix3 (1 : Fin 2) r q) := by
  pointwise [mix]

theorem res_eq (m : (ℓ : Loc nD τ sig) → Buf (Elt Ideal) ℓ) (c : Dev nD) :
    (res_out0 m c : FVec Ideal S65536x1024 .f32)
      = normAll (resAll (m ((c.tc : Thread nD τ).loc main_arg0)) (mix (m ((c.tc : Thread nD τ).loc main_arg1))
          (both (m ((c.tc : Thread nD τ).loc main_arg2)) (m ((c.tc : Thread nD τ).loc main_arg3)))))
          (vec (m ((c.tc : Thread nD τ).loc main_arg4))) (vec (m ((c.tc : Thread nD τ).loc main_arg5))) := rfl

theorem res_at (m : (ℓ : Loc nD τ sig) → Buf (Elt Ideal) ℓ) (c : Dev nD) (r : Fin 65536) (q : Fin 1024) :
    (res_out0 m c : FVec Ideal S65536x1024 .f32) (ix2 r q)
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) r q := by
  rw [res_eq, normAll_at, vec_at, vec_at]
  unfold out
  congr 1
  funext k
  rw [resAll_at, mix_at, both_at, both_at]
  unfold mixed
  congr 3 <;> congr 1 <;> ext <;> simp

end Cert.Combine

end
-- ==== Proof.Combine.Claim.lean ====
/- The claims about the combining kernel. -/
module

public import proofs.«01_k».proof.Defs
public import proofs.«01_k».proof.Proof.Combine.Final
public import proofs.«01_k».proof.Proof.Combine.RefAt
public import Idealize.ShloMosaic.Adequacy
public import Idealize.ShloMosaic.Init

@[expose] public section

noncomputable section

namespace Cert.Combine

open Idealize.ShloMosaic Idealize.ShloMosaic.TcCoe Idealize.SL.Sem

theorem reference_frame : Cert.quiescent_Reference3Ideal := by
  intro m g _
  exact (θ_run _ _ _).mono (fun r h => ⟨fun c => (h c).2, sem_eq_zero_of_no_sems (by decide) r.2⟩) (Cert.Reference3Ideal.Value.run m g)

theorem algebraic : Cert.algebraic_Kernel3Ideal_Reference3Ideal := by
  intro m g m' g' _ ha
  refine ⟨fun c => (Cert.Kernel3Ideal.Gen.dats m 0 c).arrAt 8 Cert.Kernel3Ideal.cfg0.N, ?_, ?_⟩
  · refine (θ_run _ _ _).mono (fun r h c => ?_) (θ_run_and (Cert.Kernel3Ideal.Gen.run_main m g) (Cert.Kernel3Ideal.Gen.unchanged m g))
    exact ⟨(h.1 c).1 8, h.2 c⟩
  · refine (θ_run _ _ _).mono (fun r h c => ?_) (Cert.Reference3Ideal.Value.run m' g')
    obtain ⟨a0, a1, a2, a3, a4, a5⟩ := ha c
    refine ⟨(h c).1.trans (funext fun i => ?_), (h c).2⟩
    refine (congrArg _ (ix2_eta (i : SH.Idx)).symm).trans ((res_at m' c _ _).trans ?_)
    rw [a0, a1, a2, a3, a4, a5]
    exact (congrFun (arr_at m c) i).symm

end Cert.Combine

end
-- ==== Proof.Proj.Spec.lean ====
/- The output projection of two parts of a row, the residual and the norm, entry by entry. -/
module

public import proofs.«01_k».proof.Proof.Norm.Spec

@[expose] public section

noncomputable section

namespace Cert.Proj

open Idealize.ShloMosaic Cert.Norm

abbrev SH : Shape := ⟨2, ![65536, 1024]⟩
abbrev SY : Shape := ⟨2, ![65536, 2048]⟩
abbrev SW : Shape := ⟨3, ![1, 3072, 1024]⟩
abbrev SR : Shape := ⟨2, ![1, 1024]⟩

/-- A row's two parts against the rows of the weight: the first 2048 and the last 1024. -/
def proj (y : SY.Idx → EReal) (u : SH.Idx → EReal) (w : SW.Idx → EReal) (r : Fin 65536) (q : Fin 1024) : EReal :=
  (∑ k : Fin 2048, y (ix2 r k) * w (ix3 (0 : Fin 1) (⟨k.val, by omega⟩ : Fin 3072) q))
    + ∑ k : Fin 1024, u (ix2 r k) * w (ix3 (0 : Fin 1) (⟨2048 + k.val, by omega⟩ : Fin 3072) q)

/-- The layer's output. -/
def out (y : SY.Idx → EReal) (u : SH.Idx → EReal) (w : SW.Idx → EReal) (h : SH.Idx → EReal) (g b : SR.Idx → EReal) (r : Fin 65536) (q : Fin 1024) : EReal :=
  ln (fun k => res (h (ix2 r k)) (proj y u w r k)) (g (ix2 (0 : Fin 1) q)) (b (ix2 (0 : Fin 1) q)) q

end Cert.Proj

end
-- ==== Proof.Proj.Value.lean ====
/- One grid point of the projecting kernel, entry by entry. -/
module

public import proofs.«01_k».proof.Proof.Combine.Value
public import proofs.«01_k».proof.Proof.Proj.Spec
public import proofs.«01_k».proof.Proof.Gen.Kernel4Ideal.Frame

@[expose] public section

set_option maxRecDepth 16384

noncomputable section

namespace Cert.Proj

open Idealize.ShloMosaic Idealize.ShloMosaic.TcCoe Idealize.ShloMosaic.Tactic Cert.Kernel4Ideal Cert.Kernel4Ideal.Gen Cert.Norm

/-- The residual plus the two products. -/
def acc (v0 : FVec Ideal S512x2048 .bf16) (v1 : FVec Ideal S2048x1024 .bf16) (v4 : FVec Ideal S512x1024 .bf16) (v5 : FVec Ideal S1024x1024 .bf16) (v9 : FVec Ideal S512x1024 .f32) : FVec Ideal S512x1024 .f32 :=
  addf (mulf (broadcast S512x1024 (Scalar.ofBits .f32 0x3FB504F3#32)) v9)
    (addf (matmul dot_S512x2048_S2048x1024_S512x1024_1_0_0_1_n_n none v0 (shapeCast S2048x1024 v1 shapeCasts_S2048x1024_S2048x1024) (constant S512x1024 .f32 0x00000000#32))
      (matmul dot_S512x1024_S1024x1024_S512x1024_1_0_0_1_n_n none v4 (shapeCast S1024x1024 v5 shapeCasts_S1024x1024_S1024x1024) (constant S512x1024 .f32 0x00000000#32)))

theorem acc_at (v0 : FVec Ideal S512x2048 .bf16) (v1 : FVec Ideal S2048x1024 .bf16) (v4 : FVec Ideal S512x1024 .bf16) (v5 : FVec Ideal S1024x1024 .bf16) (v9 : FVec Ideal S512x1024 .f32)
    (r : Fin 512) (q : Fin 1024) :
    acc v0 v1 v4 v5 v9 (ix2 r q) = res (v9 (ix2 r q)) ((∑ k : Fin 2048, v0 (ix2 r k) * v1 (ix2 k q)) + ∑ k : Fin 1024, v4 (ix2 r k) * v5 (ix2 k q)) := by
  pointwise [acc]
  rfl

theorem pay_eq (v0 : FVec Ideal S512x2048 .bf16) (v1 : FVec Ideal S2048x1024 .bf16) (v4 : FVec Ideal S512x1024 .bf16) (v5 : FVec Ideal S1024x1024 .bf16) (v9 : FVec Ideal S512x1024 .f32)
    (v13 v15 : FVec Ideal S1x1024 .f32) :
    k0_pay1 (F := Ideal) v0 v1 v4 v5 v9 v13 v15
      = Cert.Kernel3Ideal.Gen.k0_pay1 (F := Ideal) (acc v0 v1 v4 v5 v9) (Cert.Kernel3Ideal.Gen.k0_pay3 v13) (Cert.Kernel3Ideal.Gen.k0_pay4 v15) := by
  sl_kernel_rfl

end Cert.Proj

end
-- ==== Proof.Proj.Final.lean ====
/- The whole array the projecting kernel leaves. -/
module

public import proofs.«01_k».proof.Proof.Proj.Value
public import Idealize.ShloMosaic.Lib.Claim
public import Idealize.ShloMosaic.Lib.Pipeline.ValueKit
public import Idealize.ShloMosaic.Lib.Pipeline.ArrRel

@[expose] public section

set_option maxRecDepth 16384

noncomputable section

namespace Cert.Proj

open Idealize.ShloMosaic Idealize.ShloMosaic.TcCoe Idealize.ShloMosaic.Tactic Cert.Kernel4Ideal Cert.Kernel4Ideal.Gen Cert.Norm

/-- What a grid point leaves, from its blocks. -/
theorem out_eq (x0 : Vec Ideal S512x2048 .bf16) (x1 : Vec Ideal S512x1024 .bf16) (x2 : Vec Ideal S2048x1024 .bf16) (x3 : Vec Ideal S1024x1024 .bf16) (x4 : Vec Ideal S512x1024 .f32) (x5 x6 : Vec Ideal S1x1024 .f32) :
    out0_7 (F := Ideal) x0 x1 x2 x3 x4 x5 x6 = k0_pay1 (F := Ideal) x0 x2 x1 x3 x4 x5 x6 := by
  unfold out0_7
  refine (View.canon_cons_unit_lit (S := S512x1024) inb_S512x1024_S512x1024_0_0 _ _ (by decide)).trans ?_
  have e0 : View.ld x0 r0_0 = x0 := View.ld_unit_lit (S := S512x2048) inb_S512x2048_S512x2048_0_0 x0 (by decide)
  have e1 : View.ld x1 r0_2 = x1 := View.ld_unit_lit (S := S512x1024) inb_S512x1024_S512x1024_0_0 x1 (by decide)
  have e2 : View.ld x2 r0_1 = x2 := View.ld_unit_lit (S := S2048x1024) inb_S2048x1024_S2048x1024_0_0 x2 (by decide)
  have e3 : View.ld x3 r0_3 = x3 := View.ld_unit_lit (S := S1024x1024) inb_S1024x1024_S1024x1024_0_0 x3 (by decide)
  have e4 : View.ld x4 r0_2 = x4 := View.ld_unit_lit (S := S512x1024) inb_S512x1024_S512x1024_0_0 x4 (by decide)
  have e5 : View.ld x5 r0_4 = x5 := View.ld_unit_lit (S := S1x1024) inb_S1x1024_S1x1024_0_0 x5 (by decide)
  have e6 : View.ld x6 r0_4 = x6 := View.ld_unit_lit (S := S1x1024) inb_S1x1024_S1x1024_0_0 x6 (by decide)
  rw [e0, e1, e2, e3, e4, e5, e6]

theorem blocks_at : ∀ t : Fin cfg0.N,
    win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0] :=
  (by decide +kernel : ∀ t : Fin grid0.N, _)

/-- The rows of the weight that meet the first factor. -/
theorem top_at (w : FVec Ideal S1x3072x1024 .f32) (k : Fin 2048) (q : Fin 1024) :
    (truncf .bf16 (extractStridedSlice S2048x1024 ![0, 0] (shapeCast S3072x1024 w shapeCasts_S1x3072x1024_S3072x1024) slices_S3072x1024_S2048x1024_0_0) bitsLt_bf16_f32 : FVec Ideal S2048x1024 .bf16) (ix2 k q)
      = w (ix3 (0 : Fin 1) (⟨k.val, by omega⟩ : Fin 3072) q) := by
  pointwise

/-- The rows of the weight that meet the second factor. -/
theorem bottom_at (w : FVec Ideal S1x3072x1024 .f32) (k : Fin 1024) (q : Fin 1024) :
    (truncf .bf16 (extractStridedSlice S1024x1024 ![2048, 0] (shapeCast S3072x1024 w shapeCasts_S1x3072x1024_S3072x1024) slices_S3072x1024_S1024x1024_2048_0) bitsLt_bf16_f32 : FVec Ideal S1024x1024 .bf16) (ix2 k q)
      = w (ix3 (0 : Fin 1) (⟨2048 + k.val, by omega⟩ : Fin 3072) q) := by
  pointwise

variable (m : (ℓ : Loc nD τ sig) → Buf (Elt Ideal) ℓ) (c : Dev nD)

theorem V_v2 (k : Fin 2048) (q : Fin 1024) : (V m c main_v2 : FVec Ideal S2048x1024 .bf16) (ix2 k q)
    = (m ((c : Thread nD τ).loc main_arg2) : SW.Idx → EReal) (ix3 (0 : Fin 1) (⟨k.val, by omega⟩ : Fin 3072) q) := by
  have h : V m c main_v2 = (truncf .bf16 (extractStridedSlice S2048x1024 ![0, 0] (shapeCast S3072x1024 (m ((c : Thread nD τ).loc main_arg2)) shapeCasts_S1x3072x1024_S3072x1024) slices_S3072x1024_S2048x1024_0_0) bitsLt_bf16_f32 : FVec Ideal S2048x1024 .bf16) := by
    show StableHlo.after hostOps0 _ (Proc.devRef .tc main_v2) = _
    after_results
    rfl
  exact (congrFun h _).trans (top_at _ k q)

theorem V_v4 (k : Fin 1024) (q : Fin 1024) : (V m c main_v4 : FVec Ideal S1024x1024 .bf16) (ix2 k q)
    = (m ((c : Thread nD τ).loc main_arg2) : SW.Idx → EReal) (ix3 (0 : Fin 1) (⟨2048 + k.val, by omega⟩ : Fin 3072) q) := by
  have h : V m c main_v4 = (truncf .bf16 (extractStridedSlice S1024x1024 ![2048, 0] (shapeCast S3072x1024 (m ((c : Thread nD τ).loc main_arg2)) shapeCasts_S1x3072x1024_S3072x1024) slices_S3072x1024_S1024x1024_2048_0) bitsLt_bf16_f32 : FVec Ideal S1024x1024 .bf16) := by
    show StableHlo.after hostOps0 _ (Proc.devRef .tc main_v4) = _
    after_results
    rfl
  exact (congrFun h _).trans (bottom_at _ k q)

theorem V_v6 : V m c main_v6 = (m ((c : Thread nD τ).loc main_arg4) : FVec Ideal S1x1024 .f32) := by
  have h : V m c main_v6 = (shapeCast S1x1024 (shapeCast S1024 (m ((c : Thread nD τ).loc main_arg4)) shapeCasts_S1x1024_S1024) shapeCasts_S1024_S1x1024 : FVec Ideal S1x1024 .f32) := by
    show StableHlo.after hostOps0 _ (Proc.devRef .tc main_v6) = _
    after_results
    rfl
  refine h.trans (funext fun i => ?_)
  rw [← ix2_eta i]
  pointwise

theorem V_v8 : V m c main_v8 = (m ((c : Thread nD τ).loc main_arg5) : FVec Ideal S1x1024 .f32) := by
  have h : V m c main_v8 = (shapeCast S1x1024 (shapeCast S1024 (m ((c : Thread nD τ).loc main_arg5)) shapeCasts_S1x1024_S1024) shapeCasts_S1024_S1x1024 : FVec Ideal S1x1024 .f32) := by
    show StableHlo.after hostOps0 _ (Proc.devRef .tc main_v8) = _
    after_results
    rfl
  refine h.trans (funext fun i => ?_)
  rw [← ix2_eta i]
  pointwise

theorem b2 (t : Fin cfg0.N) (k : Fin 2048) (q : Fin 1024) : iblk m c 2 t (ix2 k q) = (m ((c : Thread nD τ).loc main_arg2) : SW.Idx → EReal) (ix3 (0 : Fin 1) (⟨k.val, by omega⟩ : Fin 3072) q) := by
  rw [← V_v2 m c]
  blk_ext [iblk, blocks_at t]
  all_goals omega
theorem b3 (t : Fin cfg0.N) (k : Fin 1024) (q : Fin 1024) : iblk m c 3 t (ix2 k q) = (m ((c : Thread nD τ).loc main_arg2) : SW.Idx → EReal) (ix3 (0 : Fin 1) (⟨2048 + k.val, by omega⟩ : Fin 3072) q) := by
  rw [← V_v4 m c]
  blk_ext [iblk, blocks_at t]
  all_goals omega
theorem b5 (t : Fin cfg0.N) (q : Fin 1024) : iblk m c 5 t (ix2 (0 : Fin 1) q) = (m ((c : Thread nD τ).loc main_arg4) : SR.Idx → EReal) (ix2 (0 : Fin 1) q) := by
  rw [← V_v6 m c]
  blk_ext [iblk, blocks_at t]
  all_goals omega
theorem b6 (t : Fin cfg0.N) (q : Fin 1024) : iblk m c 6 t (ix2 (0 : Fin 1) q) = (m ((c : Thread nD τ).loc main_arg5) : SR.Idx → EReal) (ix2 (0 : Fin 1) q) := by
  rw [← V_v8 m c]
  blk_ext [iblk, blocks_at t]
  all_goals omega

section Blocks
variable (t : Fin cfg0.N) (R : Fin 65536) (r : Fin 512) (hR : R.val = t.val * 512 + r.val)
include hR

theorem b0 (k : Fin 2048) : iblk m c 0 t (ix2 r k) = (m ((c : Thread nD τ).loc main_arg0) : SY.Idx → EReal) (ix2 R k) := by
  rw [← V_main_arg0 m c]
  blk_ext [iblk, blocks_at t]
  all_goals omega
theorem b1 (k : Fin 1024) : iblk m c 1 t (ix2 r k) = (m ((c : Thread nD τ).loc main_arg1) : SH.Idx → EReal) (ix2 R k) := by
  rw [← V_main_arg1 m c]
  blk_ext [iblk, blocks_at t]
  all_goals omega
theorem b4 (q : Fin 1024) : iblk m c 4 t (ix2 r q) = (m ((c : Thread nD τ).loc main_arg3) : SH.Idx → EReal) (ix2 R q) := by
  rw [← V_main_arg3 m c]
  blk_ext [iblk, blocks_at t]
  all_goals omega
/-- One element of what a grid point leaves. -/
theorem elem (q : Fin 1024) : out0_7 (F := Ideal) (iblk m c 0 t) (iblk m c 1 t) (iblk m c 2 t) (iblk m c 3 t) (iblk m c 4 t) (iblk m c 5 t) (iblk m c 6 t) (ix2 r q)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) R q := by
  refine (congrFun ((out_eq _ _ _ _ _ _ _).trans (pay_eq _ _ _ _ _ _ _)) _).trans ((Cert.Combine.pay1_at _ _ _ r q).trans ?_)
  unfold out
  have e : (fun k => acc (iblk m c 0 t) (iblk m c 2 t) (iblk m c 1 t) (iblk m c 3 t) (iblk m c 4 t) (ix2 r k))
      = fun k => res ((m ((c : Thread nD τ).loc main_arg3) : SH.Idx → EReal) (ix2 R k))
          (proj (m ((c : Thread nD τ).loc main_arg0)) (m ((c : Thread nD τ).loc main_arg1)) (m ((c : Thread nD τ).loc main_arg2)) R k) := by
    funext q
    refine (acc_at _ _ _ _ _ r q).trans (congrArg₂ res (b4 m c t R r hR q) (congrArg₂ (· + ·) ?_ ?_))
    · exact Finset.sum_congr rfl fun k _ => congrArg₂ (· * ·) (b0 m c t R r hR k) (b2 m c t k q)
    · exact Finset.sum_congr rfl fun k _ => congrArg₂ (· * ·) (b1 m c t R r hR k) (b3 m c t k q)
  refine (congrArg (fun f => ln f _ _ q) e).trans (congrArg₂ (fun u v => ln _ u v q) ?_ ?_)
  · exact (Cert.Combine.pay3_at _ q).trans (b5 m c t q)
  · exact (Cert.Combine.pay4_at _ q).trans (b6 m c t q)
end Blocks

/-- The whole array. -/
def outArr (y : SY.Idx → EReal) (u : SH.Idx → EReal) (w : SW.Idx → EReal) (h : SH.Idx → EReal) (g b : SR.Idx → EReal) : SH.Idx → EReal :=
  fun i => out y u w h g b (i 0) (i 1)

theorem left (t : Fin cfg0.N) (j : S512x1024.Idx) (R : Fin 65536) (q : Fin 1024) (hR : R.val = t.val * 512 + (j 0).val) (hq : q.val = (j 1).val) :
    out0_7 (F := Ideal) (iblk m c 0 t) (iblk m c 1 t) (iblk m c 2 t) (iblk m c 3 t) (iblk m c 4 t) (iblk m c 5 t) (iblk m c 6 t) j
      = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 R q) := by
  obtain rfl : q = j 1 := Fin.ext hq
  exact (congrArg _ (ix2_eta j).symm).trans (elem m c t R (j 0) hR (j 1))

theorem arr_of (G : SH.Idx → EReal)
    (hl : ∀ (t : Fin cfg0.N) (j : S512x1024.Idx) (R : Fin 65536) (q : Fin 1024), R.val = t.val * 512 + (j 0).val → q.val = (j 1).val →
      out0_7 (F := Ideal) (iblk m c 0 t) (iblk m c 1 t) (iblk m c 2 t) (iblk m c 3 t) (iblk m c 4 t) (iblk m c 5 t) (iblk m c 6 t) j = G (ix2 R q)) :
    (dats m 0 c).arrAt 7 cfg0.N = G := by
  refine (dats m 0 c).arrAt_eq_of_covers 7 _ (by decide +kernel) fun t hf y => ?_
  rw [after0_7]
  have ht : t.val < 128 := t.isLt
  have y0 : (y (0 : Fin 2)).val < 512 := (y (0 : Fin 2)).isLt
  have y1 : (y (1 : Fin 2)).val < 1024 := (y (1 : Fin 2)).isLt
  refine Eq.trans ?_ (congrArg G (?_ : ix2 (⟨t.val * 512 + (y (0 : Fin 2)).val, by omega⟩ : Fin 65536) (⟨(y (1 : Fin 2)).val, y1⟩ : Fin 1024) = _))
  · have h := hl t
    generalize out0_7 (F := Ideal) (iblk m c 0 t) (iblk m c 1 t) (iblk m c 2 t) (iblk m c 3 t) (iblk m c 4 t) (iblk m c 5 t) (iblk m c 6 t) = o at h ⊢
    exact h _ _ _ rfl rfl
  · blk_ext [blocks_at t]
    all_goals omega

theorem arr_at : (dats m 0 c).arrAt 7 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  arr_of m c _ (left m c)

end Cert.Proj

end
-- ==== Proof.Proj.RefAt.lean ====
/- The reference of the output projection, read at an index. -/
module

public import proofs.«01_k».proof.Proof.Norm.Ref
public import proofs.«01_k».proof.Proof.Proj.Spec
public import proofs.«01_k».proof.Proof.Gen.Reference4Ideal.Run

@[expose] public section

set_option maxRecDepth 16384

noncomputable section

namespace Cert.Proj

open Idealize.ShloMosaic Idealize.ShloMosaic.TcCoe Idealize.ShloMosaic.Tactic Cert.Reference4Ideal Cert.Reference4Ideal.Gen Cert.Reference4Ideal.Value Cert.Norm

/-- All rows' two parts against the weight. -/
def mix (y : FVec Ideal S65536x2048 .bf16) (u : FVec Ideal S65536x1024 .bf16) (w : FVec Ideal S1x3072x1024 .f32) : FVec Ideal S65536x1024 .f32 :=
  Host.dotGeneral dot_S65536x3072_S3072x1024_S65536x1024_1_0_0_1_n_n none
    (concatenate S65536x3072 1 [⟨S65536x2048, y⟩, ⟨S65536x1024, u⟩] concatenates_S65536x2048_S65536x1024_S65536x3072_d1)
    (truncf .bf16 (shapeCast _ w shapeCasts_S1x3072x1024_S3072x1024) bitsLt_bf16_f32)

theorem mix_at (y : FVec Ideal S65536x2048 .bf16) (u : FVec Ideal S65536x1024 .bf16) (w : FVec Ideal S1x3072x1024 .f32) (r : Fin 65536) (q : Fin 1024) :
    mix y u w (ix2 r q) = proj y u w r q := by
  pointwise [mix]
  rfl

theorem res_eq (m : (ℓ : Loc nD τ sig) → Buf (Elt Ideal) ℓ) (c : Dev nD) :
    (res_out0 m c : FVec Ideal S65536x1024 .f32)
      = normAll (resAll (m ((c.tc : Thread nD τ).loc main_arg3)) (mix (m ((c.tc : Thread nD τ).loc main_arg0)) (m ((c.tc : Thread nD τ).loc main_arg1))
          (m ((c.tc : Thread nD τ).loc main_arg2))))
          (vec (m ((c.tc : Thread nD τ).loc main_arg4))) (vec (m ((c.tc : Thread nD τ).loc main_arg5))) := rfl

theorem res_at (m : (ℓ : Loc nD τ sig) → Buf (Elt Ideal) ℓ) (c : Dev nD) (r : Fin 65536) (q : Fin 1024) :
    (res_out0 m c : FVec Ideal S65536x1024 .f32) (ix2 r q)
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) r q := by
  rw [res_eq, normAll_at, vec_at, vec_at]
  unfold out
  congr 1
  funext k
  rw [resAll_at, mix_at]

end Cert.Proj

end
-- ==== Proof.Proj.Claim.lean ====
/- The claims about the projecting kernel. -/
module

public import proofs.«01_k».proof.Defs
public import proofs.«01_k».proof.Proof.Proj.Final
public import proofs.«01_k».proof.Proof.Proj.RefAt
public import Idealize.ShloMosaic.Adequacy
public import Idealize.ShloMosaic.Init

@[expose] public section

noncomputable section

namespace Cert.Proj

open Idealize.ShloMosaic Idealize.ShloMosaic.TcCoe Idealize.SL.Sem

theorem reference_frame : Cert.quiescent_Reference4Ideal := by
  intro m g _
  exact (θ_run _ _ _).mono (fun r h => ⟨fun c => (h c).2, sem_eq_zero_of_no_sems (by decide) r.2⟩) (Cert.Reference4Ideal.Value.run m g)

theorem algebraic : Cert.algebraic_Kernel4Ideal_Reference4Ideal := by
  intro m g m' g' _ ha
  refine ⟨fun c => (Cert.Kernel4Ideal.Gen.dats m 0 c).arrAt 7 Cert.Kernel4Ideal.cfg0.N, ?_, ?_⟩
  · refine (θ_run _ _ _).mono (fun r h c => ?_) (θ_run_and (Cert.Kernel4Ideal.Gen.run_main m g) (Cert.Kernel4Ideal.Gen.unchanged m g))
    exact ⟨(h.1 c).1 7, h.2 c⟩
  · refine (θ_run _ _ _).mono (fun r h c => ?_) (Cert.Reference4Ideal.Value.run m' g')
    obtain ⟨a0, a1, a2, a3, a4, a5⟩ := ha c
    refine ⟨(h c).1.trans (funext fun i => ?_), (h c).2⟩
    refine (congrArg _ (ix2_eta (i : SH.Idx)).symm).trans ((res_at m' c _ _).trans ?_)
    rw [a0, a1, a2, a3, a4, a5]
    exact (congrFun (arr_at m c) i).symm

end Cert.Proj

end
-- ==== Proof.Ffn.Spec.lean ====
/- The dense feed-forward, the residual and the norm, and the projections to queries, keys and values, entry by entry. -/
module

public import proofs.«01_k».proof.Proof.Norm.Spec
public import proofs.«01_k».proof.Proof.Moe.Spec

@[expose] public section

noncomputable section

namespace Cert.Ffn

open Idealize.ShloMosaic Cert.Norm Cert.Moe

abbrev SH : Shape := ⟨2, ![65536, 1024]⟩
abbrev SG : Shape := ⟨3, ![1, 1024, 2816]⟩
abbrev SD : Shape := ⟨3, ![1, 2816, 1024]⟩
abbrev SQ : Shape := ⟨3, ![1, 1024, 3072]⟩
abbrev SR : Shape := ⟨2, ![1, 1024]⟩

/-- An activation: the gated unit of a row against a column of the two weights. -/
def act (h : SH.Idx → EReal) (wg wu : SG.Idx → EReal) (r : Fin 65536) (f : Fin 2816) : EReal :=
  swi (∑ k : Fin 1024, h (ix2 r k) * wg (ix3 (0 : Fin 1) k f)) (∑ k : Fin 1024, h (ix2 r k) * wu (ix3 (0 : Fin 1) k f))

/-- The feed-forward of a row. -/
def ffn (h : SH.Idx → EReal) (wg wu : SG.Idx → EReal) (wd : SD.Idx → EReal) (r : Fin 65536) (q : Fin 1024) : EReal :=
  ∑ f : Fin 2816, act h wg wu r f * wd (ix3 (0 : Fin 1) f q)

/-- The layer's output. -/
def hid (h : SH.Idx → EReal) (wg wu : SG.Idx → EReal) (wd : SD.Idx → EReal) (g b : SR.Idx → EReal) (r : Fin 65536) (q : Fin 1024) : EReal :=
  ln (fun k => res (h (ix2 r k)) (ffn h wg wu wd r k)) (g (ix2 (0 : Fin 1) q)) (b (ix2 (0 : Fin 1) q)) q

/-- The output's projection to column `p` of the three side by side. -/
def lin (h : SH.Idx → EReal) (wg wu : SG.Idx → EReal) (wd : SD.Idx → EReal) (g b : SR.Idx → EReal) (w : SQ.Idx → EReal) (r : Fin 65536) (p : Fin 3072) : EReal :=
  ∑ k : Fin 1024, hid h wg wu wd g b r k * w (ix3 (0 : Fin 1) k p)

/-- The columns of the queries, the keys and the values. -/
def colQ (q : Fin 1024) : Fin 3072 := ⟨q.val, by omega⟩
def colK (q : Fin 1024) : Fin 3072 := ⟨1024 + q.val, by omega⟩
def colV (q : Fin 1024) : Fin 3072 := ⟨2048 + q.val, by omega⟩

/-- The scale of the queries. -/
def scale : EReal := Ideal.ofBits .f32 0x3E000000#32

end Cert.Ffn

end
-- ==== Proof.Ffn.Value.lean ====
/- One grid point of the feed-forward's kernel: the activations in its scratch, its norm and its projections. -/
module

public import proofs.«01_k».proof.Proof.Combine.Value
public import proofs.«01_k».proof.Proof.Ffn.Spec
public import proofs.«01_k».proof.Proof.Gen.Kernel5Ideal.Frame
public import Idealize.ShloMosaic.Lib.Pipeline.ValueKit

@[expose] public section

set_option maxRecDepth 16384

noncomputable section

namespace Cert.Ffn

open Idealize.ShloMosaic Idealize.ShloMosaic.TcCoe Idealize.ShloMosaic.Tactic Cert.Kernel5Ideal Cert.Kernel5Ideal.Gen Cert.Norm Cert.Moe

/-- One chunk of the activations: the rows against 256 columns of the two weights. -/
def chunk (v0 : FVec Ideal S512x1024 .f32) (a b : FVec Ideal S1024x256 .bf16) : FVec Ideal S512x256 .bf16 :=
  k0_pay3 (F := Ideal) v0 a b

theorem chunk_at (v0 : FVec Ideal S512x1024 .f32) (a b : FVec Ideal S1024x256 .bf16) (r : Fin 512) (q : Fin 256) :
    chunk v0 a b (ix2 r q) = swi (∑ k : Fin 1024, v0 (ix2 r k) * a (ix2 k q)) (∑ k : Fin 1024, v0 (ix2 r k) * b (ix2 k q)) := by
  pointwise [chunk, k0_pay3, k0_pay2]
  rfl

/-- The residual plus the activations against the last weight. -/
def acc (v0 : FVec Ideal S512x1024 .f32) (v145 : FVec Ideal S512x2816 .bf16) (v146 : FVec Ideal S2816x1024 .bf16) : FVec Ideal S512x1024 .f32 :=
  addf (mulf (broadcast S512x1024 (Scalar.ofBits .f32 0x3FB504F3#32)) v0)
    (matmul dot_S512x2816_S2816x1024_S512x1024_1_0_0_1_n_n none v145 (shapeCast S2816x1024 v146 shapeCasts_S2816x1024_S2816x1024) (constant S512x1024 .f32 0x00000000#32))

theorem acc_at (v0 : FVec Ideal S512x1024 .f32) (v145 : FVec Ideal S512x2816 .bf16) (v146 : FVec Ideal S2816x1024 .bf16) (r : Fin 512) (q : Fin 1024) :
    acc v0 v145 v146 (ix2 r q) = res (v0 (ix2 r q)) (∑ f : Fin 2816, v145 (ix2 r f) * v146 (ix2 f q)) := by
  pointwise [acc]
  rfl

theorem pay18_eq (v0 : FVec Ideal S512x1024 .f32) (v145 : FVec Ideal S512x2816 .bf16) (v146 : FVec Ideal S2816x1024 .bf16) (v152 v154 : FVec Ideal S1x1024 .f32) :
    k0_pay18 (F := Ideal) v0 v145 v146 v152 v154
      = Cert.Kernel3Ideal.Gen.k0_pay1 (F := Ideal) (acc v0 v145 v146) (Cert.Kernel3Ideal.Gen.k0_pay3 v152) (Cert.Kernel3Ideal.Gen.k0_pay4 v154) := by
  sl_kernel_rfl

/-- The rows against 512 columns of the projections' weight. -/
def proj (o : FVec Ideal S512x1024 .bf16) (w : FVec Ideal S1024x512 .bf16) : FVec Ideal S512x512 .bf16 := k0_pay21 (F := Ideal) o w
/-- The same, scaled. -/
def projQ (o : FVec Ideal S512x1024 .bf16) (w : FVec Ideal S1024x512 .bf16) : FVec Ideal S512x512 .bf16 := k0_pay20 (F := Ideal) o w

theorem proj_at (o : FVec Ideal S512x1024 .bf16) (w : FVec Ideal S1024x512 .bf16) (r q : Fin 512) :
    proj o w (ix2 r q) = ∑ k : Fin 1024, o (ix2 r k) * w (ix2 k q) := by
  pointwise [proj, k0_pay21]
theorem projQ_at (o : FVec Ideal S512x1024 .bf16) (w : FVec Ideal S1024x512 .bf16) (r q : Fin 512) :
    projQ o w (ix2 r q) = (∑ k : Fin 1024, o (ix2 r k) * w (ix2 k q)) * scale := by
  pointwise [projQ, k0_pay20]
  rfl

theorem cols_inb : ∀ (n : Fin 11) (a : Fin 2), (![0, n.val * 256] : Fin 2 → ℕ) a + S512x256.size a ≤ S512x2816.size a := by decide +kernel
theorem wcols_inb : ∀ (n : Fin 11) (a : Fin 2), (![0, n.val * 256] : Fin 2 → ℕ) a + S1024x256.size a ≤ S1024x2816.size a := by decide +kernel
theorem qcols_inb : ∀ (n : Fin 2) (a : Fin 2), (![0, n.val * 512] : Fin 2 → ℕ) a + S512x512.size a ≤ S512x1024.size a := by decide +kernel
theorem pcols_inb : ∀ (s : Fin 3) (n : Fin 2) (a : Fin 2), (![0, s.val * 1024 + n.val * 512] : Fin 2 → ℕ) a + S1024x512.size a ≤ S1024x3072.size a := by decide +kernel

/-- Chunk `n` of a weight of the feed-forward. -/
def wCols (x : Vec Ideal S1024x2816 .bf16) (n : Fin 11) : FVec Ideal S1024x256 .bf16 :=
  View.ld x (Rect.unit (s := S1024x2816) ![0, n.val * 256] S1024x256.size (wcols_inb n))
/-- Chunk `n` of part `s` of the projections' weight. -/
def pCols (x : Vec Ideal S1024x3072 .bf16) (s : Fin 3) (n : Fin 2) : FVec Ideal S1024x512 .bf16 :=
  View.ld x (Rect.unit (s := S1024x3072) ![0, s.val * 1024 + n.val * 512] S1024x512.size (pcols_inb s n))

theorem wCols_at (x : Vec Ideal S1024x2816 .bf16) (n : Fin 11) (k : Fin 1024) (q : Fin 256) :
    wCols x n (ix2 k q) = x (ix2 k (⟨n.val * 256 + q.val, by omega⟩ : Fin 2816)) := by
  refine View.ld_unit_apply_of x _ _ (wcols_inb n) _ _ fun a => ?_
  fin_cases a
  · exact (Nat.zero_add _).symm
  · rfl
theorem pCols_at (x : Vec Ideal S1024x3072 .bf16) (s : Fin 3) (n : Fin 2) (k : Fin 1024) (q : Fin 512) :
    pCols x s n (ix2 k q) = x (ix2 k (⟨s.val * 1024 + n.val * 512 + q.val, by omega⟩ : Fin 3072)) := by
  refine View.ld_unit_apply_of x _ _ (pcols_inb s n) _ _ fun a => ?_
  fin_cases a
  · exact (Nat.zero_add _).symm
  · rfl

/-- The activations of a block of rows. -/
def actArr (x0 : FVec Ideal S512x1024 .f32) (x1 x2 : FVec Ideal S1024x2816 .bf16) : FVec Ideal S512x2816 .bf16 := fun y =>
  swi (∑ k : Fin 1024, x0 (ix2 (y 0 : Fin 512) k) * x1 (ix2 k (y 1 : Fin 2816))) (∑ k : Fin 1024, x0 (ix2 (y 0 : Fin 512) k) * x2 (ix2 k (y 1 : Fin 2816)))

/-- The pieces of the activations. -/
def actPieces (x0 : FVec Ideal S512x1024 .f32) (x1 x2 : FVec Ideal S1024x2816 .bf16) : List (View.Piece (Elt Ideal) S512x2816 .bf16) :=
  List.ofFn fun n : Fin 11 => (⟨Rect.unit (s := S512x2816) ![0, n.rev.val * 256] S512x256.size (cols_inb n.rev), chunk x0 (wCols x1 n.rev) (wCols x2 n.rev)⟩ : View.Piece (Elt Ideal) S512x2816 .bf16)

theorem canon_act (x0 : FVec Ideal S512x1024 .f32) (x1 x2 : FVec Ideal S1024x2816 .bf16) (y : S512x2816.Idx) :
    View.canon (actPieces x0 x1 x2) y = actArr x0 x1 x2 y := by
  have y0 : (y (0 : Fin 2)).val < 512 := (y (0 : Fin 2)).isLt
  have y1 : (y (1 : Fin 2)).val < 2816 := (y (1 : Fin 2)).isLt
  have hn : (y (1 : Fin 2)).val / 256 < 11 := by omega
  refine View.canon_ofFn_unit_eq_of_forall (S := S512x2816) (fun k : Fin 11 => ![0, k.rev.val * 256]) S512x256.size (fun k => cols_inb k.rev) _ y _ ⟨(⟨(y (1 : Fin 2)).val / 256, hn⟩ : Fin 11).rev, ?_⟩ ?_
  · intro a
    rw [Fin.rev_rev]
    fin_cases a
    · exact ⟨Nat.zero_le _, by show (y (0 : Fin 2)).val < 0 + 512; omega⟩
    · exact ⟨by show (y (1 : Fin 2)).val / 256 * 256 ≤ (y (1 : Fin 2)).val; omega, by show (y (1 : Fin 2)).val < (y (1 : Fin 2)).val / 256 * 256 + 256; omega⟩
  · intro k x hx
    have e0 : (y (0 : Fin 2)).val = 0 + (x (0 : Fin 2)).val := hx 0
    have e1 : (y (1 : Fin 2)).val = k.rev.val * 256 + (x (1 : Fin 2)).val := hx 1
    refine (congrArg _ (ix2_eta x).symm).trans ((chunk_at x0 _ _ (x 0) (x 1)).trans ?_)
    have ey : (x 0 : Fin 512) = (y 0 : Fin 512) := Fin.ext (by show (x (0 : Fin 2)).val = (y (0 : Fin 2)).val; omega)
    have ez : (⟨k.rev.val * 256 + (x (1 : Fin 2)).val, by omega⟩ : Fin 2816) = (y 1 : Fin 2816) := Fin.ext e1.symm
    unfold actArr
    rw [ey, ← ez]
    exact congrArg₂ swi (Finset.sum_congr rfl fun j _ => congrArg (x0 (ix2 (y 0 : Fin 512) j) * ·) (wCols_at x1 k.rev j (x 1)))
      (Finset.sum_congr rfl fun j _ => congrArg (x0 (ix2 (y 0 : Fin 512) j) * ·) (wCols_at x2 k.rev j (x 1)))

end Cert.Ffn

end
-- ==== Proof.Ffn.Run.lean ====
/- What the feed-forward's kernel leaves at one grid point, as the blocks' arithmetic. -/
module

public import proofs.«01_k».proof.Proof.Ffn.Value

@[expose] public section

set_option maxRecDepth 16384

noncomputable section

namespace Cert.Ffn

open Idealize.ShloMosaic Idealize.ShloMosaic.TcCoe Idealize.ShloMosaic.Tactic Cert.Kernel5Ideal Cert.Kernel5Ideal.Gen Cert.Norm Cert.Moe

variable (c : Dev nD) (i : grid0.Coords)
  (arg1 : Memref sig .tc .vmem S512x1024 .f32) (harg1 : arg1.IsWhole)
  (arg2 : Memref sig .tc .vmem S1024x2816 .bf16) (harg2 : arg2.IsWhole)
  (arg3 : Memref sig .tc .vmem S1024x2816 .bf16) (harg3 : arg3.IsWhole)
  (arg4 : Memref sig .tc .vmem S2816x1024 .bf16) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1024x3072 .bf16) (harg7 : arg7.IsWhole)
  (arg8 : Memref sig .tc .vmem S512x1024 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S512x1024 .bf16) (harg11 : arg11.IsWhole)
  (arg12 : Memref sig .tc .vmem S512x2816 .bf16) (harg12 : arg12.IsWhole)
  (x0 : Vec Ideal S512x1024 .f32) (x1 : Vec Ideal S1024x2816 .bf16) (x2 : Vec Ideal S1024x2816 .bf16) (x3 : Vec Ideal S2816x1024 .bf16) (x4 : Vec Ideal S1x1024 .f32) (x5 : Vec Ideal S1x1024 .f32) (x6 : Vec Ideal S1024x3072 .bf16)

/-- The block's layer output. -/
def hidBlk (x0 : Vec Ideal S512x1024 .f32) (x1 x2 : Vec Ideal S1024x2816 .bf16) (x3 : Vec Ideal S2816x1024 .bf16) (x4 x5 : Vec Ideal S1x1024 .f32) : FVec Ideal S512x1024 .f32 :=
  k0_pay18 (F := Ideal) x0 (actArr x0 x1 x2) x3 x4 x5

/-- The same, cast. -/
def hidB (o : FVec Ideal S512x1024 .f32) : FVec Ideal S512x1024 .bf16 := truncf .bf16 o bitsLt_bf16_f32

theorem pay19_eq (v0 : FVec Ideal S512x1024 .f32) (v145 : FVec Ideal S512x2816 .bf16) (v146 : FVec Ideal S2816x1024 .bf16) (v152 v154 : FVec Ideal S1x1024 .f32) :
    k0_pay19 (F := Ideal) v0 v145 v146 v152 v154 = hidB (k0_pay18 (F := Ideal) v0 v145 v146 v152 v154) := by
  sl_kernel_rfl

/-- The pieces of an output stored in two halves. -/
def halves (p : Fin 2 → FVec Ideal S512x512 .bf16) : List (View.Piece (Elt Ideal) S512x1024 .bf16) :=
  List.ofFn fun n : Fin 2 => (⟨Rect.unit (s := S512x1024) ![0, n.rev.val * 512] S512x512.size (qcols_inb n.rev), p n.rev⟩ : View.Piece (Elt Ideal) S512x1024 .bf16)

theorem canon_halves (p : Fin 2 → FVec Ideal S512x512 .bf16) (G : Fin 512 → Fin 1024 → EReal)
    (hG : ∀ (n : Fin 2) (r q : Fin 512), p n (ix2 r q) = G r (⟨n.val * 512 + q.val, by omega⟩ : Fin 1024)) (r : Fin 512) (q : Fin 1024) :
    View.canon (halves p) (ix2 r q) = G r q := by
  have hn : q.val / 512 < 2 := by omega
  refine View.canon_ofFn_unit_eq_of_forall (S := S512x1024) (fun k : Fin 2 => ![0, k.rev.val * 512]) S512x512.size (fun k => qcols_inb k.rev) _ _ _ ⟨(⟨q.val / 512, hn⟩ : Fin 2).rev, ?_⟩ ?_
  · intro a
    rw [Fin.rev_rev]
    fin_cases a
    · exact ⟨Nat.zero_le _, by show r.val < 0 + 512; omega⟩
    · exact ⟨by show q.val / 512 * 512 ≤ q.val; omega, by show q.val < q.val / 512 * 512 + 512; omega⟩
  · intro k x hx
    have e0 : r.val = 0 + (x (0 : Fin 2)).val := hx 0
    have e1 : q.val = k.rev.val * 512 + (x (1 : Fin 2)).val := hx 1
    refine (congrArg _ (ix2_eta x).symm).trans ((hG k.rev (x 0) (x 1)).trans ?_)
    exact congrArg₂ G (Fin.ext (by show (x (0 : Fin 2)).val = r.val; omega)) (Fin.ext e1.symm)

/-- The pieces stored in the scratch, as chunks of the activations. -/
theorem pieces_eq : kernelRun0_A.sl.HS0_11 (F := Ideal) c arg1 harg1 arg2 harg2 arg3 harg3 x0 x1 x2
    = actPieces (View.ld (arg1.view.read (Elt Ideal) (harg1.unread x0)) (Rect.unit (s := S512x1024) ![0, 0] S512x1024.size inb_S512x1024_S512x1024_0_0)) (arg2.view.read (Elt Ideal) (harg2.unread x1)) (arg3.view.read (Elt Ideal) (harg3.unread x2)) := by
  sl_kernel_rfl

theorem row_ld (x : Vec Ideal S512x1024 .f32) : View.ld x (Rect.unit (s := S512x1024) ![0, 0] S512x1024.size inb_S512x1024_S512x1024_0_0) = x :=
  View.ld_unit_lit (S := S512x1024) inb_S512x1024_S512x1024_0_0 x (by decide)

/-- The scratch read whole holds the activations. -/
theorem scratch_eq : kernelRun0_A.sl.v145 (F := Ideal) c arg1 harg1 arg2 harg2 arg3 harg3 arg12 x0 x1 x2 = actArr x0 x1 x2 := by
  unfold kernelRun0_A.sl.v145
  rw [View.readCov_eq_canon', pieces_eq, harg1.read_unread, harg2.read_unread, harg3.read_unread, row_ld]
  funext y
  have hy : (Rect.unit (s := S512x2816) ![0, 0] S512x2816.size inb_S512x2816_S512x2816_0_0).toLoadRect.idx y = y := by
    funext a
    refine Fin.ext ?_
    refine (Rect.idx_unit_val _ _ inb_S512x2816_S512x2816_0_0 y a).trans ?_
    fin_cases a
    · exact Nat.zero_add _
    · exact Nat.zero_add _
  rw [hy]
  exact canon_act x0 x1 x2 y

theorem r_eq : kernelRun0_A.sl.r (F := Ideal) c arg1 harg1 x0 = x0 := by
  unfold kernelRun0_A.sl.r
  rw [View.readAt_eq_ld, harg1.read_unread]
  exact row_ld x0
theorem read4 : View.readAt (Elt Ideal) arg4.view (Rect.unit (s := S2816x1024) ![0, 0] S2816x1024.size inb_S2816x1024_S2816x1024_0_0).toLoadRect (harg4.unread x3) = x3 := by
  rw [View.readAt_eq_ld, harg4.read_unread]
  exact View.ld_unit_lit (S := S2816x1024) inb_S2816x1024_S2816x1024_0_0 x3 (by decide)
theorem read5 : View.readAt (Elt Ideal) arg5.view (Rect.unit (s := S1x1024) ![0, 0] S1x1024.size inb_S1x1024_S1x1024_0_0).toLoadRect (harg5.unread x4) = x4 := by
  rw [View.readAt_eq_ld, harg5.read_unread]
  exact View.ld_unit_lit (S := S1x1024) inb_S1x1024_S1x1024_0_0 x4 (by decide)

theorem r7_eq : kernelRun0_A.sl.r_7 (F := Ideal) c arg1 harg1 arg2 harg2 arg3 harg3 arg4 harg4 arg5 harg5 arg6 harg6 arg12 x0 x1 x2 x3 x4 x5 = hidB (hidBlk x0 x1 x2 x3 x4 x5) := by
  unfold kernelRun0_A.sl.r_7
  rw [scratch_eq, r_eq, read4, read5, read5, pay19_eq]
  rfl

/-- The run's first output. -/
theorem run_h : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).1
    = [⟨Rect.unit (s := S512x1024) ![0, 0] S512x1024.size inb_S512x1024_S512x1024_0_0, hidBlk x0 x1 x2 x3 x4 x5⟩] := by
  dsimp only [kernelRun0_A]
  rw [scratch_eq, r_eq, read4, read5, read5]
  rfl

/-- The run's three other outputs. -/
theorem run_q : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.1
    = halves fun n => projQ (kernelRun0_A.sl.r_7 (F := Ideal) c arg1 harg1 arg2 harg2 arg3 harg3 arg4 harg4 arg5 harg5 arg6 harg6 arg12 x0 x1 x2 x3 x4 x5) (pCols (arg7.view.read (Elt Ideal) (harg7.unread x6)) 0 n) := by
  sl_kernel_rfl
theorem run_k : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.1
    = halves fun n => proj (kernelRun0_A.sl.r_7 (F := Ideal) c arg1 harg1 arg2 harg2 arg3 harg3 arg4 harg4 arg5 harg5 arg6 harg6 arg12 x0 x1 x2 x3 x4 x5) (pCols (arg7.view.read (Elt Ideal) (harg7.unread x6)) 1 n) := by
  sl_kernel_rfl
theorem run_v : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1
    = halves fun n => proj (kernelRun0_A.sl.r_7 (F := Ideal) c arg1 harg1 arg2 harg2 arg3 harg3 arg4 harg4 arg5 harg5 arg6 harg6 arg12 x0 x1 x2 x3 x4 x5) (pCols (arg7.view.read (Elt Ideal) (harg7.unread x6)) 2 n) := by
  sl_kernel_rfl

theorem out_h : out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = hidBlk x0 x1 x2 x3 x4 x5 := by
  unfold out0_A_7
  rw [View.read_writes_junk_eq_canon, run_h]
  · exact View.canon_cons_unit_lit (S := S512x1024) inb_S512x1024_S512x1024_0_0 _ _ (by decide)

theorem out_q (r : Fin 512) (q : Fin 1024) : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r q)
    = (∑ k : Fin 1024, hidBlk x0 x1 x2 x3 x4 x5 (ix2 r k) * x6 (ix2 k (colQ q))) * scale := by
  unfold out0_A_8
  rw [View.read_writes_junk_eq_canon, run_q, harg7.read_unread, r7_eq]
  · refine canon_halves _ (fun r q => (∑ k : Fin 1024, hidBlk x0 x1 x2 x3 x4 x5 (ix2 r k) * x6 (ix2 k (colQ q))) * scale) (fun n r q => ?_) r q
    refine (projQ_at _ _ r q).trans (congrArg (· * scale) (Finset.sum_congr rfl fun k _ => congrArg₂ (· * ·) rfl ((pCols_at x6 0 n k q).trans ?_)))
    exact congrArg (fun p => x6 (ix2 k p)) (Fin.ext (by show 0 * 1024 + n.val * 512 + q.val = n.val * 512 + q.val; omega))

theorem out_k (r : Fin 512) (q : Fin 1024) : out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r q)
    = ∑ k : Fin 1024, hidBlk x0 x1 x2 x3 x4 x5 (ix2 r k) * x6 (ix2 k (colK q)) := by
  unfold out0_A_9
  rw [View.read_writes_junk_eq_canon, run_k, harg7.read_unread, r7_eq]
  · refine canon_halves _ (fun r q => ∑ k : Fin 1024, hidBlk x0 x1 x2 x3 x4 x5 (ix2 r k) * x6 (ix2 k (colK q))) (fun n r q => ?_) r q
    refine (proj_at _ _ r q).trans (Finset.sum_congr rfl fun k _ => congrArg₂ (· * ·) rfl ((pCols_at x6 1 n k q).trans ?_))
    exact congrArg (fun p => x6 (ix2 k p)) (Fin.ext (by show 1 * 1024 + n.val * 512 + q.val = 1024 + (n.val * 512 + q.val); omega))

theorem out_v (r : Fin 512) (q : Fin 1024) : out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r q)
    = ∑ k : Fin 1024, hidBlk x0 x1 x2 x3 x4 x5 (ix2 r k) * x6 (ix2 k (colV q)) := by
  unfold out0_A_10
  rw [View.read_writes_junk_eq_canon, run_v, harg7.read_unread, r7_eq]
  · refine canon_halves _ (fun r q => ∑ k : Fin 1024, hidBlk x0 x1 x2 x3 x4 x5 (ix2 r k) * x6 (ix2 k (colV q))) (fun n r q => ?_) r q
    refine (proj_at _ _ r q).trans (Finset.sum_congr rfl fun k _ => congrArg₂ (· * ·) rfl ((pCols_at x6 2 n k q).trans ?_))
    exact congrArg (fun p => x6 (ix2 k p)) (Fin.ext (by show 2 * 1024 + n.val * 512 + q.val = 2048 + (n.val * 512 + q.val); omega))

end Cert.Ffn

end
-- ==== Proof.Ffn.Final.lean ====
/- The whole arrays the feed-forward's kernel leaves. -/
module

public import proofs.«01_k».proof.Proof.Ffn.Run
public import Idealize.ShloMosaic.Lib.Claim
public import Idealize.ShloMosaic.Lib.Pipeline.ValueKit
public import Idealize.ShloMosaic.Lib.Pipeline.ArrRel

@[expose] public section

set_option maxRecDepth 16384

noncomputable section

namespace Cert.Ffn

open Idealize.ShloMosaic Idealize.ShloMosaic.TcCoe Idealize.ShloMosaic.Tactic Cert.Kernel5Ideal Cert.Kernel5Ideal.Gen Cert.Norm Cert.Moe

theorem blocks_at : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] :=
  (by decide +kernel : ∀ t : Fin grid0.N, _)

theorem castG (w : FVec Ideal S1x1024x2816 .f32) (k : Fin 1024) (q : Fin 2816) :
    (truncf .bf16 (shapeCast S1024x2816 w shapeCasts_S1x1024x2816_S1024x2816) bitsLt_bf16_f32 : FVec Ideal S1024x2816 .bf16) (ix2 k q) = w (ix3 (0 : Fin 1) k q) := by
  pointwise

theorem castD (w : FVec Ideal S1x2816x1024 .f32) (k : Fin 2816) (q : Fin 1024) :
    (truncf .bf16 (shapeCast S2816x1024 w shapeCasts_S1x2816x1024_S2816x1024) bitsLt_bf16_f32 : FVec Ideal S2816x1024 .bf16) (ix2 k q) = w (ix3 (0 : Fin 1) k q) := by
  pointwise

theorem castQ (w : FVec Ideal S1x1024x3072 .f32) (k : Fin 1024) (q : Fin 3072) :
    (truncf .bf16 (shapeCast S1024x3072 w shapeCasts_S1x1024x3072_S1024x3072) bitsLt_bf16_f32 : FVec Ideal S1024x3072 .bf16) (ix2 k q) = w (ix3 (0 : Fin 1) k q) := by
  pointwise

variable (m : (ℓ : Loc nD τ sig) → Buf (Elt Ideal) ℓ) (c : Dev nD)

theorem V_v1 : V m c main_v1 = (truncf .bf16 (shapeCast S1024x2816 (m ((c : Thread nD τ).loc main_arg1)) shapeCasts_S1x1024x2816_S1024x2816) bitsLt_bf16_f32 : FVec Ideal S1024x2816 .bf16) := by
  show StableHlo.after hostOps0 _ (Proc.devRef .tc main_v1) = _
  after_results
  rfl

theorem V_v3 : V m c main_v3 = (truncf .bf16 (shapeCast S1024x2816 (m ((c : Thread nD τ).loc main_arg2)) shapeCasts_S1x1024x2816_S1024x2816) bitsLt_bf16_f32 : FVec Ideal S1024x2816 .bf16) := by
  show StableHlo.after hostOps0 _ (Proc.devRef .tc main_v3) = _
  after_results
  rfl

theorem V_v5 : V m c main_v5 = (truncf .bf16 (shapeCast S2816x1024 (m ((c : Thread nD τ).loc main_arg3)) shapeCasts_S1x2816x1024_S2816x1024) bitsLt_bf16_f32 : FVec Ideal S2816x1024 .bf16) := by
  show StableHlo.after hostOps0 _ (Proc.devRef .tc main_v5) = _
  after_results
  rfl

theorem V_v7 : V m c main_v7 = (m ((c : Thread nD τ).loc main_arg4) : FVec Ideal S1x1024 .f32) := by
  have h : V m c main_v7 = (shapeCast S1x1024 (shapeCast S1024 (m ((c : Thread nD τ).loc main_arg4)) shapeCasts_S1x1024_S1024) shapeCasts_S1024_S1x1024 : FVec Ideal S1x1024 .f32) := by
    show StableHlo.after hostOps0 _ (Proc.devRef .tc main_v7) = _
    after_results
    rfl
  refine h.trans (funext fun i => ?_)
  rw [← ix2_eta i]
  pointwise

theorem V_v9 : V m c main_v9 = (m ((c : Thread nD τ).loc main_arg5) : FVec Ideal S1x1024 .f32) := by
  have h : V m c main_v9 = (shapeCast S1x1024 (shapeCast S1024 (m ((c : Thread nD τ).loc main_arg5)) shapeCasts_S1x1024_S1024) shapeCasts_S1024_S1x1024 : FVec Ideal S1x1024 .f32) := by
    show StableHlo.after hostOps0 _ (Proc.devRef .tc main_v9) = _
    after_results
    rfl
  refine h.trans (funext fun i => ?_)
  rw [← ix2_eta i]
  pointwise

theorem V_v11 : V m c main_v11 = (truncf .bf16 (shapeCast S1024x3072 (m ((c : Thread nD τ).loc main_arg6)) shapeCasts_S1x1024x3072_S1024x3072) bitsLt_bf16_f32 : FVec Ideal S1024x3072 .bf16) := by
  show StableHlo.after hostOps0 _ (Proc.devRef .tc main_v11) = _
  after_results
  rfl

theorem b1 (t : Fin cfg0.N) (k : Fin 1024) (q : Fin 2816) : iblk m c 1 t (ix2 k q) = (m ((c : Thread nD τ).loc main_arg1) : SG.Idx → EReal) (ix3 (0 : Fin 1) k q) := by
  refine Eq.trans ?_ ((castG _ k q))
  rw [← V_v1 m c]
  blk_ext [iblk, blocks_at t]
  all_goals omega

theorem b2 (t : Fin cfg0.N) (k : Fin 1024) (q : Fin 2816) : iblk m c 2 t (ix2 k q) = (m ((c : Thread nD τ).loc main_arg2) : SG.Idx → EReal) (ix3 (0 : Fin 1) k q) := by
  refine Eq.trans ?_ ((castG _ k q))
  rw [← V_v3 m c]
  blk_ext [iblk, blocks_at t]
  all_goals omega

theorem b3 (t : Fin cfg0.N) (k : Fin 2816) (q : Fin 1024) : iblk m c 3 t (ix2 k q) = (m ((c : Thread nD τ).loc main_arg3) : SD.Idx → EReal) (ix3 (0 : Fin 1) k q) := by
  refine Eq.trans ?_ ((castD _ k q))
  rw [← V_v5 m c]
  blk_ext [iblk, blocks_at t]
  all_goals omega

theorem b4 (t : Fin cfg0.N) (q : Fin 1024) : iblk m c 4 t (ix2 (0 : Fin 1) q) = (m ((c : Thread nD τ).loc main_arg4) : SR.Idx → EReal) (ix2 (0 : Fin 1) q) := by
  rw [← V_v7 m c]
  blk_ext [iblk, blocks_at t]
  all_goals omega

theorem b5 (t : Fin cfg0.N) (q : Fin 1024) : iblk m c 5 t (ix2 (0 : Fin 1) q) = (m ((c : Thread nD τ).loc main_arg5) : SR.Idx → EReal) (ix2 (0 : Fin 1) q) := by
  rw [← V_v9 m c]
  blk_ext [iblk, blocks_at t]
  all_goals omega

theorem b6 (t : Fin cfg0.N) (k : Fin 1024) (q : Fin 3072) : iblk m c 6 t (ix2 k q) = (m ((c : Thread nD τ).loc main_arg6) : SQ.Idx → EReal) (ix3 (0 : Fin 1) k q) := by
  refine Eq.trans ?_ ((castQ _ k q))
  rw [← V_v11 m c]
  blk_ext [iblk, blocks_at t]
  all_goals omega

section Blocks
variable (t : Fin cfg0.N) (R : Fin 65536) (r : Fin 512) (hR : R.val = t.val * 512 + r.val)
include hR

theorem b0 (k : Fin 1024) : iblk m c 0 t (ix2 r k) = (m ((c : Thread nD τ).loc main_arg0) : SH.Idx → EReal) (ix2 R k) := by
  rw [← V_main_arg0 m c]
  blk_ext [iblk, blocks_at t]
  all_goals omega

/-- One element of the block's layer output. -/
theorem hid_elem (q : Fin 1024) : hidBlk (iblk m c 0 t) (iblk m c 1 t) (iblk m c 2 t) (iblk m c 3 t) (iblk m c 4 t) (iblk m c 5 t) (ix2 r q) = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R q := by
  refine (congrFun (pay18_eq _ _ _ _ _) _).trans ((Cert.Combine.pay1_at _ _ _ r q).trans ?_)
  unfold hid
  have e : (fun k => acc (iblk m c 0 t) (actArr (iblk m c 0 t) (iblk m c 1 t) (iblk m c 2 t)) (iblk m c 3 t) (ix2 r k))
      = fun k => res ((m ((c : Thread nD τ).loc main_arg0) : SH.Idx → EReal) (ix2 R k)) (ffn (m ((c : Thread nD τ).loc main_arg0)) (m ((c : Thread nD τ).loc main_arg1)) (m ((c : Thread nD τ).loc main_arg2)) (m ((c : Thread nD τ).loc main_arg3)) R k) := by
    funext q
    refine (acc_at _ _ _ r q).trans (congrArg₂ res (b0 m c t R r hR q) (Finset.sum_congr rfl fun f _ => congrArg₂ (· * ·) (congrArg₂ swi ?_ ?_) (b3 m c t f q)))
    · exact Finset.sum_congr rfl fun k _ => congrArg₂ (· * ·) (b0 m c t R r hR k) (b1 m c t k f)
    · exact Finset.sum_congr rfl fun k _ => congrArg₂ (· * ·) (b0 m c t R r hR k) (b2 m c t k f)
  refine (congrArg (fun f => ln f _ _ q) e).trans (congrArg₂ (fun u v => ln _ u v q) ?_ ?_)
  · exact (Cert.Combine.pay3_at _ q).trans (b4 m c t q)
  · exact (Cert.Combine.pay4_at _ q).trans (b5 m c t q)

theorem lin_elem (p : Fin 3072) : (∑ k : Fin 1024, hidBlk (iblk m c 0 t) (iblk m c 1 t) (iblk m c 2 t) (iblk m c 3 t) (iblk m c 4 t) (iblk m c 5 t) (ix2 r k) * iblk m c 6 t (ix2 k p)) = lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R p :=
  Finset.sum_congr rfl fun k _ => congrArg₂ (· * ·) (hid_elem m c t R r hR k) (b6 m c t k p)

theorem elem7 (q : Fin 1024) : (outsAt0 m c t).1 (ix2 r q) = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R q := by
  unfold outsAt0
  dsimp only
  rw [out_h]
  exact hid_elem m c t R r hR q
theorem elem8 (q : Fin 1024) : (outsAt0 m c t).2.1 (ix2 r q) = lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R (colQ q) * scale := by
  unfold outsAt0
  dsimp only
  rw [out_q]
  exact congrArg (· * scale) (lin_elem m c t R r hR (colQ q))
theorem elem9 (q : Fin 1024) : (outsAt0 m c t).2.2.1 (ix2 r q) = lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R (colK q) := by
  unfold outsAt0
  dsimp only
  rw [out_k]
  exact lin_elem m c t R r hR (colK q)
theorem elem10 (q : Fin 1024) : (outsAt0 m c t).2.2.2 (ix2 r q) = lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R (colV q) := by
  unfold outsAt0
  dsimp only
  rw [out_v]
  exact lin_elem m c t R r hR (colV q)
end Blocks

theorem arr7_of (G : SH.Idx → EReal)
    (hl : ∀ (t : Fin cfg0.N) (j : S512x1024.Idx) (R : Fin 65536) (q : Fin 1024), R.val = t.val * 512 + (j 0).val → q.val = (j 1).val → (outsAt0 m c t).1 j = G (ix2 R q)) :
    (dats m 0 c).arrAt 7 cfg0.N = G := by
  refine (dats m 0 c).arrAt_eq_of_covers 7 _ (by decide +kernel) fun t hf y => ?_
  rw [after0_7]
  have ht : t.val < 128 := t.isLt
  have y0 : (y (0 : Fin 2)).val < 512 := (y (0 : Fin 2)).isLt
  have y1 : (y (1 : Fin 2)).val < 1024 := (y (1 : Fin 2)).isLt
  refine Eq.trans ?_ (congrArg G (?_ : ix2 (⟨t.val * 512 + (y (0 : Fin 2)).val, by omega⟩ : Fin 65536) (⟨(y (1 : Fin 2)).val, y1⟩ : Fin 1024) = _))
  · have h := hl t
    generalize (outsAt0 m c t).1 = o at h ⊢
    exact h _ _ _ rfl rfl
  · blk_ext [blocks_at t]
    all_goals omega

def arr7 (m : (ℓ : Loc nD τ sig) → Buf (Elt Ideal) ℓ) (c : Dev nD) : SH.Idx → EReal := fun i => hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1)

theorem arr7_at : (dats m 0 c).arrAt 7 cfg0.N = arr7 m c := by
  refine arr7_of m c _ fun t j R q hR hq => ?_
  obtain rfl : q = j 1 := Fin.ext hq
  exact (congrArg _ (ix2_eta j).symm).trans (elem7 m c t R (j 0) hR (j 1))

theorem arr8_of (G : SH.Idx → EReal)
    (hl : ∀ (t : Fin cfg0.N) (j : S512x1024.Idx) (R : Fin 65536) (q : Fin 1024), R.val = t.val * 512 + (j 0).val → q.val = (j 1).val → (outsAt0 m c t).2.1 j = G (ix2 R q)) :
    (dats m 0 c).arrAt 8 cfg0.N = G := by
  refine (dats m 0 c).arrAt_eq_of_covers 8 _ (by decide +kernel) fun t hf y => ?_
  rw [after0_8]
  have ht : t.val < 128 := t.isLt
  have y0 : (y (0 : Fin 2)).val < 512 := (y (0 : Fin 2)).isLt
  have y1 : (y (1 : Fin 2)).val < 1024 := (y (1 : Fin 2)).isLt
  refine Eq.trans ?_ (congrArg G (?_ : ix2 (⟨t.val * 512 + (y (0 : Fin 2)).val, by omega⟩ : Fin 65536) (⟨(y (1 : Fin 2)).val, y1⟩ : Fin 1024) = _))
  · have h := hl t
    generalize (outsAt0 m c t).2.1 = o at h ⊢
    exact h _ _ _ rfl rfl
  · blk_ext [blocks_at t]
    all_goals omega

def arr8 (m : (ℓ : Loc nD τ sig) → Buf (Elt Ideal) ℓ) (c : Dev nD) : SH.Idx → EReal := fun i => lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (colQ (i 1)) * scale

theorem arr8_at : (dats m 0 c).arrAt 8 cfg0.N = arr8 m c := by
  refine arr8_of m c _ fun t j R q hR hq => ?_
  obtain rfl : q = j 1 := Fin.ext hq
  exact (congrArg _ (ix2_eta j).symm).trans (elem8 m c t R (j 0) hR (j 1))

theorem arr9_of (G : SH.Idx → EReal)
    (hl : ∀ (t : Fin cfg0.N) (j : S512x1024.Idx) (R : Fin 65536) (q : Fin 1024), R.val = t.val * 512 + (j 0).val → q.val = (j 1).val → (outsAt0 m c t).2.2.1 j = G (ix2 R q)) :
    (dats m 0 c).arrAt 9 cfg0.N = G := by
  refine (dats m 0 c).arrAt_eq_of_covers 9 _ (by decide +kernel) fun t hf y => ?_
  rw [after0_9]
  have ht : t.val < 128 := t.isLt
  have y0 : (y (0 : Fin 2)).val < 512 := (y (0 : Fin 2)).isLt
  have y1 : (y (1 : Fin 2)).val < 1024 := (y (1 : Fin 2)).isLt
  refine Eq.trans ?_ (congrArg G (?_ : ix2 (⟨t.val * 512 + (y (0 : Fin 2)).val, by omega⟩ : Fin 65536) (⟨(y (1 : Fin 2)).val, y1⟩ : Fin 1024) = _))
  · have h := hl t
    generalize (outsAt0 m c t).2.2.1 = o at h ⊢
    exact h _ _ _ rfl rfl
  · blk_ext [blocks_at t]
    all_goals omega

def arr9 (m : (ℓ : Loc nD τ sig) → Buf (Elt Ideal) ℓ) (c : Dev nD) : SH.Idx → EReal := fun i => lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (colK (i 1))

theorem arr9_at : (dats m 0 c).arrAt 9 cfg0.N = arr9 m c := by
  refine arr9_of m c _ fun t j R q hR hq => ?_
  obtain rfl : q = j 1 := Fin.ext hq
  exact (congrArg _ (ix2_eta j).symm).trans (elem9 m c t R (j 0) hR (j 1))

theorem arr10_of (G : SH.Idx → EReal)
    (hl : ∀ (t : Fin cfg0.N) (j : S512x1024.Idx) (R : Fin 65536) (q : Fin 1024), R.val = t.val * 512 + (j 0).val → q.val = (j 1).val → (outsAt0 m c t).2.2.2 j = G (ix2 R q)) :
    (dats m 0 c).arrAt 10 cfg0.N = G := by
  refine (dats m 0 c).arrAt_eq_of_covers 10 _ (by decide +kernel) fun t hf y => ?_
  rw [after0_10]
  have ht : t.val < 128 := t.isLt
  have y0 : (y (0 : Fin 2)).val < 512 := (y (0 : Fin 2)).isLt
  have y1 : (y (1 : Fin 2)).val < 1024 := (y (1 : Fin 2)).isLt
  refine Eq.trans ?_ (congrArg G (?_ : ix2 (⟨t.val * 512 + (y (0 : Fin 2)).val, by omega⟩ : Fin 65536) (⟨(y (1 : Fin 2)).val, y1⟩ : Fin 1024) = _))
  · have h := hl t
    generalize (outsAt0 m c t).2.2.2 = o at h ⊢
    exact h _ _ _ rfl rfl
  · blk_ext [blocks_at t]
    all_goals omega

def arr10 (m : (ℓ : Loc nD τ sig) → Buf (Elt Ideal) ℓ) (c : Dev nD) : SH.Idx → EReal := fun i => lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (colV (i 1))

theorem arr10_at : (dats m 0 c).arrAt 10 cfg0.N = arr10 m c := by
  refine arr10_of m c _ fun t j R q hR hq => ?_
  obtain rfl : q = j 1 := Fin.ext hq
  exact (congrArg _ (ix2_eta j).symm).trans (elem10 m c t R (j 0) hR (j 1))

end Cert.Ffn

end
-- ==== Proof.Ffn.RefAt.lean ====
/- The reference of the feed-forward and the projections, read at an index. -/
module

public import proofs.«01_k».proof.Proof.Norm.Ref
public import proofs.«01_k».proof.Proof.Ffn.Spec
public import proofs.«01_k».proof.Proof.Gen.Reference5Ideal.Run

@[expose] public section

set_option maxRecDepth 16384

noncomputable section

namespace Cert.Ffn

open Idealize.ShloMosaic Idealize.ShloMosaic.TcCoe Idealize.ShloMosaic.Tactic Cert.Reference5Ideal Cert.Reference5Ideal.Gen Cert.Reference5Ideal.Value Cert.Norm Cert.Moe

/-- All rows against one of the first two weights. -/
def up (h : FVec Ideal S65536x1024 .f32) (w : FVec Ideal S1x1024x2816 .f32) : FVec Ideal S65536x2816 .f32 :=
  Host.dotGeneral dot_S65536x1024_S1024x2816_S65536x2816_1_0_0_1_n_n none (truncf .bf16 h bitsLt_bf16_f32)
    (truncf .bf16 (shapeCast _ w shapeCasts_S1x1024x2816_S1024x2816) bitsLt_bf16_f32)

theorem up_at (h : FVec Ideal S65536x1024 .f32) (w : FVec Ideal S1x1024x2816 .f32) (r : Fin 65536) (f : Fin 2816) :
    up h w (ix2 r f) = ∑ k : Fin 1024, h (ix2 r k) * w (ix3 (0 : Fin 1) k f) := by
  pointwise [up]

/-- The gated unit of all rows. -/
def gated (g u : FVec Ideal S65536x2816 .f32) : FVec Ideal S65536x2816 .f32 :=
  mulf (mulf g (Host.divf (broadcastInDim S65536x2816 ![] bcast_S_S65536x2816 (constant S_ .f32 0x3F800000#32))
    (addf (broadcastInDim S65536x2816 ![] bcast_S_S65536x2816 (constant S_ .f32 0x3F800000#32)) (Host.exp (Host.negf g))))) u

theorem gated_at (g u : FVec Ideal S65536x2816 .f32) (j : S65536x2816.Idx) : gated g u j = swi (g j) (u j) := by
  pointwise [gated]
  rfl

/-- All rows' activations against the last weight. -/
def down (a : FVec Ideal S65536x2816 .f32) (w : FVec Ideal S1x2816x1024 .f32) : FVec Ideal S65536x1024 .f32 :=
  Host.dotGeneral dot_S65536x2816_S2816x1024_S65536x1024_1_0_0_1_n_n none (truncf .bf16 a bitsLt_bf16_f32)
    (truncf .bf16 (shapeCast _ w shapeCasts_S1x2816x1024_S2816x1024) bitsLt_bf16_f32)

theorem down_at (a : FVec Ideal S65536x2816 .f32) (w : FVec Ideal S1x2816x1024 .f32) (r : Fin 65536) (q : Fin 1024) :
    down a w (ix2 r q) = ∑ f : Fin 2816, a (ix2 r f) * w (ix3 (0 : Fin 1) f q) := by
  pointwise [down]

/-- All rows' layer output. -/
def hidAll (h : FVec Ideal S65536x1024 .f32) (wg wu : FVec Ideal S1x1024x2816 .f32) (wd : FVec Ideal S1x2816x1024 .f32) (g b : FVec Ideal S1x1024 .f32) : FVec Ideal S65536x1024 .f32 :=
  normAll (resAll h (down (gated (up h wg) (up h wu)) wd)) (vec g) (vec b)

theorem hidAll_at (h : FVec Ideal S65536x1024 .f32) (wg wu : FVec Ideal S1x1024x2816 .f32) (wd : FVec Ideal S1x2816x1024 .f32) (g b : FVec Ideal S1x1024 .f32) (r : Fin 65536) (q : Fin 1024) :
    hidAll h wg wu wd g b (ix2 r q) = hid h wg wu wd g b r q := by
  unfold hidAll hid
  rw [normAll_at, vec_at, vec_at]
  congr 1
  funext k
  rw [resAll_at, down_at]
  simp only [gated_at, up_at]
  rfl

/-- All rows' projections, as three parts. -/
def linAll (o : FVec Ideal S65536x1024 .f32) (w : FVec Ideal S1x1024x3072 .f32) : FVec Ideal S65536x3x1024 .f32 :=
  shapeCast _ (Host.dotGeneral dot_S65536x1024_S1024x3072_S65536x3072_1_0_0_1_n_n none (truncf .bf16 o bitsLt_bf16_f32)
    (truncf .bf16 (shapeCast _ w shapeCasts_S1x1024x3072_S1024x3072) bitsLt_bf16_f32) : FVec Ideal S65536x3072 .f32) shapeCasts_S65536x3072_S65536x3x1024

/-- The three parts. -/
def partQ (o : FVec Ideal S65536x1024 .f32) (w : FVec Ideal S1x1024x3072 .f32) : FVec Ideal S65536x1024 .bf16 :=
  truncf .bf16 (mulf (shapeCast _ (extractStridedSlice S65536x1x1024 ![0, 0, 0] (linAll o w) slices_S65536x3x1024_S65536x1x1024_0_0_0) shapeCasts_S65536x1x1024_S65536x1024 : FVec Ideal S65536x1024 .f32)
    (broadcastInDim S65536x1024 ![] bcast_S_S65536x1024 (constant S_ .f32 0x3E000000#32))) bitsLt_bf16_f32
def partK (o : FVec Ideal S65536x1024 .f32) (w : FVec Ideal S1x1024x3072 .f32) : FVec Ideal S65536x1024 .bf16 :=
  truncf .bf16 (shapeCast _ (extractStridedSlice S65536x1x1024 ![0, 1, 0] (linAll o w) slices_S65536x3x1024_S65536x1x1024_0_1_0) shapeCasts_S65536x1x1024_S65536x1024 : FVec Ideal S65536x1024 .f32) bitsLt_bf16_f32
def partV (o : FVec Ideal S65536x1024 .f32) (w : FVec Ideal S1x1024x3072 .f32) : FVec Ideal S65536x1024 .bf16 :=
  truncf .bf16 (shapeCast _ (extractStridedSlice S65536x1x1024 ![0, 2, 0] (linAll o w) slices_S65536x3x1024_S65536x1x1024_0_2_0) shapeCasts_S65536x1x1024_S65536x1024 : FVec Ideal S65536x1024 .f32) bitsLt_bf16_f32

theorem linAll_at (o : FVec Ideal S65536x1024 .f32) (w : FVec Ideal S1x1024x3072 .f32) (r : Fin 65536) (s : Fin 3) (q : Fin 1024) :
    linAll o w (ix3 r s q) = ∑ k : Fin 1024, o (ix2 r k) * w (ix3 (0 : Fin 1) k (⟨s.val * 1024 + q.val, by omega⟩ : Fin 3072)) := by
  pointwise [linAll]

theorem partQ_at (o : FVec Ideal S65536x1024 .f32) (w : FVec Ideal S1x1024x3072 .f32) (r : Fin 65536) (q : Fin 1024) :
    partQ o w (ix2 r q) = (∑ k : Fin 1024, o (ix2 r k) * w (ix3 (0 : Fin 1) k (colQ q))) * scale := by
  have h := linAll_at o w r 0 q
  pointwise [partQ, h]
  rfl
theorem partK_at (o : FVec Ideal S65536x1024 .f32) (w : FVec Ideal S1x1024x3072 .f32) (r : Fin 65536) (q : Fin 1024) :
    partK o w (ix2 r q) = ∑ k : Fin 1024, o (ix2 r k) * w (ix3 (0 : Fin 1) k (colK q)) := by
  have h := linAll_at o w r 1 q
  pointwise [partK, h]
  rfl
theorem partV_at (o : FVec Ideal S65536x1024 .f32) (w : FVec Ideal S1x1024x3072 .f32) (r : Fin 65536) (q : Fin 1024) :
    partV o w (ix2 r q) = ∑ k : Fin 1024, o (ix2 r k) * w (ix3 (0 : Fin 1) k (colV q)) := by
  have h := linAll_at o w r 2 q
  pointwise [partV, h]
  rfl

theorem partQ_hid (h : FVec Ideal S65536x1024 .f32) (wg wu : FVec Ideal S1x1024x2816 .f32) (wd : FVec Ideal S1x2816x1024 .f32) (g b : FVec Ideal S1x1024 .f32) (w : FVec Ideal S1x1024x3072 .f32) (r : Fin 65536) (q : Fin 1024) :
    partQ (hidAll h wg wu wd g b) w (ix2 r q) = lin h wg wu wd g b w r (colQ q) * scale :=
  (partQ_at _ w r q).trans (congrArg (· * scale) (Finset.sum_congr rfl fun k _ => congrArg (· * w (ix3 (0 : Fin 1) k (colQ q))) (hidAll_at h wg wu wd g b r k)))

theorem partK_hid (h : FVec Ideal S65536x1024 .f32) (wg wu : FVec Ideal S1x1024x2816 .f32) (wd : FVec Ideal S1x2816x1024 .f32) (g b : FVec Ideal S1x1024 .f32) (w : FVec Ideal S1x1024x3072 .f32) (r : Fin 65536) (q : Fin 1024) :
    partK (hidAll h wg wu wd g b) w (ix2 r q) = lin h wg wu wd g b w r (colK q) :=
  (partK_at _ w r q).trans ((Finset.sum_congr rfl fun k _ => congrArg (· * w (ix3 (0 : Fin 1) k (colK q))) (hidAll_at h wg wu wd g b r k)))

theorem partV_hid (h : FVec Ideal S65536x1024 .f32) (wg wu : FVec Ideal S1x1024x2816 .f32) (wd : FVec Ideal S1x2816x1024 .f32) (g b : FVec Ideal S1x1024 .f32) (w : FVec Ideal S1x1024x3072 .f32) (r : Fin 65536) (q : Fin 1024) :
    partV (hidAll h wg wu wd g b) w (ix2 r q) = lin h wg wu wd g b w r (colV q) :=
  (partV_at _ w r q).trans ((Finset.sum_congr rfl fun k _ => congrArg (· * w (ix3 (0 : Fin 1) k (colV q))) (hidAll_at h wg wu wd g b r k)))

variable (m : (ℓ : Loc nD τ sig) → Buf (Elt Ideal) ℓ) (c : Dev nD)

/-- The layer's output of the reference's arguments. -/
abbrev hidOf : FVec Ideal S65536x1024 .f32 :=
  hidAll (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem res0_eq : (res_out0 m c : FVec Ideal S65536x1024 .f32) = hidOf m c := rfl
theorem res1_eq : (res_out1 m c : FVec Ideal S65536x1024 .bf16) = partQ (hidOf m c) (m ((c.tc : Thread nD τ).loc main_arg6)) := by sl_kernel_rfl
theorem res2_eq : (res_out2 m c : FVec Ideal S65536x1024 .bf16) = partK (hidOf m c) (m ((c.tc : Thread nD τ).loc main_arg6)) := by sl_kernel_rfl
theorem res3_eq : (res_out3 m c : FVec Ideal S65536x1024 .bf16) = partV (hidOf m c) (m ((c.tc : Thread nD τ).loc main_arg6)) := by sl_kernel_rfl

end Cert.Ffn

end
-- ==== Proof.Ffn.Claim.lean ====
/- The claims about the feed-forward's kernel. -/
module

public import proofs.«01_k».proof.Defs
public import proofs.«01_k».proof.Proof.Ffn.Final
public import proofs.«01_k».proof.Proof.Ffn.RefAt
public import Idealize.ShloMosaic.Adequacy
public import Idealize.ShloMosaic.Init

@[expose] public section

noncomputable section

namespace Cert.Ffn

open Idealize.ShloMosaic Idealize.ShloMosaic.TcCoe Idealize.SL.Sem

theorem reference_frame : Cert.quiescent_Reference5Ideal := by
  intro m g _
  exact (θ_run _ _ _).mono (fun r h => ⟨fun c => (h c).2.2.2.2, sem_eq_zero_of_no_sems (by decide) r.2⟩) (Cert.Reference5Ideal.Value.run m g)

section Args
variable (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (a0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (a1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (a2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (a3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (a4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (a5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5))
    (a6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6))
include a0 a1 a2 a3 a4 a5 a6

theorem res0_at : (Cert.Reference5Ideal.Value.res_out0 m' c : SH.Idx → EReal) = arr7 m c := by
  funext i
  refine (congrFun (res0_eq m' c) i).trans ((congrArg _ (ix2_eta i).symm).trans ((hidAll_at _ _ _ _ _ _ (i 0) (i 1)).trans ?_))
  rw [a0, a1, a2, a3, a4, a5]
  rfl

theorem res1_at : (Cert.Reference5Ideal.Value.res_out1 m' c : SH.Idx → EReal) = arr8 m c := by
  funext i
  refine (congrFun (res1_eq m' c) i).trans ((congrArg _ (ix2_eta i).symm).trans ((partQ_hid _ _ _ _ _ _ _ (i 0) (i 1)).trans ?_))
  rw [a0, a1, a2, a3, a4, a5, a6]
  rfl

theorem res2_at : (Cert.Reference5Ideal.Value.res_out2 m' c : SH.Idx → EReal) = arr9 m c := by
  funext i
  refine (congrFun (res2_eq m' c) i).trans ((congrArg _ (ix2_eta i).symm).trans ((partK_hid _ _ _ _ _ _ _ (i 0) (i 1)).trans ?_))
  rw [a0, a1, a2, a3, a4, a5, a6]
  rfl

theorem res3_at : (Cert.Reference5Ideal.Value.res_out3 m' c : SH.Idx → EReal) = arr10 m c := by
  funext i
  refine (congrFun (res3_eq m' c) i).trans ((congrArg _ (ix2_eta i).symm).trans ((partV_hid _ _ _ _ _ _ _ (i 0) (i 1)).trans ?_))
  rw [a0, a1, a2, a3, a4, a5, a6]
  rfl
end Args

theorem algebraic : Cert.algebraic_Kernel5Ideal_Reference5Ideal := by
  intro m g m' g' _ ha
  refine ⟨fun c => (Cert.Kernel5Ideal.Gen.dats m 0 c).arrAt 7 Cert.Kernel5Ideal.cfg0.N, fun c => (Cert.Kernel5Ideal.Gen.dats m 0 c).arrAt 8 Cert.Kernel5Ideal.cfg0.N,
    fun c => (Cert.Kernel5Ideal.Gen.dats m 0 c).arrAt 9 Cert.Kernel5Ideal.cfg0.N, fun c => (Cert.Kernel5Ideal.Gen.dats m 0 c).arrAt 10 Cert.Kernel5Ideal.cfg0.N, ?_, ?_⟩
  · refine (θ_run _ _ _).mono (fun r h c => ?_) (θ_run_and (Cert.Kernel5Ideal.Gen.run_main m g) (Cert.Kernel5Ideal.Gen.unchanged m g))
    exact ⟨(h.1 c).1 7, (h.1 c).1 8, (h.1 c).1 9, (h.1 c).1 10, h.2 c⟩
  · refine (θ_run _ _ _).mono (fun r h c => ?_) (Cert.Reference5Ideal.Value.run m' g')
    obtain ⟨a0, a1, a2, a3, a4, a5, a6⟩ := ha c
    refine ⟨(h c).1.trans ?_, (h c).2.1.trans ?_, (h c).2.2.1.trans ?_, (h c).2.2.2.1.trans ?_, (h c).2.2.2.2⟩
    · exact (res0_at m m' c a0 a1 a2 a3 a4 a5 a6).trans (arr7_at m c).symm
    · exact (res1_at m m' c a0 a1 a2 a3 a4 a5 a6).trans (arr8_at m c).symm
    · exact (res2_at m m' c a0 a1 a2 a3 a4 a5 a6).trans (arr9_at m c).symm
    · exact (res3_at m m' c a0 a1 a2 a3 a4 a5 a6).trans (arr10_at m c).symm

end Cert.Ffn

end
-- ==== Proof.Inproj.Spec.lean ====
/- The first norm and the input projection of the mixer, entry by entry. -/
module

public import proofs.«01_k».proof.Proof.Norm.Spec

@[expose] public section

set_option maxRecDepth 16384

noncomputable section

namespace Cert.Inproj

open Idealize.ShloMosaic Cert.Norm

abbrev SH : Shape := ⟨2, ![65536, 1024]⟩
abbrev SV : Shape := ⟨1, ![1024]⟩
abbrev SW : Shape := ⟨3, ![1, 1024, 6208]⟩

/-- A row's norm. -/
def norm (x : SH.Idx → EReal) (g b : SV.Idx → EReal) (r : Fin 65536) (q : Fin 1024) : EReal :=
  ln (fun k => x (ix2 r k)) (g (ix1 q)) (b (ix1 q)) q

/-- The norm's projection to column `p` of all that the weight gives. -/
def lin (x : SH.Idx → EReal) (g b : SV.Idx → EReal) (w : SW.Idx → EReal) (r : Fin 65536) (p : Fin 6208) : EReal :=
  ∑ k : Fin 1024, norm x g b r k * w (ix3 (0 : Fin 1) k p)

/-- The columns of the gate, of the state's input, and of the second mixer's input. -/
def colZ (q : Fin 2048) : Fin 6208 := ⟨q.val, by omega⟩
def colX (q : Fin 3072) : Fin 6208 := ⟨2048 + q.val, by omega⟩
def colU (q : Fin 1024) : Fin 6208 := ⟨5184 + q.val, by omega⟩

/-- The step sizes, in 64 of 128 lanes, zeros in the others. -/
def step (x : SH.Idx → EReal) (g b : SV.Idx → EReal) (w : SW.Idx → EReal) (r : Fin 65536) (q : Fin 128) : EReal :=
  if h : q.val < 64 then lin x g b w r (⟨5120 + q.val, by omega⟩ : Fin 6208) else 0

end Cert.Inproj

end
-- ==== Proof.Inproj.Value.lean ====
/- What the input projection's kernel leaves at one grid point, as the blocks' arithmetic. -/
module

public import proofs.«01_k».proof.Proof.Combine.Value
public import proofs.«01_k».proof.Proof.Inproj.Spec
public import proofs.«01_k».proof.Proof.Gen.Kernel6Ideal.Frame
public import Idealize.ShloMosaic.Lib.Pipeline.ValueKit

@[expose] public section

set_option maxRecDepth 16384

noncomputable section

namespace Cert.Inproj

open Idealize.ShloMosaic Idealize.ShloMosaic.TcCoe Idealize.ShloMosaic.Tactic Cert.Kernel6Ideal Cert.Kernel6Ideal.Gen Cert.Norm

/-- The block's norm. -/
def normBlk (x0 : FVec Ideal S512x1024 .f32) (x1 x2 : FVec Ideal S1x1024 .f32) : FVec Ideal S512x1024 .f32 := k0_pay1 (F := Ideal) x0 x1 x2
/-- The same, cast. -/
def normB (x0 : FVec Ideal S512x1024 .f32) (x1 x2 : FVec Ideal S1x1024 .f32) : FVec Ideal S512x1024 .bf16 := k0_pay2 (F := Ideal) x0 x1 x2

theorem normBlk_eq (x0 : FVec Ideal S512x1024 .f32) (x1 x2 : FVec Ideal S1x1024 .f32) :
    normBlk x0 x1 x2 = Cert.Kernel3Ideal.Gen.k0_pay1 (F := Ideal) x0 (Cert.Kernel3Ideal.Gen.k0_pay3 x1) (Cert.Kernel3Ideal.Gen.k0_pay4 x2) := by
  sl_kernel_rfl

theorem normBlk_at (x0 : FVec Ideal S512x1024 .f32) (x1 x2 : FVec Ideal S1x1024 .f32) (r : Fin 512) (q : Fin 1024) :
    normBlk x0 x1 x2 (ix2 r q) = ln (fun k => x0 (ix2 r k)) (x1 (ix2 (0 : Fin 1) q)) (x2 (ix2 (0 : Fin 1) q)) q := by
  refine (congrFun (normBlk_eq x0 x1 x2) _).trans ((Cert.Combine.pay1_at _ _ _ r q).trans (congrArg₂ (fun u v => ln _ u v q) ?_ ?_))
  · exact Cert.Combine.pay3_at _ q
  · exact Cert.Combine.pay4_at _ q

/-- The rows against 512 columns of a weight, cast or not. -/
def proj (o : FVec Ideal S512x1024 .bf16) (w : FVec Ideal S1024x512 .bf16) : FVec Ideal S512x512 .bf16 := k0_pay5 (F := Ideal) o w
def projU (o : FVec Ideal S512x1024 .bf16) (w : FVec Ideal S1024x512 .bf16) : FVec Ideal S512x512 .f32 := k0_pay14 (F := Ideal) o w

theorem proj_at (o : FVec Ideal S512x1024 .bf16) (w : FVec Ideal S1024x512 .bf16) (r q : Fin 512) :
    proj o w (ix2 r q) = ∑ k : Fin 1024, o (ix2 r k) * w (ix2 k q) := by
  pointwise [proj, k0_pay5]
theorem projU_at (o : FVec Ideal S512x1024 .bf16) (w : FVec Ideal S1024x512 .bf16) (r q : Fin 512) :
    projU o w (ix2 r q) = ∑ k : Fin 1024, o (ix2 r k) * w (ix2 k q) := by
  pointwise [projU, k0_pay14]
theorem projT_at (o : FVec Ideal S512x1024 .bf16) (w : FVec Ideal S1024x128 .bf16) (r : Fin 512) (q : Fin 128) :
    k0_pay13 (F := Ideal) o w (ix2 r q) = ∑ k : Fin 1024, o (ix2 r k) * w (ix2 k q) := by
  pointwise [k0_pay13]

theorem row_ld (x : Vec Ideal S512x1024 .f32) : View.ld x r0_0 = x := View.ld_unit_lit (S := S512x1024) inb_S512x1024_S512x1024_0_0 x (by decide)
theorem vec_ld (x : Vec Ideal S1x1024 .f32) : View.ld x r0_1 = x := View.ld_unit_lit (S := S1x1024) inb_S1x1024_S1x1024_0_0 x (by decide)
theorem step_ld (x : Vec Ideal S1024x128 .bf16) : View.ld x r0_22 = x := View.ld_unit_lit (S := S1024x128) inb_S1024x128_S1024x128_0_0 x (by decide)

theorem inZ_inb : ∀ (n : Fin 4) (a : Fin 2), (![0, n.val * 512] : Fin 2 → ℕ) a + S1024x512.size a ≤ S1024x2048.size a := by decide +kernel
theorem outZ_inb : ∀ (n : Fin 4) (a : Fin 2), (![0, n.val * 512] : Fin 2 → ℕ) a + S512x512.size a ≤ S512x2048.size a := by decide +kernel

/-- Chunk `n` of the weight of 2048 columns. -/
def colsZ (x : Vec Ideal S1024x2048 .bf16) (n : Fin 4) : FVec Ideal S1024x512 .bf16 :=
  View.ld x (Rect.unit (s := S1024x2048) ![0, n.val * 512] S1024x512.size (inZ_inb n))

theorem colsZ_at (x : Vec Ideal S1024x2048 .bf16) (n : Fin 4) (k : Fin 1024) (q : Fin 512) :
    colsZ x n (ix2 k q) = x (ix2 k (⟨n.val * 512 + q.val, by omega⟩ : Fin 2048)) := by
  refine View.ld_unit_apply_of x _ _ (inZ_inb n) _ _ fun a => ?_
  fin_cases a
  · exact (Nat.zero_add _).symm
  · rfl

/-- The pieces of the output of 2048 columns. -/
def piecesZ (o : FVec Ideal S512x1024 .bf16) (x : Vec Ideal S1024x2048 .bf16) : List (View.Piece (Elt Ideal) S512x2048 .bf16) :=
  List.ofFn fun n : Fin 4 => (⟨Rect.unit (s := S512x2048) ![0, n.rev.val * 512] S512x512.size (outZ_inb n.rev), proj o (colsZ x n.rev)⟩ : View.Piece (Elt Ideal) S512x2048 .bf16)

theorem canonZ (o : FVec Ideal S512x1024 .bf16) (w : Vec Ideal S1024x2048 .bf16) (r : Fin 512) (q : Fin 2048) :
    View.canon (piecesZ o w) (ix2 r q) = ∑ k : Fin 1024, o (ix2 r k) * w (ix2 k q) := by
  have hn : q.val / 512 < 4 := by omega
  refine View.canon_ofFn_unit_eq_of_forall (S := S512x2048) (fun k : Fin 4 => ![0, k.rev.val * 512]) S512x512.size (fun k => outZ_inb k.rev) _ _ _ ⟨(⟨q.val / 512, hn⟩ : Fin 4).rev, ?_⟩ ?_
  · intro a
    rw [Fin.rev_rev]
    fin_cases a
    · exact ⟨Nat.zero_le _, by show r.val < 0 + 512; omega⟩
    · exact ⟨by show q.val / 512 * 512 ≤ q.val; omega, by show q.val < q.val / 512 * 512 + 512; omega⟩
  · intro k x hx
    have e0 : r.val = 0 + (x (0 : Fin 2)).val := hx 0
    have e1 : q.val = k.rev.val * 512 + (x (1 : Fin 2)).val := hx 1
    refine (congrArg _ (ix2_eta x).symm).trans ((proj_at _ _ (x 0) (x 1)).trans ?_)
    have er : (x 0 : Fin 512) = r := Fin.ext (by show (x (0 : Fin 2)).val = r.val; omega)
    have eq : (⟨k.rev.val * 512 + (x (1 : Fin 2)).val, by omega⟩ : Fin 2048) = q := Fin.ext e1.symm
    rw [er, ← eq]
    exact Finset.sum_congr rfl fun j _ => congrArg (o (ix2 r j) * ·) (colsZ_at w k.rev j (x 1))

theorem inX_inb : ∀ (n : Fin 6) (a : Fin 2), (![0, n.val * 512] : Fin 2 → ℕ) a + S1024x512.size a ≤ S1024x3072.size a := by decide +kernel
theorem outX_inb : ∀ (n : Fin 6) (a : Fin 2), (![0, n.val * 512] : Fin 2 → ℕ) a + S512x512.size a ≤ S512x3072.size a := by decide +kernel

/-- Chunk `n` of the weight of 3072 columns. -/
def colsX (x : Vec Ideal S1024x3072 .bf16) (n : Fin 6) : FVec Ideal S1024x512 .bf16 :=
  View.ld x (Rect.unit (s := S1024x3072) ![0, n.val * 512] S1024x512.size (inX_inb n))

theorem colsX_at (x : Vec Ideal S1024x3072 .bf16) (n : Fin 6) (k : Fin 1024) (q : Fin 512) :
    colsX x n (ix2 k q) = x (ix2 k (⟨n.val * 512 + q.val, by omega⟩ : Fin 3072)) := by
  refine View.ld_unit_apply_of x _ _ (inX_inb n) _ _ fun a => ?_
  fin_cases a
  · exact (Nat.zero_add _).symm
  · rfl

/-- The pieces of the output of 3072 columns. -/
def piecesX (o : FVec Ideal S512x1024 .bf16) (x : Vec Ideal S1024x3072 .bf16) : List (View.Piece (Elt Ideal) S512x3072 .bf16) :=
  List.ofFn fun n : Fin 6 => (⟨Rect.unit (s := S512x3072) ![0, n.rev.val * 512] S512x512.size (outX_inb n.rev), proj o (colsX x n.rev)⟩ : View.Piece (Elt Ideal) S512x3072 .bf16)

theorem canonX (o : FVec Ideal S512x1024 .bf16) (w : Vec Ideal S1024x3072 .bf16) (r : Fin 512) (q : Fin 3072) :
    View.canon (piecesX o w) (ix2 r q) = ∑ k : Fin 1024, o (ix2 r k) * w (ix2 k q) := by
  have hn : q.val / 512 < 6 := by omega
  refine View.canon_ofFn_unit_eq_of_forall (S := S512x3072) (fun k : Fin 6 => ![0, k.rev.val * 512]) S512x512.size (fun k => outX_inb k.rev) _ _ _ ⟨(⟨q.val / 512, hn⟩ : Fin 6).rev, ?_⟩ ?_
  · intro a
    rw [Fin.rev_rev]
    fin_cases a
    · exact ⟨Nat.zero_le _, by show r.val < 0 + 512; omega⟩
    · exact ⟨by show q.val / 512 * 512 ≤ q.val; omega, by show q.val < q.val / 512 * 512 + 512; omega⟩
  · intro k x hx
    have e0 : r.val = 0 + (x (0 : Fin 2)).val := hx 0
    have e1 : q.val = k.rev.val * 512 + (x (1 : Fin 2)).val := hx 1
    refine (congrArg _ (ix2_eta x).symm).trans ((proj_at _ _ (x 0) (x 1)).trans ?_)
    have er : (x 0 : Fin 512) = r := Fin.ext (by show (x (0 : Fin 2)).val = r.val; omega)
    have eq : (⟨k.rev.val * 512 + (x (1 : Fin 2)).val, by omega⟩ : Fin 3072) = q := Fin.ext e1.symm
    rw [er, ← eq]
    exact Finset.sum_congr rfl fun j _ => congrArg (o (ix2 r j) * ·) (colsX_at w k.rev j (x 1))

theorem inU_inb : ∀ (n : Fin 2) (a : Fin 2), (![0, n.val * 512] : Fin 2 → ℕ) a + S1024x512.size a ≤ S1024x1024.size a := by decide +kernel
theorem outU_inb : ∀ (n : Fin 2) (a : Fin 2), (![0, n.val * 512] : Fin 2 → ℕ) a + S512x512.size a ≤ S512x1024.size a := by decide +kernel

/-- Chunk `n` of the weight of 1024 columns. -/
def colsU (x : Vec Ideal S1024x1024 .bf16) (n : Fin 2) : FVec Ideal S1024x512 .bf16 :=
  View.ld x (Rect.unit (s := S1024x1024) ![0, n.val * 512] S1024x512.size (inU_inb n))

theorem colsU_at (x : Vec Ideal S1024x1024 .bf16) (n : Fin 2) (k : Fin 1024) (q : Fin 512) :
    colsU x n (ix2 k q) = x (ix2 k (⟨n.val * 512 + q.val, by omega⟩ : Fin 1024)) := by
  refine View.ld_unit_apply_of x _ _ (inU_inb n) _ _ fun a => ?_
  fin_cases a
  · exact (Nat.zero_add _).symm
  · rfl

/-- The pieces of the output of 1024 columns. -/
def piecesU (o : FVec Ideal S512x1024 .bf16) (x : Vec Ideal S1024x1024 .bf16) : List (View.Piece (Elt Ideal) S512x1024 .f32) :=
  List.ofFn fun n : Fin 2 => (⟨Rect.unit (s := S512x1024) ![0, n.rev.val * 512] S512x512.size (outU_inb n.rev), projU o (colsU x n.rev)⟩ : View.Piece (Elt Ideal) S512x1024 .f32)

theorem canonU (o : FVec Ideal S512x1024 .bf16) (w : Vec Ideal S1024x1024 .bf16) (r : Fin 512) (q : Fin 1024) :
    View.canon (piecesU o w) (ix2 r q) = ∑ k : Fin 1024, o (ix2 r k) * w (ix2 k q) := by
  have hn : q.val / 512 < 2 := by omega
  refine View.canon_ofFn_unit_eq_of_forall (S := S512x1024) (fun k : Fin 2 => ![0, k.rev.val * 512]) S512x512.size (fun k => outU_inb k.rev) _ _ _ ⟨(⟨q.val / 512, hn⟩ : Fin 2).rev, ?_⟩ ?_
  · intro a
    rw [Fin.rev_rev]
    fin_cases a
    · exact ⟨Nat.zero_le _, by show r.val < 0 + 512; omega⟩
    · exact ⟨by show q.val / 512 * 512 ≤ q.val; omega, by show q.val < q.val / 512 * 512 + 512; omega⟩
  · intro k x hx
    have e0 : r.val = 0 + (x (0 : Fin 2)).val := hx 0
    have e1 : q.val = k.rev.val * 512 + (x (1 : Fin 2)).val := hx 1
    refine (congrArg _ (ix2_eta x).symm).trans ((projU_at _ _ (x 0) (x 1)).trans ?_)
    have er : (x 0 : Fin 512) = r := Fin.ext (by show (x (0 : Fin 2)).val = r.val; omega)
    have eq : (⟨k.rev.val * 512 + (x (1 : Fin 2)).val, by omega⟩ : Fin 1024) = q := Fin.ext e1.symm
    rw [er, ← eq]
    exact Finset.sum_congr rfl fun j _ => congrArg (o (ix2 r j) * ·) (colsU_at w k.rev j (x 1))

section Outs
variable (x0 : Vec Ideal S512x1024 .f32) (x1 x2 : Vec Ideal S1x1024 .f32) (x3 : Vec Ideal S1024x2048 .bf16) (x4 : Vec Ideal S1024x3072 .bf16) (x5 : Vec Ideal S1024x128 .bf16) (x6 : Vec Ideal S1024x1024 .bf16)

theorem out7_eq : out0_7 (F := Ideal) x0 x1 x2 x3 x4 x5 x6 = normBlk x0 x1 x2 := by
  unfold out0_7
  refine (View.canon_cons_unit_lit (S := S512x1024) inb_S512x1024_S512x1024_0_0 _ _ (by decide)).trans ?_
  rw [row_ld, vec_ld, vec_ld]
  rfl
theorem out10_eq : out0_10 (F := Ideal) x0 x1 x2 x3 x4 x5 x6 = k0_pay13 (F := Ideal) (normB x0 x1 x2) x5 := by
  unfold out0_10 k0_pay16
  refine (View.canon_cons_unit_lit (S := S512x128) inb_S512x128_S512x128_0_0 _ _ (by decide)).trans ?_
  rw [row_ld, vec_ld, vec_ld, step_ld]
  rfl
theorem out8_raw : out0_8 (F := Ideal) x0 x1 x2 x3 x4 x5 x6 = View.canon (piecesZ (normB (View.ld x0 r0_0) (View.ld x1 r0_1) (View.ld x2 r0_1)) x3) := by
  sl_kernel_rfl
theorem out8_eq : out0_8 (F := Ideal) x0 x1 x2 x3 x4 x5 x6 = View.canon (piecesZ (normB x0 x1 x2) x3) := by
  rw [out8_raw, row_ld, vec_ld, vec_ld]
theorem out9_raw : out0_9 (F := Ideal) x0 x1 x2 x3 x4 x5 x6 = View.canon (piecesX (normB (View.ld x0 r0_0) (View.ld x1 r0_1) (View.ld x2 r0_1)) x4) := by
  sl_kernel_rfl
theorem out9_eq : out0_9 (F := Ideal) x0 x1 x2 x3 x4 x5 x6 = View.canon (piecesX (normB x0 x1 x2) x4) := by
  rw [out9_raw, row_ld, vec_ld, vec_ld]
theorem out11_raw : out0_11 (F := Ideal) x0 x1 x2 x3 x4 x5 x6 = View.canon (piecesU (normB (View.ld x0 r0_0) (View.ld x1 r0_1) (View.ld x2 r0_1)) x6) := by
  sl_kernel_rfl
theorem out11_eq : out0_11 (F := Ideal) x0 x1 x2 x3 x4 x5 x6 = View.canon (piecesU (normB x0 x1 x2) x6) := by
  rw [out11_raw, row_ld, vec_ld, vec_ld]
end Outs

end Cert.Inproj

end
-- ==== Proof.Inproj.Final.lean ====
/- The whole arrays the input projection's kernel leaves. -/
module

public import proofs.«01_k».proof.Proof.Inproj.Value
public import Idealize.ShloMosaic.Lib.Claim
public import Idealize.ShloMosaic.Lib.Pipeline.ValueKit
public import Idealize.ShloMosaic.Lib.Pipeline.ArrRel

@[expose] public section

set_option maxRecDepth 16384

noncomputable section

namespace Cert.Inproj

open Idealize.ShloMosaic Idealize.ShloMosaic.TcCoe Idealize.ShloMosaic.Tactic Cert.Kernel6Ideal Cert.Kernel6Ideal.Gen Cert.Norm

theorem blocks_at : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

theorem vec_at (g : FVec Ideal S1024 .f32) (q : Fin 1024) : (shapeCast S1x1024 g shapeCasts_S1024_S1x1024 : FVec Ideal S1x1024 .f32) (ix2 (0 : Fin 1) q) = g (ix1 q) := by
  pointwise

/-- A part of the weight. -/
def cutZ (w : FVec Ideal S1x1024x6208 .f32) : FVec Ideal S1024x2048 .bf16 :=
  truncf .bf16 (extractStridedSlice S1024x2048 ![0, 0] (shapeCast S1024x6208 w shapeCasts_S1x1024x6208_S1024x6208) slices_S1024x6208_S1024x2048_0_0) bitsLt_bf16_f32
theorem cutZ_at (w : FVec Ideal S1x1024x6208 .f32) (k : Fin 1024) (q : Fin 2048) : cutZ w (ix2 k q) = w (ix3 (0 : Fin 1) k (colZ q)) := by
  pointwise [cutZ]
  rfl

/-- A part of the weight. -/
def cutX (w : FVec Ideal S1x1024x6208 .f32) : FVec Ideal S1024x3072 .bf16 :=
  truncf .bf16 (extractStridedSlice S1024x3072 ![0, 2048] (shapeCast S1024x6208 w shapeCasts_S1x1024x6208_S1024x6208) slices_S1024x6208_S1024x3072_0_2048) bitsLt_bf16_f32
theorem cutX_at (w : FVec Ideal S1x1024x6208 .f32) (k : Fin 1024) (q : Fin 3072) : cutX w (ix2 k q) = w (ix3 (0 : Fin 1) k (colX q)) := by
  pointwise [cutX]
  rfl

/-- A part of the weight. -/
def cutU (w : FVec Ideal S1x1024x6208 .f32) : FVec Ideal S1024x1024 .bf16 :=
  truncf .bf16 (extractStridedSlice S1024x1024 ![0, 5184] (shapeCast S1024x6208 w shapeCasts_S1x1024x6208_S1024x6208) slices_S1024x6208_S1024x1024_0_5184) bitsLt_bf16_f32
theorem cutU_at (w : FVec Ideal S1x1024x6208 .f32) (k : Fin 1024) (q : Fin 1024) : cutU w (ix2 k q) = w (ix3 (0 : Fin 1) k (colU q)) := by
  pointwise [cutU]
  rfl

/-- The part of the weight for the step sizes, widened by zeros. -/
def cutT (w : FVec Ideal S1x1024x6208 .f32) : FVec Ideal S1024x128 .bf16 :=
  truncf .bf16 (concatenate S1024x128 1 [⟨S1024x64, extractStridedSlice S1024x64 ![0, 5120] (shapeCast S1024x6208 w shapeCasts_S1x1024x6208_S1024x6208 : FVec Ideal S1024x6208 .f32) slices_S1024x6208_S1024x64_0_5120⟩,
    ⟨S1024x64, (broadcastInDim S1024x64 ![] bcast_S_S1024x64 (constant S_ .f32 0x00000000#32) : FVec Ideal S1024x64 .f32)⟩] concatenates_S1024x64_S1024x64_S1024x128_d1 : FVec Ideal S1024x128 .f32) bitsLt_bf16_f32
theorem cutT_at (w : FVec Ideal S1x1024x6208 .f32) (k : Fin 1024) (q : Fin 128) :
    cutT w (ix2 k q) = if h : q.val < 64 then w (ix3 (0 : Fin 1) k (⟨5120 + q.val, by omega⟩ : Fin 6208)) else 0 := by
  pointwise [cutT]

variable (m : (ℓ : Loc nD τ sig) → Buf (Elt Ideal) ℓ) (c : Dev nD)

theorem V_v1 : V m c main_v1 = (shapeCast S1x1024 (m ((c : Thread nD τ).loc main_arg1)) shapeCasts_S1024_S1x1024 : FVec Ideal S1x1024 .f32) := by
  show StableHlo.after hostOps0 _ (Proc.devRef .tc main_v1) = _
  after_results
  rfl
theorem b1 (t : Fin cfg0.N) (q : Fin 1024) : iblk m c 1 t (ix2 (0 : Fin 1) q) = (m ((c : Thread nD τ).loc main_arg1) : SV.Idx → EReal) (ix1 q) := by
  refine Eq.trans ?_ (vec_at _ q)
  rw [← V_v1 m c]
  blk_ext [iblk, blocks_at t]
  all_goals omega

theorem V_v2 : V m c main_v2 = (shapeCast S1x1024 (m ((c : Thread nD τ).loc main_arg2)) shapeCasts_S1024_S1x1024 : FVec Ideal S1x1024 .f32) := by
  show StableHlo.after hostOps0 _ (Proc.devRef .tc main_v2) = _
  after_results
  rfl
theorem b2 (t : Fin cfg0.N) (q : Fin 1024) : iblk m c 2 t (ix2 (0 : Fin 1) q) = (m ((c : Thread nD τ).loc main_arg2) : SV.Idx → EReal) (ix1 q) := by
  refine Eq.trans ?_ (vec_at _ q)
  rw [← V_v2 m c]
  blk_ext [iblk, blocks_at t]
  all_goals omega

theorem V_v4 : V m c main_v4 = cutZ (m ((c : Thread nD τ).loc main_arg3)) := by
  show StableHlo.after hostOps0 _ (Proc.devRef .tc main_v4) = _
  after_results
  rfl
theorem b3 (t : Fin cfg0.N) (k : Fin 1024) (q : Fin 2048) : iblk m c 3 t (ix2 k q) = cutZ (m ((c : Thread nD τ).loc main_arg3)) (ix2 k q) := by
  rw [← V_v4 m c]
  blk_ext [iblk, blocks_at t]
  all_goals omega

theorem V_v6 : V m c main_v6 = cutX (m ((c : Thread nD τ).loc main_arg3)) := by
  show StableHlo.after hostOps0 _ (Proc.devRef .tc main_v6) = _
  after_results
  rfl
theorem b4 (t : Fin cfg0.N) (k : Fin 1024) (q : Fin 3072) : iblk m c 4 t (ix2 k q) = cutX (m ((c : Thread nD τ).loc main_arg3)) (ix2 k q) := by
  rw [← V_v6 m c]
  blk_ext [iblk, blocks_at t]
  all_goals omega

theorem V_v10 : V m c main_v10 = cutT (m ((c : Thread nD τ).loc main_arg3)) := by
  show StableHlo.after hostOps0 _ (Proc.devRef .tc main_v10) = _
  after_results
  rfl
theorem b5 (t : Fin cfg0.N) (k : Fin 1024) (q : Fin 128) : iblk m c 5 t (ix2 k q) = cutT (m ((c : Thread nD τ).loc main_arg3)) (ix2 k q) := by
  rw [← V_v10 m c]
  blk_ext [iblk, blocks_at t]
  all_goals omega

theorem V_v12 : V m c main_v12 = cutU (m ((c : Thread nD τ).loc main_arg3)) := by
  show StableHlo.after hostOps0 _ (Proc.devRef .tc main_v12) = _
  after_results
  rfl
theorem b6 (t : Fin cfg0.N) (k : Fin 1024) (q : Fin 1024) : iblk m c 6 t (ix2 k q) = cutU (m ((c : Thread nD τ).loc main_arg3)) (ix2 k q) := by
  rw [← V_v12 m c]
  blk_ext [iblk, blocks_at t]
  all_goals omega

section Blocks
variable (t : Fin cfg0.N) (R : Fin 65536) (r : Fin 512) (hR : R.val = t.val * 512 + r.val)
include hR

theorem b0 (k : Fin 1024) : iblk m c 0 t (ix2 r k) = (m ((c : Thread nD τ).loc main_arg0) : SH.Idx → EReal) (ix2 R k) := by
  rw [← V_main_arg0 m c]
  blk_ext [iblk, blocks_at t]
  all_goals omega

/-- One element of the block's norm. -/
theorem norm_elem (q : Fin 1024) : normBlk (iblk m c 0 t) (iblk m c 1 t) (iblk m c 2 t) (ix2 r q) = norm (m ((c : Thread nD τ).loc main_arg0)) (m ((c : Thread nD τ).loc main_arg1)) (m ((c : Thread nD τ).loc main_arg2)) R q := by
  refine (normBlk_at _ _ _ r q).trans ?_
  unfold norm
  exact (congrArg (fun f => ln f _ _ q) (funext fun k => b0 m c t R r hR k)).trans (congrArg₂ (fun u v => ln _ u v q) (b1 m c t q) (b2 m c t q))

theorem normB_elem (q : Fin 1024) : normB (iblk m c 0 t) (iblk m c 1 t) (iblk m c 2 t) (ix2 r q) = norm (m ((c : Thread nD τ).loc main_arg0)) (m ((c : Thread nD τ).loc main_arg1)) (m ((c : Thread nD τ).loc main_arg2)) R q :=
  (show normB (iblk m c 0 t) (iblk m c 1 t) (iblk m c 2 t) (ix2 r q) = normBlk (iblk m c 0 t) (iblk m c 1 t) (iblk m c 2 t) (ix2 r q) from rfl).trans (norm_elem m c t R r hR q)

theorem elem7 (q : Fin 1024) : out0_7 (F := Ideal) (iblk m c 0 t) (iblk m c 1 t) (iblk m c 2 t) (iblk m c 3 t) (iblk m c 4 t) (iblk m c 5 t) (iblk m c 6 t) (ix2 r q) = norm (m ((c : Thread nD τ).loc main_arg0)) (m ((c : Thread nD τ).loc main_arg1)) (m ((c : Thread nD τ).loc main_arg2)) R q :=
  (congrFun (out7_eq _ _ _ _ _ _ _) _).trans (norm_elem m c t R r hR q)
theorem elem8 (q : Fin 2048) : out0_8 (F := Ideal) (iblk m c 0 t) (iblk m c 1 t) (iblk m c 2 t) (iblk m c 3 t) (iblk m c 4 t) (iblk m c 5 t) (iblk m c 6 t) (ix2 r q) = lin (m ((c : Thread nD τ).loc main_arg0)) (m ((c : Thread nD τ).loc main_arg1)) (m ((c : Thread nD τ).loc main_arg2)) (m ((c : Thread nD τ).loc main_arg3)) R (colZ q) :=
  (congrFun (out8_eq _ _ _ _ _ _ _) _).trans ((canonZ _ _ r q).trans (Finset.sum_congr rfl fun k _ =>
    congrArg₂ (· * ·) (normB_elem m c t R r hR k) ((b3 m c t k q).trans (cutZ_at _ k q))))
theorem elem9 (q : Fin 3072) : out0_9 (F := Ideal) (iblk m c 0 t) (iblk m c 1 t) (iblk m c 2 t) (iblk m c 3 t) (iblk m c 4 t) (iblk m c 5 t) (iblk m c 6 t) (ix2 r q) = lin (m ((c : Thread nD τ).loc main_arg0)) (m ((c : Thread nD τ).loc main_arg1)) (m ((c : Thread nD τ).loc main_arg2)) (m ((c : Thread nD τ).loc main_arg3)) R (colX q) :=
  (congrFun (out9_eq _ _ _ _ _ _ _) _).trans ((canonX _ _ r q).trans (Finset.sum_congr rfl fun k _ =>
    congrArg₂ (· * ·) (normB_elem m c t R r hR k) ((b4 m c t k q).trans (cutX_at _ k q))))
theorem elem11 (q : Fin 1024) : out0_11 (F := Ideal) (iblk m c 0 t) (iblk m c 1 t) (iblk m c 2 t) (iblk m c 3 t) (iblk m c 4 t) (iblk m c 5 t) (iblk m c 6 t) (ix2 r q) = lin (m ((c : Thread nD τ).loc main_arg0)) (m ((c : Thread nD τ).loc main_arg1)) (m ((c : Thread nD τ).loc main_arg2)) (m ((c : Thread nD τ).loc main_arg3)) R (colU q) :=
  (congrFun (out11_eq _ _ _ _ _ _ _) _).trans ((canonU _ _ r q).trans (Finset.sum_congr rfl fun k _ =>
    congrArg₂ (· * ·) (normB_elem m c t R r hR k) ((b6 m c t k q).trans (cutU_at _ k q))))
theorem elem10 (q : Fin 128) : out0_10 (F := Ideal) (iblk m c 0 t) (iblk m c 1 t) (iblk m c 2 t) (iblk m c 3 t) (iblk m c 4 t) (iblk m c 5 t) (iblk m c 6 t) (ix2 r q) = step (m ((c : Thread nD τ).loc main_arg0)) (m ((c : Thread nD τ).loc main_arg1)) (m ((c : Thread nD τ).loc main_arg2)) (m ((c : Thread nD τ).loc main_arg3)) R q := by
  refine (congrFun (out10_eq _ _ _ _ _ _ _) _).trans ((projT_at _ _ r q).trans ((Finset.sum_congr rfl fun k _ =>
    congrArg₂ (· * ·) (normB_elem m c t R r hR k) ((b5 m c t k q).trans (cutT_at _ k q))).trans ?_))
  unfold step
  split
  · rfl
  · exact Finset.sum_eq_zero fun k _ => mul_zero _
end Blocks

theorem arr7_of (G : (⟨2, ![65536, 1024]⟩ : Shape).Idx → EReal)
    (hl : ∀ (t : Fin cfg0.N) (j : S512x1024.Idx) (R : Fin 65536) (q : Fin 1024), R.val = t.val * 512 + (j 0).val → q.val = (j 1).val → out0_7 (F := Ideal) (iblk m c 0 t) (iblk m c 1 t) (iblk m c 2 t) (iblk m c 3 t) (iblk m c 4 t) (iblk m c 5 t) (iblk m c 6 t) j = G (ix2 R q)) :
    (dats m 0 c).arrAt 7 cfg0.N = G := by
  refine (dats m 0 c).arrAt_eq_of_covers 7 _ (by decide +kernel) fun t hf y => ?_
  rw [after0_7]
  have ht : t.val < 128 := t.isLt
  have y0 : (y (0 : Fin 2)).val < 512 := (y (0 : Fin 2)).isLt
  have y1 : (y (1 : Fin 2)).val < 1024 := (y (1 : Fin 2)).isLt
  refine Eq.trans ?_ (congrArg G (?_ : ix2 (⟨t.val * 512 + (y (0 : Fin 2)).val, by omega⟩ : Fin 65536) (⟨(y (1 : Fin 2)).val, y1⟩ : Fin 1024) = _))
  · have h := hl t
    generalize out0_7 (F := Ideal) (iblk m c 0 t) (iblk m c 1 t) (iblk m c 2 t) (iblk m c 3 t) (iblk m c 4 t) (iblk m c 5 t) (iblk m c 6 t) = o at h ⊢
    exact h _ _ _ rfl rfl
  · blk_ext [blocks_at t]
    all_goals omega

def arr7 (m : (ℓ : Loc nD τ sig) → Buf (Elt Ideal) ℓ) (c : Dev nD) : (⟨2, ![65536, 1024]⟩ : Shape).Idx → EReal := fun i => norm (m ((c : Thread nD τ).loc main_arg0)) (m ((c : Thread nD τ).loc main_arg1)) (m ((c : Thread nD τ).loc main_arg2)) (i 0) (i 1)

theorem arr7_at : (dats m 0 c).arrAt 7 cfg0.N = arr7 m c := by
  refine arr7_of m c _ fun t j R q hR hq => ?_
  obtain rfl : q = j 1 := Fin.ext hq
  exact (congrArg _ (ix2_eta j).symm).trans (elem7 m c t R (j 0) hR (j 1))

theorem arr8_of (G : (⟨2, ![65536, 2048]⟩ : Shape).Idx → EReal)
    (hl : ∀ (t : Fin cfg0.N) (j : S512x2048.Idx) (R : Fin 65536) (q : Fin 2048), R.val = t.val * 512 + (j 0).val → q.val = (j 1).val → out0_8 (F := Ideal) (iblk m c 0 t) (iblk m c 1 t) (iblk m c 2 t) (iblk m c 3 t) (iblk m c 4 t) (iblk m c 5 t) (iblk m c 6 t) j = G (ix2 R q)) :
    (dats m 0 c).arrAt 8 cfg0.N = G := by
  refine (dats m 0 c).arrAt_eq_of_covers 8 _ (by decide +kernel) fun t hf y => ?_
  rw [after0_8]
  have ht : t.val < 128 := t.isLt
  have y0 : (y (0 : Fin 2)).val < 512 := (y (0 : Fin 2)).isLt
  have y1 : (y (1 : Fin 2)).val < 2048 := (y (1 : Fin 2)).isLt
  refine Eq.trans ?_ (congrArg G (?_ : ix2 (⟨t.val * 512 + (y (0 : Fin 2)).val, by omega⟩ : Fin 65536) (⟨(y (1 : Fin 2)).val, y1⟩ : Fin 2048) = _))
  · have h := hl t
    generalize out0_8 (F := Ideal) (iblk m c 0 t) (iblk m c 1 t) (iblk m c 2 t) (iblk m c 3 t) (iblk m c 4 t) (iblk m c 5 t) (iblk m c 6 t) = o at h ⊢
    exact h _ _ _ rfl rfl
  · blk_ext [blocks_at t]
    all_goals omega

def arr8 (m : (ℓ : Loc nD τ sig) → Buf (Elt Ideal) ℓ) (c : Dev nD) : (⟨2, ![65536, 2048]⟩ : Shape).Idx → EReal := fun i => lin (m ((c : Thread nD τ).loc main_arg0)) (m ((c : Thread nD τ).loc main_arg1)) (m ((c : Thread nD τ).loc main_arg2)) (m ((c : Thread nD τ).loc main_arg3)) (i 0) (colZ (i 1))

theorem arr8_at : (dats m 0 c).arrAt 8 cfg0.N = arr8 m c := by
  refine arr8_of m c _ fun t j R q hR hq => ?_
  obtain rfl : q = j 1 := Fin.ext hq
  exact (congrArg _ (ix2_eta j).symm).trans (elem8 m c t R (j 0) hR (j 1))

theorem arr9_of (G : (⟨2, ![65536, 3072]⟩ : Shape).Idx → EReal)
    (hl : ∀ (t : Fin cfg0.N) (j : S512x3072.Idx) (R : Fin 65536) (q : Fin 3072), R.val = t.val * 512 + (j 0).val → q.val = (j 1).val → out0_9 (F := Ideal) (iblk m c 0 t) (iblk m c 1 t) (iblk m c 2 t) (iblk m c 3 t) (iblk m c 4 t) (iblk m c 5 t) (iblk m c 6 t) j = G (ix2 R q)) :
    (dats m 0 c).arrAt 9 cfg0.N = G := by
  refine (dats m 0 c).arrAt_eq_of_covers 9 _ (by decide +kernel) fun t hf y => ?_
  rw [after0_9]
  have ht : t.val < 128 := t.isLt
  have y0 : (y (0 : Fin 2)).val < 512 := (y (0 : Fin 2)).isLt
  have y1 : (y (1 : Fin 2)).val < 3072 := (y (1 : Fin 2)).isLt
  refine Eq.trans ?_ (congrArg G (?_ : ix2 (⟨t.val * 512 + (y (0 : Fin 2)).val, by omega⟩ : Fin 65536) (⟨(y (1 : Fin 2)).val, y1⟩ : Fin 3072) = _))
  · have h := hl t
    generalize out0_9 (F := Ideal) (iblk m c 0 t) (iblk m c 1 t) (iblk m c 2 t) (iblk m c 3 t) (iblk m c 4 t) (iblk m c 5 t) (iblk m c 6 t) = o at h ⊢
    exact h _ _ _ rfl rfl
  · blk_ext [blocks_at t]
    all_goals omega

def arr9 (m : (ℓ : Loc nD τ sig) → Buf (Elt Ideal) ℓ) (c : Dev nD) : (⟨2, ![65536, 3072]⟩ : Shape).Idx → EReal := fun i => lin (m ((c : Thread nD τ).loc main_arg0)) (m ((c : Thread nD τ).loc main_arg1)) (m ((c : Thread nD τ).loc main_arg2)) (m ((c : Thread nD τ).loc main_arg3)) (i 0) (colX (i 1))

theorem arr9_at : (dats m 0 c).arrAt 9 cfg0.N = arr9 m c := by
  refine arr9_of m c _ fun t j R q hR hq => ?_
  obtain rfl : q = j 1 := Fin.ext hq
  exact (congrArg _ (ix2_eta j).symm).trans (elem9 m c t R (j 0) hR (j 1))

theorem arr10_of (G : (⟨2, ![65536, 128]⟩ : Shape).Idx → EReal)
    (hl : ∀ (t : Fin cfg0.N) (j : S512x128.Idx) (R : Fin 65536) (q : Fin 128), R.val = t.val * 512 + (j 0).val → q.val = (j 1).val → out0_10 (F := Ideal) (iblk m c 0 t) (iblk m c 1 t) (iblk m c 2 t) (iblk m c 3 t) (iblk m c 4 t) (iblk m c 5 t) (iblk m c 6 t) j = G (ix2 R q)) :
    (dats m 0 c).arrAt 10 cfg0.N = G := by
  refine (dats m 0 c).arrAt_eq_of_covers 10 _ (by decide +kernel) fun t hf y => ?_
  rw [after0_10]
  have ht : t.val < 128 := t.isLt
  have y0 : (y (0 : Fin 2)).val < 512 := (y (0 : Fin 2)).isLt
  have y1 : (y (1 : Fin 2)).val < 128 := (y (1 : Fin 2)).isLt
  refine Eq.trans ?_ (congrArg G (?_ : ix2 (⟨t.val * 512 + (y (0 : Fin 2)).val, by omega⟩ : Fin 65536) (⟨(y (1 : Fin 2)).val, y1⟩ : Fin 128) = _))
  · have h := hl t
    generalize out0_10 (F := Ideal) (iblk m c 0 t) (iblk m c 1 t) (iblk m c 2 t) (iblk m c 3 t) (iblk m c 4 t) (iblk m c 5 t) (iblk m c 6 t) = o at h ⊢
    exact h _ _ _ rfl rfl
  · blk_ext [blocks_at t]
    all_goals omega

def arr10 (m : (ℓ : Loc nD τ sig) → Buf (Elt Ideal) ℓ) (c : Dev nD) : (⟨2, ![65536, 128]⟩ : Shape).Idx → EReal := fun i => step (m ((c : Thread nD τ).loc main_arg0)) (m ((c : Thread nD τ).loc main_arg1)) (m ((c : Thread nD τ).loc main_arg2)) (m ((c : Thread nD τ).loc main_arg3)) (i 0) (i 1)

theorem arr10_at : (dats m 0 c).arrAt 10 cfg0.N = arr10 m c := by
  refine arr10_of m c _ fun t j R q hR hq => ?_
  obtain rfl : q = j 1 := Fin.ext hq
  exact (congrArg _ (ix2_eta j).symm).trans (elem10 m c t R (j 0) hR (j 1))

theorem arr11_of (G : (⟨2, ![65536, 1024]⟩ : Shape).Idx → EReal)
    (hl : ∀ (t : Fin cfg0.N) (j : S512x1024.Idx) (R : Fin 65536) (q : Fin 1024), R.val = t.val * 512 + (j 0).val → q.val = (j 1).val → out0_11 (F := Ideal) (iblk m c 0 t) (iblk m c 1 t) (iblk m c 2 t) (iblk m c 3 t) (iblk m c 4 t) (iblk m c 5 t) (iblk m c 6 t) j = G (ix2 R q)) :
    (dats m 0 c).arrAt 11 cfg0.N = G := by
  refine (dats m 0 c).arrAt_eq_of_covers 11 _ (by decide +kernel) fun t hf y => ?_
  rw [after0_11]
  have ht : t.val < 128 := t.isLt
  have y0 : (y (0 : Fin 2)).val < 512 := (y (0 : Fin 2)).isLt
  have y1 : (y (1 : Fin 2)).val < 1024 := (y (1 : Fin 2)).isLt
  refine Eq.trans ?_ (congrArg G (?_ : ix2 (⟨t.val * 512 + (y (0 : Fin 2)).val, by omega⟩ : Fin 65536) (⟨(y (1 : Fin 2)).val, y1⟩ : Fin 1024) = _))
  · have h := hl t
    generalize out0_11 (F := Ideal) (iblk m c 0 t) (iblk m c 1 t) (iblk m c 2 t) (iblk m c 3 t) (iblk m c 4 t) (iblk m c 5 t) (iblk m c 6 t) = o at h ⊢
    exact h _ _ _ rfl rfl
  · blk_ext [blocks_at t]
    all_goals omega

def arr11 (m : (ℓ : Loc nD τ sig) → Buf (Elt Ideal) ℓ) (c : Dev nD) : (⟨2, ![65536, 1024]⟩ : Shape).Idx → EReal := fun i => lin (m ((c : Thread nD τ).loc main_arg0)) (m ((c : Thread nD τ).loc main_arg1)) (m ((c : Thread nD τ).loc main_arg2)) (m ((c : Thread nD τ).loc main_arg3)) (i 0) (colU (i 1))

theorem arr11_at : (dats m 0 c).arrAt 11 cfg0.N = arr11 m c := by
  refine arr11_of m c _ fun t j R q hR hq => ?_
  obtain rfl : q = j 1 := Fin.ext hq
  exact (congrArg _ (ix2_eta j).symm).trans (elem11 m c t R (j 0) hR (j 1))

end Cert.Inproj

end
-- ==== Proof.Inproj.RefAt.lean ====
/- The reference of the input projection, read at an index. -/
module

public import proofs.«01_k».proof.Proof.Norm.Ref
public import proofs.«01_k».proof.Proof.Inproj.Spec
public import proofs.«01_k».proof.Proof.Gen.Reference6Ideal.Run

@[expose] public section

set_option maxRecDepth 16384

noncomputable section

namespace Cert.Inproj

open Idealize.ShloMosaic Idealize.ShloMosaic.TcCoe Idealize.ShloMosaic.Tactic Cert.Reference6Ideal Cert.Reference6Ideal.Gen Cert.Reference6Ideal.Value Cert.Norm

/-- All rows against the whole weight. -/
def all (o : FVec Ideal S65536x1024 .f32) (w : FVec Ideal S1x1024x6208 .f32) : FVec Ideal S65536x6208 .f32 :=
  Host.dotGeneral dot_S65536x1024_S1024x6208_S65536x6208_1_0_0_1_n_n none (truncf .bf16 o bitsLt_bf16_f32)
    (truncf .bf16 (shapeCast S1024x6208 w shapeCasts_S1x1024x6208_S1024x6208) bitsLt_bf16_f32)

theorem all_at (o : FVec Ideal S65536x1024 .f32) (w : FVec Ideal S1x1024x6208 .f32) (r : Fin 65536) (p : Fin 6208) :
    all o w (ix2 r p) = ∑ k : Fin 1024, o (ix2 r k) * w (ix3 (0 : Fin 1) k p) := by
  pointwise [all]

/-- The parts of the product. -/
def partZ (a : FVec Ideal S65536x6208 .f32) : FVec Ideal S65536x2048 .bf16 :=
  truncf .bf16 (extractStridedSlice S65536x2048 ![0, 0] a slices_S65536x6208_S65536x2048_0_0) bitsLt_bf16_f32
def partX (a : FVec Ideal S65536x6208 .f32) : FVec Ideal S65536x3072 .bf16 :=
  truncf .bf16 (extractStridedSlice S65536x3072 ![0, 2048] a slices_S65536x6208_S65536x3072_0_2048) bitsLt_bf16_f32
def partT (a : FVec Ideal S65536x6208 .f32) : FVec Ideal S65536x128 .f32 :=
  pad S65536x128 ![0, 0] ![0, 64] ![0, 0] (extractStridedSlice S65536x64 ![0, 5120] a slices_S65536x6208_S65536x64_0_5120)
    (sitofp .f32 (constantI S_ 32 0#32)) pads_S65536x64_S65536x128_000_0640 h_S_
def partU (a : FVec Ideal S65536x6208 .f32) : FVec Ideal S65536x1024 .f32 :=
  extractStridedSlice S65536x1024 ![0, 5184] a slices_S65536x6208_S65536x1024_0_5184

theorem partZ_at (a : FVec Ideal S65536x6208 .f32) (r : Fin 65536) (q : Fin 2048) : partZ a (ix2 r q) = a (ix2 r (colZ q)) := by
  pointwise [partZ]
  rfl
theorem partX_at (a : FVec Ideal S65536x6208 .f32) (r : Fin 65536) (q : Fin 3072) : partX a (ix2 r q) = a (ix2 r (colX q)) := by
  pointwise [partX]
  rfl
theorem partU_at (a : FVec Ideal S65536x6208 .f32) (r : Fin 65536) (q : Fin 1024) : partU a (ix2 r q) = a (ix2 r (colU q)) := by
  pointwise [partU]
  rfl
theorem partT_at (a : FVec Ideal S65536x6208 .f32) (r : Fin 65536) (q : Fin 128) :
    partT a (ix2 r q) = if h : q.val < 64 then a (ix2 r (⟨5120 + q.val, by omega⟩ : Fin 6208)) else 0 := by
  pointwise [partT]
  have h0 : (FloatOps.sitofp (F := Ideal) .f32 (0#32) : EReal) = 0 := by
    show (((0#32 : BitVec 32).toInt : ℝ) : EReal) = 0
    simp
  split
  · rfl
  · exact h0

section Parts
variable (x : FVec Ideal S65536x1024 .f32) (g b : FVec Ideal S1024 .f32) (w : FVec Ideal S1x1024x6208 .f32) (r : Fin 65536)

theorem prod_at (p : Fin 6208) : all (normAll x g b) w (ix2 r p) = lin x g b w r p :=
  (all_at _ w r p).trans (Finset.sum_congr rfl fun k _ => congrArg (· * w (ix3 (0 : Fin 1) k p)) (normAll_at x g b r k))

theorem partZ_lin (q : Fin 2048) : partZ (all (normAll x g b) w) (ix2 r q) = lin x g b w r (colZ q) := (partZ_at _ r q).trans (prod_at x g b w r _)
theorem partX_lin (q : Fin 3072) : partX (all (normAll x g b) w) (ix2 r q) = lin x g b w r (colX q) := (partX_at _ r q).trans (prod_at x g b w r _)
theorem partU_lin (q : Fin 1024) : partU (all (normAll x g b) w) (ix2 r q) = lin x g b w r (colU q) := (partU_at _ r q).trans (prod_at x g b w r _)
theorem partT_step (q : Fin 128) : partT (all (normAll x g b) w) (ix2 r q) = step x g b w r q := by
  refine (partT_at _ r q).trans ?_
  unfold step
  split
  · exact prod_at x g b w r _
  · rfl
end Parts

end Cert.Inproj

end
-- ==== Proof.Inproj.Claim.lean ====
/- The claims about the input projection's kernel. -/
module

public import proofs.«01_k».proof.Defs
public import proofs.«01_k».proof.Proof.Inproj.Final
public import proofs.«01_k».proof.Proof.Inproj.RefAt
public import Idealize.ShloMosaic.Adequacy
public import Idealize.ShloMosaic.Init

@[expose] public section

set_option maxRecDepth 16384

noncomputable section

namespace Cert.Inproj

open Idealize.ShloMosaic Idealize.ShloMosaic.TcCoe Idealize.ShloMosaic.Tactic Idealize.SL.Sem

theorem reference_frame : Cert.quiescent_Reference6Ideal := by
  intro m g _
  exact (θ_run _ _ _).mono (fun r h => ⟨fun c => (h c).2.2.2.2.2, sem_eq_zero_of_no_sems (by decide) r.2⟩) (Cert.Reference6Ideal.Value.run m g)

section Args
variable (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (a0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (a1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (a2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2))
    (a3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3))
include a0 a1 a2 a3

theorem res0_at : (Cert.Norm.normAll (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) : (⟨2, ![65536, 1024]⟩ : Shape).Idx → EReal) = arr7 m c := by
  funext i
  refine (congrArg _ (ix2_eta i).symm).trans ((Cert.Norm.normAll_at _ _ _ (i 0) (i 1)).trans ?_)
  rw [a0, a1, a2]
  rfl

theorem res1_at : (partZ (all (Cert.Norm.normAll (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) (m' ((c.tc : Thread Cert.Reference6Ideal.nD Cert.Reference6Ideal.τ).loc Cert.Reference6Ideal.main_arg3))) : (⟨2, ![65536, 2048]⟩ : Shape).Idx → EReal) = arr8 m c := by
  funext i
  refine (congrArg _ (ix2_eta i).symm).trans ((partZ_lin _ _ _ _ (i 0) (i 1)).trans ?_)
  rw [a0, a1, a2, a3]
  rfl

theorem res2_at : (partX (all (Cert.Norm.normAll (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) (m' ((c.tc : Thread Cert.Reference6Ideal.nD Cert.Reference6Ideal.τ).loc Cert.Reference6Ideal.main_arg3))) : (⟨2, ![65536, 3072]⟩ : Shape).Idx → EReal) = arr9 m c := by
  funext i
  refine (congrArg _ (ix2_eta i).symm).trans ((partX_lin _ _ _ _ (i 0) (i 1)).trans ?_)
  rw [a0, a1, a2, a3]
  rfl

theorem res3_at : (partT (all (Cert.Norm.normAll (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) (m' ((c.tc : Thread Cert.Reference6Ideal.nD Cert.Reference6Ideal.τ).loc Cert.Reference6Ideal.main_arg3))) : (⟨2, ![65536, 128]⟩ : Shape).Idx → EReal) = arr10 m c := by
  funext i
  refine (congrArg _ (ix2_eta i).symm).trans ((partT_step _ _ _ _ (i 0) (i 1)).trans ?_)
  rw [a0, a1, a2, a3]
  rfl

theorem res4_at : (partU (all (Cert.Norm.normAll (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) (m' ((c.tc : Thread Cert.Reference6Ideal.nD Cert.Reference6Ideal.τ).loc Cert.Reference6Ideal.main_arg3))) : (⟨2, ![65536, 1024]⟩ : Shape).Idx → EReal) = arr11 m c := by
  funext i
  refine (congrArg _ (ix2_eta i).symm).trans ((partU_lin _ _ _ _ (i 0) (i 1)).trans ?_)
  rw [a0, a1, a2, a3]
  rfl
end Args

theorem algebraic : Cert.algebraic_Kernel6Ideal_Reference6Ideal := by
  intro m g m' g' _ ha
  refine ⟨fun c => (Cert.Kernel6Ideal.Gen.dats m 0 c).arrAt 7 Cert.Kernel6Ideal.cfg0.N, fun c => (Cert.Kernel6Ideal.Gen.dats m 0 c).arrAt 8 Cert.Kernel6Ideal.cfg0.N, fun c => (Cert.Kernel6Ideal.Gen.dats m 0 c).arrAt 9 Cert.Kernel6Ideal.cfg0.N, fun c => (Cert.Kernel6Ideal.Gen.dats m 0 c).arrAt 10 Cert.Kernel6Ideal.cfg0.N, fun c => (Cert.Kernel6Ideal.Gen.dats m 0 c).arrAt 11 Cert.Kernel6Ideal.cfg0.N, ?_, ?_⟩
  · refine (θ_run _ _ _).mono (fun r h c => ?_) (θ_run_and (Cert.Kernel6Ideal.Gen.run_main m g) (Cert.Kernel6Ideal.Gen.unchanged m g))
    exact ⟨(h.1 c).1 7, (h.1 c).1 8, (h.1 c).1 9, (h.1 c).1 10, (h.1 c).1 11, h.2 c⟩
  · refine (θ_run _ _ _).mono (fun r h c => ?_) (Cert.Reference6Ideal.Value.run m' g')
    obtain ⟨a0, a1, a2, a3⟩ := ha c
    refine ⟨(h c).1.trans ?_, (h c).2.1.trans ?_, (h c).2.2.1.trans ?_, (h c).2.2.2.1.trans ?_, (h c).2.2.2.2.1.trans ?_, (h c).2.2.2.2.2⟩
    · refine Eq.trans ?_ ((res0_at m m' c a0 a1 a2 a3).trans (arr7_at m c).symm)
      rfl
    · refine Eq.trans ?_ ((res1_at m m' c a0 a1 a2 a3).trans (arr8_at m c).symm)
      rfl
    · refine Eq.trans ?_ ((res2_at m m' c a0 a1 a2 a3).trans (arr9_at m c).symm)
      rfl
    · refine Eq.trans ?_ ((res3_at m m' c a0 a1 a2 a3).trans (arr10_at m c).symm)
      rfl
    · refine Eq.trans ?_ ((res4_at m m' c a0 a1 a2 a3).trans (arr11_at m c).symm)
      rfl

end Cert.Inproj

end
-- ==== Proof.lean ====
module

public import proofs.«01_k».proof.Defs
public import proofs.«01_k».proof.Proof.Gen.Kernel
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_experts_in_range
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Moe.Claim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Combine.Claim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Proj.Claim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Ffn.Claim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Inproj.Claim
public import Idealize.ShloMosaic.Adequacy
public import Idealize.ShloMosaic.Init

@[expose] public section

noncomputable section

namespace Cert.Proof

open Idealize.ShloMosaic Idealize.ShloMosaic.TcCoe Idealize.SL.Sem

/-- An extended real whose absolute value is below `+∞` is a real. -/
theorem real_of_abs_lt (x T : EReal) (hT : T = ⊤) (h : Ideal.cmp .olt (max x (-x)) T = 1#1) : ∃ r : ℝ, x = r := by
  subst hT
  have hl : max x (-x) < ⊤ := by
    by_contra hn
    simp [Ideal.cmp, hn] at h
  rw [max_lt_iff] at hl
  refine ⟨x.toReal, (EReal.coe_toReal hl.1.ne fun hb => ?_).symm⟩
  simp [hb] at hl

theorem pos_inf_f32 : Ideal.ofBits .f32 0x7F800000#32 = ⊤ := by simp [Ideal.ofBits, Ideal.ieee]
theorem pos_inf_bf16 : Ideal.ofBits .bf16 0x7F80#16 = ⊤ := by simp [Ideal.ofBits, Ideal.ieee]

instance pre_facts : Cert.Pre_finite.Facts := by constructor <;> decide

section Kernel
open Cert.KernelIdeal Cert.KernelIdeal.Gen Cert.Natten

theorem value (m : (ℓ : Loc nD τ sig) → Buf (Elt Ideal) ℓ) (g : Dev nD → PrngReg) (hp : Cert.Pre_KernelIdeal_finite m) (c : Dev nD) :
    W5 m g c (Proc.devRef .tc main_v17)
      = (ref (m ((c : Thread nD τ).loc main_arg0)) (m ((c : Thread nD τ).loc main_arg1)) (m ((c : Thread nD τ).loc main_arg2)) (m ((c : Thread nD τ).loc main_arg3)) : SX.Idx → EReal) :=
  result_eq m g c
    (fun x => real_of_abs_lt _ _ pos_inf_bf16 (congrFun (hp c).1 x))
    (fun x => real_of_abs_lt _ _ pos_inf_bf16 (congrFun (hp c).2.1 x))
    (fun x => real_of_abs_lt _ _ pos_inf_f32 (congrFun (hp c).2.2 x))
end Kernel

theorem reference_frame : Cert.quiescent_ReferenceIdeal := by
  intro m g _
  exact (θ_run _ _ _).mono (fun r h => ⟨fun c => (h c).2, sem_eq_zero_of_no_sems (by decide) r.2⟩) (Cert.ReferenceIdeal.Value.run m g)

theorem algebraic : Cert.algebraic_KernelIdeal_ReferenceIdeal_pre_finite := by
  intro m g m' g' hp ha
  refine ⟨fun c => Cert.KernelIdeal.Gen.W5 m g c (Proc.devRef .tc Cert.KernelIdeal.main_v17), ?_, ?_⟩
  · refine (θ_run _ _ _).mono (fun r h c => ?_) (Cert.Natten.value_run m g)
    exact ⟨h c _ (Cert.KernelIdeal.Gen.mem_uc Cert.KernelIdeal.main_v17 (by decide)),
      (h c _ (Cert.KernelIdeal.Gen.mem_uc Cert.KernelIdeal.main_arg0 (by decide))).trans (Cert.KernelIdeal.Gen.W5_main_arg0 m g c),
      (h c _ (Cert.KernelIdeal.Gen.mem_uc Cert.KernelIdeal.main_arg1 (by decide))).trans (Cert.KernelIdeal.Gen.W5_main_arg1 m g c),
      (h c _ (Cert.KernelIdeal.Gen.mem_uc Cert.KernelIdeal.main_arg2 (by decide))).trans (Cert.KernelIdeal.Gen.W5_main_arg2 m g c),
      (h c _ (Cert.KernelIdeal.Gen.mem_uc Cert.KernelIdeal.main_arg3 (by decide))).trans (Cert.KernelIdeal.Gen.W5_main_arg3 m g c)⟩
  · refine (θ_run _ _ _).mono (fun r h c => ?_) (Cert.ReferenceIdeal.Value.run m' g')
    obtain ⟨a0, a1, a2, a3⟩ := ha c
    refine ⟨(h c).1.trans ((Cert.Natten.res_eq m' c).trans ?_), (h c).2⟩
    rw [a0, a1, a2, a3]
    exact (value m g hp c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  pre_facts,
  Cert.Pre_experts_in_range.Gen.facts, Cert.Kernel2Ideal.Moe.mask_facts,
  fun m g _ => Cert.Kernel.Gen.frame m g,
  fun m g _ => Cert.KernelIdeal.Gen.frame m g,
  fun m g _ => Cert.KernelIdeal.Gen.frame m g,
  reference_frame,
  fun m g _ => reference_frame m g trivial,
  Cert.Kernel2Ideal.Moe.frame_bits,
  Cert.Kernel2Ideal.Moe.frame_ideal,
  Cert.Moe.reference_frame,
  fun m g _ => Cert.Moe.reference_frame m g trivial,
  fun m g _ => Cert.Kernel3.Gen.frame m g,
  fun m g _ => Cert.Kernel3Ideal.Gen.frame m g,
  Cert.Combine.reference_frame,
  fun m g _ => Cert.Kernel4.Gen.frame m g,
  fun m g _ => Cert.Kernel4Ideal.Gen.frame m g,
  Cert.Proj.reference_frame,
  fun m g _ => Cert.Kernel5.Gen.frame m g,
  fun m g _ => Cert.Kernel5Ideal.Gen.frame m g,
  Cert.Ffn.reference_frame,
  fun m g _ => Cert.Kernel6.Gen.frame m g,
  fun m g _ => Cert.Kernel6Ideal.Gen.frame m g,
  Cert.Inproj.reference_frame,
  IdealRules.named_const.statement Cert.KernelIdeal.κ "mask" .f32 0xF149F2CA#32 ⊥ rfl,
  algebraic,
  trivial,
  Cert.Moe.algebraic,
  trivial,
  Cert.Combine.algebraic,
  trivial,
  Cert.Proj.algebraic,
  trivial,
  Cert.Ffn.algebraic,
  trivial,
  Cert.Inproj.algebraic⟩

end Cert.Proof

end
